-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjLn (m : (ℓ : Loc Cert.ProjLn.nD Cert.ProjLn.τ Cert.ProjLn.sig) → Buf (Elt Bits) ℓ) : Prop :=
  True

def Pre_ProjLnIdeal (m : (ℓ : Loc Cert.ProjLnIdeal.nD Cert.ProjLnIdeal.τ Cert.ProjLnIdeal.sig) → Buf (Elt Ideal) ℓ) : Prop :=
  True

def Pre_ProjLnReferenceIdeal (m : (ℓ : Loc Cert.ProjLnReferenceIdeal.nD Cert.ProjLnReferenceIdeal.τ Cert.ProjLnReferenceIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjReferenceIdeal (m : (ℓ : Loc Cert.RetProjReferenceIdeal.nD Cert.RetProjReferenceIdeal.τ Cert.RetProjReferenceIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjReferenceIdeal (m : (ℓ : Loc Cert.NsaProjReferenceIdeal.nD Cert.NsaProjReferenceIdeal.τ Cert.NsaProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4)
      ∧ r.2.mem ((c.tc : Thread Cert.FfnFirstReferenceIdeal.nD Cert.FfnFirstReferenceIdeal.τ).loc Cert.FfnFirstReferenceIdeal.main_arg5) = m ((c.tc : Thread Cert.FfnFirstReferenceIdeal.nD Cert.FfnFirstReferenceIdeal.τ).loc Cert.FfnFirstReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_ProjLn [hProjLn : Cert.ProjLn.Facts] : Prop :=
  ∀ (m : (ℓ : Loc Cert.ProjLn.nD Cert.ProjLn.τ Cert.ProjLn.sig) → Buf (Elt Bits) ℓ) (g : Dev Cert.ProjLn.nD → PrngReg), Pre_ProjLn m →
    θ_run (Cert.ProjLn.defs (F := Bits)) (onTc (τ := Cert.ProjLn.τ) (Cert.ProjLn.main (F := Bits))) ⟨m, fun _ => 0, g⟩ (fun r => (∀ c : Dev Cert.ProjLn.nD,
      r.2.mem ((c.tc : Thread Cert.ProjLn.nD Cert.ProjLn.τ).loc Cert.ProjLn.main_arg0) = m ((c.tc : Thread Cert.ProjLn.nD Cert.ProjLn.τ).loc Cert.ProjLn.main_arg0)
      ∧ r.2.mem ((c.tc : Thread Cert.ProjLn.nD Cert.ProjLn.τ).loc Cert.ProjLn.main_arg1) = m ((c.tc : Thread Cert.ProjLn.nD Cert.ProjLn.τ).loc Cert.ProjLn.main_arg1)
      ∧ r.2.mem ((c.tc : Thread Cert.ProjLn.nD Cert.ProjLn.τ).loc Cert.ProjLn.main_arg2) = m ((c.tc : Thread Cert.ProjLn.nD Cert.ProjLn.τ).loc Cert.ProjLn.main_arg2)
      ∧ r.2.mem ((c.tc : Thread Cert.ProjLn.nD Cert.ProjLn.τ).loc Cert.ProjLn.main_arg3) = m ((c.tc : Thread Cert.ProjLn.nD Cert.ProjLn.τ).loc Cert.ProjLn.main_arg3)
      ∧ r.2.mem ((c.tc : Thread Cert.ProjLn.nD Cert.ProjLn.τ).loc Cert.ProjLn.main_arg4) = m ((c.tc : Thread Cert.ProjLn.nD Cert.ProjLn.τ).loc Cert.ProjLn.main_arg4))
      ∧ r.2.sem = fun _ => 0)

def quiescent_ProjLnIdeal [hProjLnIdeal : Cert.ProjLnIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg), Pre_ProjLnIdeal m →
    θ_run (Cert.ProjLnIdeal.defs (F := Ideal)) (onTc (τ := Cert.ProjLnIdeal.τ) (Cert.ProjLnIdeal.main (F := Ideal))) ⟨m, fun _ => 0, g⟩ (fun r => (∀ c : Dev Cert.ProjLnIdeal.nD,
      r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
      ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
      ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
      ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
      ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ r.2.sem = fun _ => 0)

def quiescent_ProjLnReferenceIdeal [hProjLnReferenceIdeal : Cert.ProjLnReferenceIdeal.Facts] : Prop :=
  ∀ (m : (ℓ : Loc Cert.ProjLnReferenceIdeal.nD Cert.ProjLnReferenceIdeal.τ Cert.ProjLnReferenceIdeal.sig) → Buf (Elt Ideal) ℓ) (g : Dev Cert.ProjLnReferenceIdeal.nD → PrngReg), Pre_ProjLnReferenceIdeal m →
    θ_run (Cert.ProjLnReferenceIdeal.defs (F := Ideal)) (onTc (τ := Cert.ProjLnReferenceIdeal.τ) (Cert.ProjLnReferenceIdeal.main (F := Ideal))) ⟨m, fun _ => 0, g⟩ (fun r => (∀ c : Dev Cert.ProjLnReferenceIdeal.nD,
      r.2.mem ((c.tc : Thread Cert.ProjLnReferenceIdeal.nD Cert.ProjLnReferenceIdeal.τ).loc Cert.ProjLnReferenceIdeal.main_arg0) = m ((c.tc : Thread Cert.ProjLnReferenceIdeal.nD Cert.ProjLnReferenceIdeal.τ).loc Cert.ProjLnReferenceIdeal.main_arg0)
      ∧ r.2.mem ((c.tc : Thread Cert.ProjLnReferenceIdeal.nD Cert.ProjLnReferenceIdeal.τ).loc Cert.ProjLnReferenceIdeal.main_arg1) = m ((c.tc : Thread Cert.ProjLnReferenceIdeal.nD Cert.ProjLnReferenceIdeal.τ).loc Cert.ProjLnReferenceIdeal.main_arg1)
      ∧ r.2.mem ((c.tc : Thread Cert.ProjLnReferenceIdeal.nD Cert.ProjLnReferenceIdeal.τ).loc Cert.ProjLnReferenceIdeal.main_arg2) = m ((c.tc : Thread Cert.ProjLnReferenceIdeal.nD Cert.ProjLnReferenceIdeal.τ).loc Cert.ProjLnReferenceIdeal.main_arg2)
      ∧ r.2.mem ((c.tc : Thread Cert.ProjLnReferenceIdeal.nD Cert.ProjLnReferenceIdeal.τ).loc Cert.ProjLnReferenceIdeal.main_arg3) = m ((c.tc : Thread Cert.ProjLnReferenceIdeal.nD Cert.ProjLnReferenceIdeal.τ).loc Cert.ProjLnReferenceIdeal.main_arg3)
      ∧ r.2.mem ((c.tc : Thread Cert.ProjLnReferenceIdeal.nD Cert.ProjLnReferenceIdeal.τ).loc Cert.ProjLnReferenceIdeal.main_arg4) = m ((c.tc : Thread Cert.ProjLnReferenceIdeal.nD Cert.ProjLnReferenceIdeal.τ).loc Cert.ProjLnReferenceIdeal.main_arg4))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ r.2.sem = fun _ => 0)

def quiescent_RetProjReferenceIdeal [hRetProjReferenceIdeal : Cert.RetProjReferenceIdeal.Facts] : Prop :=
  ∀ (m : (ℓ : Loc Cert.RetProjReferenceIdeal.nD Cert.RetProjReferenceIdeal.τ Cert.RetProjReferenceIdeal.sig) → Buf (Elt Ideal) ℓ) (g : Dev Cert.RetProjReferenceIdeal.nD → PrngReg), Pre_RetProjReferenceIdeal m →
    θ_run (Cert.RetProjReferenceIdeal.defs (F := Ideal)) (onTc (τ := Cert.RetProjReferenceIdeal.τ) (Cert.RetProjReferenceIdeal.main (F := Ideal))) ⟨m, fun _ => 0, g⟩ (fun r => (∀ c : Dev Cert.RetProjReferenceIdeal.nD,
      r.2.mem ((c.tc : Thread Cert.RetProjReferenceIdeal.nD Cert.RetProjReferenceIdeal.τ).loc Cert.RetProjReferenceIdeal.main_arg0) = m ((c.tc : Thread Cert.RetProjReferenceIdeal.nD Cert.RetProjReferenceIdeal.τ).loc Cert.RetProjReferenceIdeal.main_arg0)
      ∧ r.2.mem ((c.tc : Thread Cert.RetProjReferenceIdeal.nD Cert.RetProjReferenceIdeal.τ).loc Cert.RetProjReferenceIdeal.main_arg1) = m ((c.tc : Thread Cert.RetProjReferenceIdeal.nD Cert.RetProjReferenceIdeal.τ).loc Cert.RetProjReferenceIdeal.main_arg1))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1)
      ∧ r.2.mem ((c.tc : Thread Cert.NsaProj.nD Cert.NsaProj.τ).loc Cert.NsaProj.main_arg2) = m ((c.tc : Thread Cert.NsaProj.nD Cert.NsaProj.τ).loc Cert.NsaProj.main_arg2))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
      ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ r.2.sem = fun _ => 0)

def quiescent_NsaProjReferenceIdeal [hNsaProjReferenceIdeal : Cert.NsaProjReferenceIdeal.Facts] : Prop :=
  ∀ (m : (ℓ : Loc Cert.NsaProjReferenceIdeal.nD Cert.NsaProjReferenceIdeal.τ Cert.NsaProjReferenceIdeal.sig) → Buf (Elt Ideal) ℓ) (g : Dev Cert.NsaProjReferenceIdeal.nD → PrngReg), Pre_NsaProjReferenceIdeal m →
    θ_run (Cert.NsaProjReferenceIdeal.defs (F := Ideal)) (onTc (τ := Cert.NsaProjReferenceIdeal.τ) (Cert.NsaProjReferenceIdeal.main (F := Ideal))) ⟨m, fun _ => 0, g⟩ (fun r => (∀ c : Dev Cert.NsaProjReferenceIdeal.nD,
      r.2.mem ((c.tc : Thread Cert.NsaProjReferenceIdeal.nD Cert.NsaProjReferenceIdeal.τ).loc Cert.NsaProjReferenceIdeal.main_arg0) = m ((c.tc : Thread Cert.NsaProjReferenceIdeal.nD Cert.NsaProjReferenceIdeal.τ).loc Cert.NsaProjReferenceIdeal.main_arg0)
      ∧ r.2.mem ((c.tc : Thread Cert.NsaProjReferenceIdeal.nD Cert.NsaProjReferenceIdeal.τ).loc Cert.NsaProjReferenceIdeal.main_arg1) = m ((c.tc : Thread Cert.NsaProjReferenceIdeal.nD Cert.NsaProjReferenceIdeal.τ).loc Cert.NsaProjReferenceIdeal.main_arg1)
      ∧ r.2.mem ((c.tc : Thread Cert.NsaProjReferenceIdeal.nD Cert.NsaProjReferenceIdeal.τ).loc Cert.NsaProjReferenceIdeal.main_arg2) = m ((c.tc : Thread Cert.NsaProjReferenceIdeal.nD Cert.NsaProjReferenceIdeal.τ).loc Cert.NsaProjReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)
      ∧ m' ((c.tc : Thread Cert.FfnFirstReferenceIdeal.nD Cert.FfnFirstReferenceIdeal.τ).loc Cert.FfnFirstReferenceIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v6_0)) (v1 : (c : Dev Cert.FfnFirstIdeal.nD) → Buf (Elt Ideal) ((c.tc : Thread Cert.FfnFirstIdeal.nD Cert.FfnFirstIdeal.τ).loc Cert.FfnFirstIdeal.main_v6_1)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v6_0) = v0 c
          ∧ r.2.mem ((c.tc : Thread Cert.FfnFirstIdeal.nD Cert.FfnFirstIdeal.τ).loc Cert.FfnFirstIdeal.main_v6_1) = v1 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v34) = v0 c
          ∧ r.2.mem ((c.tc : Thread Cert.FfnFirstReferenceIdeal.nD Cert.FfnFirstReferenceIdeal.τ).loc Cert.FfnFirstReferenceIdeal.main_v35) = v1 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4)
          ∧ r.2.mem ((c.tc : Thread Cert.FfnFirstReferenceIdeal.nD Cert.FfnFirstReferenceIdeal.τ).loc Cert.FfnFirstReferenceIdeal.main_arg5) = m' ((c.tc : Thread Cert.FfnFirstReferenceIdeal.nD Cert.FfnFirstReferenceIdeal.τ).loc Cert.FfnFirstReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v14) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_ProjLn_ProjLnIdeal : Prop :=
  True

def algebraic_ProjLnIdeal_ProjLnReferenceIdeal [hProjLnIdeal : Cert.ProjLnIdeal.Facts] [hProjLnReferenceIdeal : Cert.ProjLnReferenceIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg)
    (m' : (ℓ : Loc Cert.ProjLnReferenceIdeal.nD Cert.ProjLnReferenceIdeal.τ Cert.ProjLnReferenceIdeal.sig) → Buf (Elt Ideal) ℓ) (g' : Dev Cert.ProjLnReferenceIdeal.nD → PrngReg), Pre_ProjLnIdeal m →
    (∀ c : Dev Cert.ProjLnIdeal.nD,
      m' ((c.tc : Thread Cert.ProjLnReferenceIdeal.nD Cert.ProjLnReferenceIdeal.τ).loc Cert.ProjLnReferenceIdeal.main_arg0) = m ((c.tc : Thread Cert.ProjLnIdeal.nD Cert.ProjLnIdeal.τ).loc Cert.ProjLnIdeal.main_arg0)
      ∧ m' ((c.tc : Thread Cert.ProjLnReferenceIdeal.nD Cert.ProjLnReferenceIdeal.τ).loc Cert.ProjLnReferenceIdeal.main_arg1) = m ((c.tc : Thread Cert.ProjLnIdeal.nD Cert.ProjLnIdeal.τ).loc Cert.ProjLnIdeal.main_arg1)
      ∧ m' ((c.tc : Thread Cert.ProjLnReferenceIdeal.nD Cert.ProjLnReferenceIdeal.τ).loc Cert.ProjLnReferenceIdeal.main_arg2) = m ((c.tc : Thread Cert.ProjLnIdeal.nD Cert.ProjLnIdeal.τ).loc Cert.ProjLnIdeal.main_arg2)
      ∧ m' ((c.tc : Thread Cert.ProjLnReferenceIdeal.nD Cert.ProjLnReferenceIdeal.τ).loc Cert.ProjLnReferenceIdeal.main_arg3) = m ((c.tc : Thread Cert.ProjLnIdeal.nD Cert.ProjLnIdeal.τ).loc Cert.ProjLnIdeal.main_arg3)
      ∧ m' ((c.tc : Thread Cert.ProjLnReferenceIdeal.nD Cert.ProjLnReferenceIdeal.τ).loc Cert.ProjLnReferenceIdeal.main_arg4) = m ((c.tc : Thread Cert.ProjLnIdeal.nD Cert.ProjLnIdeal.τ).loc Cert.ProjLnIdeal.main_arg4)) →
    ∃ (v0 : (c : Dev Cert.ProjLnIdeal.nD) → Buf (Elt Ideal) ((c.tc : Thread Cert.ProjLnIdeal.nD Cert.ProjLnIdeal.τ).loc Cert.ProjLnIdeal.main_v4)),
      θ_run (Cert.ProjLnIdeal.defs (F := Ideal)) (onTc (τ := Cert.ProjLnIdeal.τ) (Cert.ProjLnIdeal.main (F := Ideal))) ⟨m, fun _ => 0, g⟩ (fun r => ∀ c : Dev Cert.ProjLnIdeal.nD,
          r.2.mem ((c.tc : Thread Cert.ProjLnIdeal.nD Cert.ProjLnIdeal.τ).loc Cert.ProjLnIdeal.main_v4) = v0 c
          ∧ r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
          ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
          ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
          ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
          ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ θ_run (Cert.ProjLnReferenceIdeal.defs (F := Ideal)) (onTc (τ := Cert.ProjLnReferenceIdeal.τ) (Cert.ProjLnReferenceIdeal.main (F := Ideal))) ⟨m', fun _ => 0, g'⟩ (fun r => ∀ c : Dev Cert.ProjLnReferenceIdeal.nD,
          r.2.mem ((c.tc : Thread Cert.ProjLnReferenceIdeal.nD Cert.ProjLnReferenceIdeal.τ).loc Cert.ProjLnReferenceIdeal.main_v27) = v0 c
          ∧ r.2.mem ((c.tc : Thread Cert.ProjLnReferenceIdeal.nD Cert.ProjLnReferenceIdeal.τ).loc Cert.ProjLnReferenceIdeal.main_arg0) = m' ((c.tc : Thread Cert.ProjLnReferenceIdeal.nD Cert.ProjLnReferenceIdeal.τ).loc Cert.ProjLnReferenceIdeal.main_arg0)
          ∧ r.2.mem ((c.tc : Thread Cert.ProjLnReferenceIdeal.nD Cert.ProjLnReferenceIdeal.τ).loc Cert.ProjLnReferenceIdeal.main_arg1) = m' ((c.tc : Thread Cert.ProjLnReferenceIdeal.nD Cert.ProjLnReferenceIdeal.τ).loc Cert.ProjLnReferenceIdeal.main_arg1)
          ∧ r.2.mem ((c.tc : Thread Cert.ProjLnReferenceIdeal.nD Cert.ProjLnReferenceIdeal.τ).loc Cert.ProjLnReferenceIdeal.main_arg2) = m' ((c.tc : Thread Cert.ProjLnReferenceIdeal.nD Cert.ProjLnReferenceIdeal.τ).loc Cert.ProjLnReferenceIdeal.main_arg2)
          ∧ r.2.mem ((c.tc : Thread Cert.ProjLnReferenceIdeal.nD Cert.ProjLnReferenceIdeal.τ).loc Cert.ProjLnReferenceIdeal.main_arg3) = m' ((c.tc : Thread Cert.ProjLnReferenceIdeal.nD Cert.ProjLnReferenceIdeal.τ).loc Cert.ProjLnReferenceIdeal.main_arg3)
          ∧ r.2.mem ((c.tc : Thread Cert.ProjLnReferenceIdeal.nD Cert.ProjLnReferenceIdeal.τ).loc Cert.ProjLnReferenceIdeal.main_arg4) = m' ((c.tc : Thread Cert.ProjLnReferenceIdeal.nD Cert.ProjLnReferenceIdeal.τ).loc Cert.ProjLnReferenceIdeal.main_arg4))

def preserves_RetProj_RetProjIdeal : Prop :=
  True

def algebraic_RetProjIdeal_RetProjReferenceIdeal [hRetProjIdeal : Cert.RetProjIdeal.Facts] [hRetProjReferenceIdeal : Cert.RetProjReferenceIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjReferenceIdeal.nD Cert.RetProjReferenceIdeal.τ Cert.RetProjReferenceIdeal.sig) → Buf (Elt Ideal) ℓ) (g' : Dev Cert.RetProjReferenceIdeal.nD → PrngReg), Pre_RetProjIdeal m →
    (∀ c : Dev Cert.RetProjIdeal.nD,
      m' ((c.tc : Thread Cert.RetProjReferenceIdeal.nD Cert.RetProjReferenceIdeal.τ).loc Cert.RetProjReferenceIdeal.main_arg0) = m ((c.tc : Thread Cert.RetProjIdeal.nD Cert.RetProjIdeal.τ).loc Cert.RetProjIdeal.main_arg0)
      ∧ m' ((c.tc : Thread Cert.RetProjReferenceIdeal.nD Cert.RetProjReferenceIdeal.τ).loc Cert.RetProjReferenceIdeal.main_arg1) = m ((c.tc : Thread Cert.RetProjIdeal.nD Cert.RetProjIdeal.τ).loc Cert.RetProjIdeal.main_arg1)) →
    ∃ (v0 : (c : Dev Cert.RetProjIdeal.nD) → Buf (Elt Ideal) ((c.tc : Thread Cert.RetProjIdeal.nD Cert.RetProjIdeal.τ).loc Cert.RetProjIdeal.main_v3)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v3) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ θ_run (Cert.RetProjReferenceIdeal.defs (F := Ideal)) (onTc (τ := Cert.RetProjReferenceIdeal.τ) (Cert.RetProjReferenceIdeal.main (F := Ideal))) ⟨m', fun _ => 0, g'⟩ (fun r => ∀ c : Dev Cert.RetProjReferenceIdeal.nD,
          r.2.mem ((c.tc : Thread Cert.RetProjReferenceIdeal.nD Cert.RetProjReferenceIdeal.τ).loc Cert.RetProjReferenceIdeal.main_v2) = v0 c
          ∧ r.2.mem ((c.tc : Thread Cert.RetProjReferenceIdeal.nD Cert.RetProjReferenceIdeal.τ).loc Cert.RetProjReferenceIdeal.main_arg0) = m' ((c.tc : Thread Cert.RetProjReferenceIdeal.nD Cert.RetProjReferenceIdeal.τ).loc Cert.RetProjReferenceIdeal.main_arg0)
          ∧ r.2.mem ((c.tc : Thread Cert.RetProjReferenceIdeal.nD Cert.RetProjReferenceIdeal.τ).loc Cert.RetProjReferenceIdeal.main_arg1) = m' ((c.tc : Thread Cert.RetProjReferenceIdeal.nD Cert.RetProjReferenceIdeal.τ).loc Cert.RetProjReferenceIdeal.main_arg1))

def preserves_NsaProj_NsaProjIdeal : Prop :=
  True

def algebraic_NsaProjIdeal_NsaProjReferenceIdeal [hNsaProjIdeal : Cert.NsaProjIdeal.Facts] [hNsaProjReferenceIdeal : Cert.NsaProjReferenceIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjReferenceIdeal.nD Cert.NsaProjReferenceIdeal.τ Cert.NsaProjReferenceIdeal.sig) → Buf (Elt Ideal) ℓ) (g' : Dev Cert.NsaProjReferenceIdeal.nD → PrngReg), Pre_NsaProjIdeal m →
    (∀ c : Dev Cert.NsaProjIdeal.nD,
      m' ((c.tc : Thread Cert.NsaProjReferenceIdeal.nD Cert.NsaProjReferenceIdeal.τ).loc Cert.NsaProjReferenceIdeal.main_arg0) = m ((c.tc : Thread Cert.NsaProjIdeal.nD Cert.NsaProjIdeal.τ).loc Cert.NsaProjIdeal.main_arg0)
      ∧ m' ((c.tc : Thread Cert.NsaProjReferenceIdeal.nD Cert.NsaProjReferenceIdeal.τ).loc Cert.NsaProjReferenceIdeal.main_arg1) = m ((c.tc : Thread Cert.NsaProjIdeal.nD Cert.NsaProjIdeal.τ).loc Cert.NsaProjIdeal.main_arg1)
      ∧ m' ((c.tc : Thread Cert.NsaProjReferenceIdeal.nD Cert.NsaProjReferenceIdeal.τ).loc Cert.NsaProjReferenceIdeal.main_arg2) = m ((c.tc : Thread Cert.NsaProjIdeal.nD Cert.NsaProjIdeal.τ).loc Cert.NsaProjIdeal.main_arg2)) →
    ∃ (v0 : (c : Dev Cert.NsaProjIdeal.nD) → Buf (Elt Ideal) ((c.tc : Thread Cert.NsaProjIdeal.nD Cert.NsaProjIdeal.τ).loc Cert.NsaProjIdeal.main_v11_0)) (v1 : (c : Dev Cert.NsaProjIdeal.nD) → Buf (Elt Ideal) ((c.tc : Thread Cert.NsaProjIdeal.nD Cert.NsaProjIdeal.τ).loc Cert.NsaProjIdeal.main_v11_1)) (v2 : (c : Dev Cert.NsaProjIdeal.nD) → Buf (Elt Ideal) ((c.tc : Thread Cert.NsaProjIdeal.nD Cert.NsaProjIdeal.τ).loc Cert.NsaProjIdeal.main_v11_2)) (v3 : (c : Dev Cert.NsaProjIdeal.nD) → Buf (Elt Ideal) ((c.tc : Thread Cert.NsaProjIdeal.nD Cert.NsaProjIdeal.τ).loc Cert.NsaProjIdeal.main_v11_3)) (v4 : (c : Dev Cert.NsaProjIdeal.nD) → Buf (Elt Ideal) ((c.tc : Thread Cert.NsaProjIdeal.nD Cert.NsaProjIdeal.τ).loc Cert.NsaProjIdeal.main_v11_4)) (v5 : (c : Dev Cert.NsaProjIdeal.nD) → Buf (Elt Ideal) ((c.tc : Thread Cert.NsaProjIdeal.nD Cert.NsaProjIdeal.τ).loc Cert.NsaProjIdeal.main_v11_5)) (v6 : (c : Dev Cert.NsaProjIdeal.nD) → Buf (Elt Ideal) ((c.tc : Thread Cert.NsaProjIdeal.nD Cert.NsaProjIdeal.τ).loc Cert.NsaProjIdeal.main_v11_6)) (v7 : (c : Dev Cert.NsaProjIdeal.nD) → Buf (Elt Ideal) ((c.tc : Thread Cert.NsaProjIdeal.nD Cert.NsaProjIdeal.τ).loc Cert.NsaProjIdeal.main_v11_7)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v11_0) = v0 c
          ∧ r.2.mem ((c.tc : Thread Cert.NsaProjIdeal.nD Cert.NsaProjIdeal.τ).loc Cert.NsaProjIdeal.main_v11_1) = v1 c
          ∧ r.2.mem ((c.tc : Thread Cert.NsaProjIdeal.nD Cert.NsaProjIdeal.τ).loc Cert.NsaProjIdeal.main_v11_2) = v2 c
          ∧ r.2.mem ((c.tc : Thread Cert.NsaProjIdeal.nD Cert.NsaProjIdeal.τ).loc Cert.NsaProjIdeal.main_v11_3) = v3 c
          ∧ r.2.mem ((c.tc : Thread Cert.NsaProjIdeal.nD Cert.NsaProjIdeal.τ).loc Cert.NsaProjIdeal.main_v11_4) = v4 c
          ∧ r.2.mem ((c.tc : Thread Cert.NsaProjIdeal.nD Cert.NsaProjIdeal.τ).loc Cert.NsaProjIdeal.main_v11_5) = v5 c
          ∧ r.2.mem ((c.tc : Thread Cert.NsaProjIdeal.nD Cert.NsaProjIdeal.τ).loc Cert.NsaProjIdeal.main_v11_6) = v6 c
          ∧ r.2.mem ((c.tc : Thread Cert.NsaProjIdeal.nD Cert.NsaProjIdeal.τ).loc Cert.NsaProjIdeal.main_v11_7) = v7 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
          ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ θ_run (Cert.NsaProjReferenceIdeal.defs (F := Ideal)) (onTc (τ := Cert.NsaProjReferenceIdeal.τ) (Cert.NsaProjReferenceIdeal.main (F := Ideal))) ⟨m', fun _ => 0, g'⟩ (fun r => ∀ c : Dev Cert.NsaProjReferenceIdeal.nD,
          r.2.mem ((c.tc : Thread Cert.NsaProjReferenceIdeal.nD Cert.NsaProjReferenceIdeal.τ).loc Cert.NsaProjReferenceIdeal.main_v30) = v0 c
          ∧ r.2.mem ((c.tc : Thread Cert.NsaProjReferenceIdeal.nD Cert.NsaProjReferenceIdeal.τ).loc Cert.NsaProjReferenceIdeal.main_v32) = v1 c
          ∧ r.2.mem ((c.tc : Thread Cert.NsaProjReferenceIdeal.nD Cert.NsaProjReferenceIdeal.τ).loc Cert.NsaProjReferenceIdeal.main_v34) = v2 c
          ∧ r.2.mem ((c.tc : Thread Cert.NsaProjReferenceIdeal.nD Cert.NsaProjReferenceIdeal.τ).loc Cert.NsaProjReferenceIdeal.main_v37) = v3 c
          ∧ r.2.mem ((c.tc : Thread Cert.NsaProjReferenceIdeal.nD Cert.NsaProjReferenceIdeal.τ).loc Cert.NsaProjReferenceIdeal.main_v41) = v4 c
          ∧ r.2.mem ((c.tc : Thread Cert.NsaProjReferenceIdeal.nD Cert.NsaProjReferenceIdeal.τ).loc Cert.NsaProjReferenceIdeal.main_v43) = v5 c
          ∧ r.2.mem ((c.tc : Thread Cert.NsaProjReferenceIdeal.nD Cert.NsaProjReferenceIdeal.τ).loc Cert.NsaProjReferenceIdeal.main_v47) = v6 c
          ∧ r.2.mem ((c.tc : Thread Cert.NsaProjReferenceIdeal.nD Cert.NsaProjReferenceIdeal.τ).loc Cert.NsaProjReferenceIdeal.main_v54) = v7 c
          ∧ r.2.mem ((c.tc : Thread Cert.NsaProjReferenceIdeal.nD Cert.NsaProjReferenceIdeal.τ).loc Cert.NsaProjReferenceIdeal.main_arg0) = m' ((c.tc : Thread Cert.NsaProjReferenceIdeal.nD Cert.NsaProjReferenceIdeal.τ).loc Cert.NsaProjReferenceIdeal.main_arg0)
          ∧ r.2.mem ((c.tc : Thread Cert.NsaProjReferenceIdeal.nD Cert.NsaProjReferenceIdeal.τ).loc Cert.NsaProjReferenceIdeal.main_arg1) = m' ((c.tc : Thread Cert.NsaProjReferenceIdeal.nD Cert.NsaProjReferenceIdeal.τ).loc Cert.NsaProjReferenceIdeal.main_arg1)
          ∧ r.2.mem ((c.tc : Thread Cert.NsaProjReferenceIdeal.nD Cert.NsaProjReferenceIdeal.τ).loc Cert.NsaProjReferenceIdeal.main_arg2) = m' ((c.tc : Thread Cert.NsaProjReferenceIdeal.nD Cert.NsaProjReferenceIdeal.τ).loc Cert.NsaProjReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnFirst : Cert.FfnFirst.Facts) (hFfnFirstIdeal : Cert.FfnFirstIdeal.Facts) (hFfnFirstReferenceIdeal : Cert.FfnFirstReferenceIdeal.Facts) (hMerge : Cert.Merge.Facts) (hMergeIdeal : Cert.MergeIdeal.Facts) (hMergeReferenceIdeal : Cert.MergeReferenceIdeal.Facts) (hProjLn : Cert.ProjLn.Facts) (hProjLnIdeal : Cert.ProjLnIdeal.Facts) (hProjLnReferenceIdeal : Cert.ProjLnReferenceIdeal.Facts) (hRetProj : Cert.RetProj.Facts) (hRetProjIdeal : Cert.RetProjIdeal.Facts) (hRetProjReferenceIdeal : Cert.RetProjReferenceIdeal.Facts) (hNsaProj : Cert.NsaProj.Facts) (hNsaProjIdeal : Cert.NsaProjIdeal.Facts) (hNsaProjReferenceIdeal : Cert.NsaProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_ProjLn (hProjLn := hProjLn)
    ∧ quiescent_ProjLnIdeal (hProjLnIdeal := hProjLnIdeal)
    ∧ quiescent_ProjLnReferenceIdeal (hProjLnReferenceIdeal := hProjLnReferenceIdeal)
    ∧ quiescent_RetProj (hRetProj := hRetProj)
    ∧ quiescent_RetProjIdeal (hRetProjIdeal := hRetProjIdeal)
    ∧ quiescent_RetProjReferenceIdeal (hRetProjReferenceIdeal := hRetProjReferenceIdeal)
    ∧ quiescent_NsaProj (hNsaProj := hNsaProj)
    ∧ quiescent_NsaProjIdeal (hNsaProjIdeal := hNsaProjIdeal)
    ∧ quiescent_NsaProjReferenceIdeal (hNsaProjReferenceIdeal := hNsaProjReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_Merge_MergeIdeal
    ∧ algebraic_MergeIdeal_MergeReferenceIdeal (hMergeIdeal := hMergeIdeal) (hMergeReferenceIdeal := hMergeReferenceIdeal)
    ∧ preserves_ProjLn_ProjLnIdeal
    ∧ algebraic_ProjLnIdeal_ProjLnReferenceIdeal (hProjLnIdeal := hProjLnIdeal) (hProjLnReferenceIdeal := hProjLnReferenceIdeal)
    ∧ preserves_RetProj_RetProjIdeal
    ∧ algebraic_RetProjIdeal_RetProjReferenceIdeal (hRetProjIdeal := hRetProjIdeal) (hRetProjReferenceIdeal := hRetProjReferenceIdeal)
    ∧ preserves_NsaProj_NsaProjIdeal
    ∧ algebraic_NsaProjIdeal_NsaProjReferenceIdeal (hNsaProjIdeal := hNsaProjIdeal) (hNsaProjReferenceIdeal := hNsaProjReferenceIdeal)
-- ==== Kernel.lean ====
abbrev S2x16384x1024 : Shape := ⟨3, ![2, 16384, 1024]⟩
abbrev S1024 : Shape := ⟨1, ![1024]⟩
abbrev S2x16384x4096 : Shape := ⟨3, ![2, 16384, 4096]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x1x128 : Shape := ⟨3, ![8, 1, 128]⟩
abbrev S1x1024 : Shape := ⟨2, ![1, 1024]⟩
abbrev S1x1024x256 : Shape := ⟨3, ![1, 1024, 256]⟩
abbrev S1024x128 : Shape := ⟨2, ![1024, 128]⟩
abbrev S2x128x128 : Shape := ⟨3, ![2, 128, 128]⟩
abbrev S2x1x128 : Shape := ⟨3, ![2, 1, 128]⟩
abbrev S1x256 : Shape := ⟨2, ![1, 256]⟩
abbrev S1x1x128 : Shape := ⟨3, ![1, 1, 128]⟩

abbrev nBuf : Space → Nat
  | .hbm => 98
  | .vmem => 27
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S1024, .f32⟩
  | .hbm, ⟨5, _⟩ => ⟨S1024, .f32⟩
  | .hbm, ⟨6, _⟩ => ⟨S2x16384x4096, .f32⟩
  | .hbm, ⟨7, _⟩ => ⟨S2x16384x4096, .bf16⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S16384, .i32⟩
  | .hbm, ⟨23, _⟩ => ⟨S16384x1, .i32⟩
  | .hbm, ⟨24, _⟩ => ⟨S16384x1, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x128, .f32⟩
  | .hbm, ⟨32, _⟩ => ⟨S16384x64, .f32⟩
  | .hbm, ⟨33, _⟩ => ⟨S16384x128, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S128, .f32⟩
  | .hbm, ⟨45, _⟩ => ⟨S128x1, .f32⟩
  | .hbm, ⟨46, _⟩ => ⟨S1x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S_, .f32⟩
  | .hbm, ⟨51, _⟩ => ⟨S128x128, .f32⟩
  | .hbm, ⟨52, _⟩ => ⟨S128x128, .i1⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S8x1x1, .f32⟩
  | .hbm, ⟨58, _⟩ => ⟨S8x128x128, .f32⟩
  | .hbm, ⟨59, _⟩ => ⟨S8x128x128, .f32⟩
  | .hbm, ⟨60, _⟩ => ⟨S8x128x128, .f32⟩
  | .hbm, ⟨61, _⟩ => ⟨S8x128x128, .f32⟩
  | .hbm, ⟨62, _⟩ => ⟨S_, .f32⟩
  | .hbm, ⟨63, _⟩ => ⟨S_, .f32⟩
  | .hbm, ⟨64, _⟩ => ⟨S8x128x128, .i1⟩
  | .hbm, ⟨65, _⟩ => ⟨S8x128x128, .f32⟩
  | .hbm, ⟨66, _⟩ => ⟨S8x128x128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S8x1, .f32⟩
  | .hbm, ⟨72, _⟩ => ⟨S8x128, .f32⟩
  | .hbm, ⟨73, _⟩ => ⟨S8x128, .f32⟩
  | .hbm, ⟨74, _⟩ => ⟨S8x128, .f32⟩
  | .hbm, ⟨75, _⟩ => ⟨S8x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S8x1, .f32⟩
  | .hbm, ⟨81, _⟩ => ⟨S8x128, .f32⟩
  | .hbm, ⟨82, _⟩ => ⟨S8x128, .f32⟩
  | .hbm, ⟨83, _⟩ => ⟨S8x128, .f32⟩
  | .hbm, ⟨84, _⟩ => ⟨S8x128, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S8x128x1, .f32⟩
  | .hbm, ⟨90, _⟩ => ⟨S8x128x128, .f32⟩
  | .hbm, ⟨91, _⟩ => ⟨S8x128x1, .f32⟩
  | .hbm, ⟨92, _⟩ => ⟨S8x128x128, .f32⟩
  | .hbm, ⟨93, _⟩ => ⟨S8x1x1, .f32⟩
  | .hbm, ⟨94, _⟩ => ⟨S8x1x128, .f32⟩
  | .hbm, ⟨95, _⟩ => ⟨S1x1024, .f32⟩
  | .hbm, ⟨96, _⟩ => ⟨S1x1024, .f32⟩
  | .hbm, ⟨97, _⟩ => ⟨S2x16384x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S2x128x128, .f32⟩
  | .local _ .vmem, ⟨13, _⟩ => ⟨S2x128x128, .f32⟩
  | .local _ .vmem, ⟨14, _⟩ => ⟨S2x128x128, .f32⟩
  | .local _ .vmem, ⟨15, _⟩ => ⟨S2x128x128, .f32⟩
  | .local _ .vmem, ⟨16, _⟩ => ⟨S2x128x128, .f32⟩
  | .local _ .vmem, ⟨17, _⟩ => ⟨S2x128x128, .f32⟩
  | .local _ .vmem, ⟨18, _⟩ => ⟨S2x1x128, .f32⟩
  | .local _ .vmem, ⟨19, _⟩ => ⟨S2x1x128, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x1024x256, .bf16⟩
  | .local _ .vmem, ⟨25, _⟩ => ⟨S1x1024x256, .bf16⟩
  | .local _ .vmem, ⟨26, _⟩ => ⟨S2x128x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ReferenceIdeal.lean ====
abbrev S2x16384x1024 : Shape := ⟨3, ![2, 16384, 1024]⟩
abbrev S1024 : Shape := ⟨1, ![1024]⟩
abbrev S2x16384x8x128 : Shape := ⟨4, ![2, 16384, 8, 128]⟩
abbrev S16384 : Shape := ⟨1, ![16384]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x1x64 : Shape := ⟨3, ![16384, 1, 64]⟩
abbrev S2x16384x8x64 : Shape := ⟨4, ![2, 16384, 8, 64]⟩
abbrev S1x16384x1x64 : Shape := ⟨4, ![1, 16384, 1, 64]⟩
abbrev S8 : Shape := ⟨1, ![8]⟩
abbrev S2x128x128x8x128 : Shape := ⟨5, ![2, 128, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S2x128x8x128x128 : Shape := ⟨5, ![2, 128, 8, 128, 128]⟩
abbrev S1x1x8x128x128 : Shape := ⟨5, ![1, 1, 8, 128, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S2x8x128x128 : Shape := ⟨4, ![2, 8, 128, 128]⟩
abbrev S128x2x8x128x128 : Shape := ⟨5, ![128, 2, 8, 128, 128]⟩
abbrev S1x2x8x128x128 : Shape := ⟨5, ![1, 2, 8, 128, 128]⟩
abbrev S1x8x1x1 : Shape := ⟨4, ![1, 8, 1, 1]⟩
abbrev S2x16384x8 : Shape := ⟨3, ![2, 16384, 8]⟩
abbrev S2x16384x8x1 : Shape := ⟨4, ![2, 16384, 8, 1]⟩
abbrev S1x1x1024 : Shape := ⟨3, ![1, 1, 1024]⟩

abbrev nBuf : Space → Nat
  | .hbm => 246
  | .vmem => 0
  | .smem => 0
  | _ => 0

abbrev hbmTy0_0 (i : Nat) : BufTy := match i % 128 with
  | 0 => ⟨S2x16384x1024, .f32⟩
  | 1 => ⟨S2x16384x1024, .f32⟩
  | 2 => ⟨S2x16384x1024, .f32⟩
  | 3 => ⟨S2x16384x1024, .f32⟩
  | 4 => ⟨S1024, .f32⟩
  | 5 => ⟨S1024, .f32⟩
  | 6 => ⟨S2x16384x8x128, .f32⟩
  | 7 => ⟨S2x16384x8x128, .f32⟩
  | 8 => ⟨S2x16384x8x128, .f32⟩
  | 9 => ⟨S16384, .i32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S16384x1, .i32⟩
  | 25 => ⟨S16384x1, .f32⟩
  | 26 => ⟨S1x64, .f32⟩
  | 27 => ⟨S16384x64, .f32⟩
  | 28 => ⟨S16384x64, .f32⟩
  | 29 => ⟨S16384x64, .f32⟩
  | 30 => ⟨S16384x64, .f32⟩
  | 31 => ⟨S16384x1x64, .f32⟩
  | 32 => ⟨S16384x64, .f32⟩
  | 33 => ⟨S16384x1x64, .f32⟩
  | 34 => ⟨S2x16384x8x64, .f32⟩
  | 35 => ⟨S2x16384x8x64, .f32⟩
  | 36 => ⟨S1x16384x1x64, .f32⟩
  | 37 => ⟨S2x16384x8x64, .f32⟩
  | 38 => ⟨S2x16384x8x64, .f32⟩
  | 39 => ⟨S1x16384x1x64, .f32⟩
  | 40 => ⟨S2x16384x8x64, .f32⟩
  | 41 => ⟨S2x16384x8x64, .f32⟩
  | 42 => ⟨S2x16384x8x64, .f32⟩
  | 43 => ⟨S1x16384x1x64, .f32⟩
  | 44 => ⟨S2x16384x8x64, .f32⟩
  | 45 => ⟨S2x16384x8x64, .f32⟩
  | 46 => ⟨S1x16384x1x64, .f32⟩
  | 47 => ⟨S2x16384x8x64, .f32⟩
  | 48 => ⟨S2x16384x8x64, .f32⟩
  | 49 => ⟨S2x16384x8x64, .f32⟩
  | 50 => ⟨S2x16384x8x128, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S16384x1, .i32⟩
  | 66 => ⟨S16384x1, .f32⟩
  | 67 => ⟨S1x64, .f32⟩
  | 68 => ⟨S16384x64, .f32⟩
  | 69 => ⟨S16384x64, .f32⟩
  | 70 => ⟨S16384x64, .f32⟩
  | 71 => ⟨S16384x64, .f32⟩
  | 72 => ⟨S16384x1x64, .f32⟩
  | 73 => ⟨S16384x64, .f32⟩
  | 74 => ⟨S16384x1x64, .f32⟩
  | 75 => ⟨S2x16384x8x64, .f32⟩
  | 76 => ⟨S2x16384x8x64, .f32⟩
  | 77 => ⟨S1x16384x1x64, .f32⟩
  | 78 => ⟨S2x16384x8x64, .f32⟩
  | 79 => ⟨S2x16384x8x64, .f32⟩
  | 80 => ⟨S1x16384x1x64, .f32⟩
  | 81 => ⟨S2x16384x8x64, .f32⟩
  | 82 => ⟨S2x16384x8x64, .f32⟩
  | 83 => ⟨S2x16384x8x64, .f32⟩
  | 84 => ⟨S1x16384x1x64, .f32⟩
  | 85 => ⟨S2x16384x8x64, .f32⟩
  | 86 => ⟨S2x16384x8x64, .f32⟩
  | 87 => ⟨S1x16384x1x64, .f32⟩
  | 88 => ⟨S2x16384x8x64, .f32⟩
  | 89 => ⟨S2x16384x8x64, .f32⟩
  | 90 => ⟨S2x16384x8x64, .f32⟩
  | 91 => ⟨S2x16384x8x128, .f32⟩
  | 92 => ⟨S_, .f32⟩
  | 93 => ⟨S2x16384x8x128, .f32⟩
  | 94 => ⟨S2x16384x8x128, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S8, .f32⟩
  | 103 => ⟨S8, .f32⟩
  | 104 => ⟨S8, .f32⟩
  | 105 => ⟨S2x128x128x8x128, .f32⟩
  | 106 => ⟨S2x128x128x8x128, .f32⟩
  | 107 => ⟨S2x128x128x8x128, .f32⟩
  | 108 => ⟨S128, .f32⟩
  | 109 => ⟨S128x1, .f32⟩
  | 110 => ⟨S1x128, .f32⟩
  | 111 => ⟨S128x128, .f32⟩
  | 112 => ⟨S128x128, .f32⟩
  | 113 => ⟨S128x128, .f32⟩
  | 114 => ⟨S_, .f32⟩
  | 115 => ⟨S128x128, .f32⟩
  | 116 => ⟨S128x128, .i1⟩
  | 117 => ⟨S_, .f32⟩
  | 118 => ⟨S128x128, .f32⟩
  | 119 => ⟨S128x128, .f32⟩
  | 120 => ⟨S1x128x128, .f32⟩
  | 121 => ⟨S8x1x1, .f32⟩
  | 122 => ⟨S8x128x128, .f32⟩
  | 123 => ⟨S8x128x128, .f32⟩
  | 124 => ⟨S8x128x128, .f32⟩
  | 125 => ⟨S8x128x128, .f32⟩
  | 126 => ⟨S_, .f32⟩
  | 127 => ⟨S_, .f32⟩
  | _ => ⟨S2x16384x1024, .f32⟩

abbrev hbmTy0_1 (i : Nat) : BufTy := match i % 128 with
  | 0 => ⟨S8x128x128, .i1⟩
  | 1 => ⟨S8x128x128, .f32⟩
  | 2 => ⟨S8x128x128, .f32⟩
  | 3 => ⟨S2x128x8x128x128, .f32⟩
  | 4 => ⟨S1x1x8x128x128, .f32⟩
  | 5 => ⟨S2x128x8x128x128, .f32⟩
  | 6 => ⟨S2x128x8x128x128, .f32⟩
  | 7 => ⟨S2x128x8x128x128, .f32⟩
  | 8 => ⟨S2x128x128x8x128, .f32⟩
  | 9 => ⟨S_, .f32⟩
  | 10 => ⟨S128, .f32⟩
  | 11 => ⟨S128, .f32⟩
  | 12 => ⟨S1x128, .f32⟩
  | 13 => ⟨S8x1, .f32⟩
  | 14 => ⟨S8x128, .f32⟩
  | 15 => ⟨S8x128, .f32⟩
  | 16 => ⟨S8x128, .f32⟩
  | 17 => ⟨S8x128, .f32⟩
  | 18 => ⟨S128x8, .f32⟩
  | 19 => ⟨S1x1x128x8x1, .f32⟩
  | 20 => ⟨S2x128x128x8x128, .f32⟩
  | 21 => ⟨S2x128x128x8x128, .f32⟩
  | 22 => ⟨S2x128x8x128x128, .f32⟩
  | 23 => ⟨S_, .f32⟩
  | 24 => ⟨S8, .f32⟩
  | 25 => ⟨S8, .f32⟩
  | 26 => ⟨S8, .f32⟩
  | 27 => ⟨S8x1x1, .f32⟩
  | 28 => ⟨S_, .f32⟩
  | 29 => ⟨S2x8x128x128, .f32⟩
  | 30 => ⟨S128x2x8x128x128, .f32⟩
  | 31 => ⟨S_, .f32⟩
  | 32 => ⟨S128x2x8x128x128, .f32⟩
  | 33 => ⟨S_, .i32⟩
  | 34 => ⟨S128x2x8x128x128, .f32⟩
  | 35 => ⟨S8x1x1, .f32⟩
  | 36 => ⟨S_, .i32⟩
  | 37 => ⟨S2x8x128x128, .f32⟩
  | 38 => ⟨S128x2x8x128x128, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x2x8x128x128, .f32⟩
  | 46 => ⟨S2x8x128x128, .f32⟩
  | 47 => ⟨S1x8x1x1, .f32⟩
  | 48 => ⟨S2x8x128x128, .f32⟩
  | 49 => ⟨S2x8x128x128, .f32⟩
  | 50 => ⟨S2x8x128x128, .f32⟩
  | 51 => ⟨S1x2x8x128x128, .f32⟩
  | 52 => ⟨S_, .i32⟩
  | 53 => ⟨S_, .i32⟩
  | 54 => ⟨S_, .i32⟩
  | 55 => ⟨S_, .i32⟩
  | 56 => ⟨S128x2x8x128x128, .f32⟩
  | 57 => ⟨S_, .i32⟩
  | 58 => ⟨S_, .i32⟩
  | 59 => ⟨S2x128x8x128x128, .f32⟩
  | 60 => ⟨S_, .f32⟩
  | 61 => ⟨S128, .f32⟩
  | 62 => ⟨S128, .f32⟩
  | 63 => ⟨S1x128, .f32⟩
  | 64 => ⟨S8x1, .f32⟩
  | 65 => ⟨S8x128, .f32⟩
  | 66 => ⟨S8x128, .f32⟩
  | 67 => ⟨S8x128, .f32⟩
  | 68 => ⟨S8x128, .f32⟩
  | 69 => ⟨S128x8, .f32⟩
  | 70 => ⟨S1x1x128x8x1, .f32⟩
  | 71 => ⟨S2x128x128x8x128, .f32⟩
  | 72 => ⟨S2x128x128x8x128, .f32⟩
  | 73 => ⟨S2x128x8x128x128, .f32⟩
  | 74 => ⟨S2x128x128x8x128, .f32⟩
  | 75 => ⟨S2x128x128x8x128, .f32⟩
  | 76 => ⟨S2x16384x8x128, .f32⟩
  | 77 => ⟨S2x16384x1024, .f32⟩
  | 78 => ⟨S2x16384x1024, .f32⟩
  | 79 => ⟨S_, .f32⟩
  | 80 => ⟨S2x16384x1024, .f32⟩
  | 81 => ⟨S2x16384x1024, .f32⟩
  | 82 => ⟨S_, .f32⟩
  | 83 => ⟨S2x16384x1024, .f32⟩
  | 84 => ⟨S2x16384x1024, .f32⟩
  | 85 => ⟨S2x16384x1024, .f32⟩
  | 86 => ⟨S_, .f32⟩
  | 87 => ⟨S2x16384x8, .f32⟩
  | 88 => ⟨S2x16384x8x1, .f32⟩
  | 89 => ⟨S_, .f32⟩
  | 90 => ⟨S2x16384x8x1, .f32⟩
  | 91 => ⟨S2x16384x8x1, .f32⟩
  | 92 => ⟨S2x16384x8x128, .f32⟩
  | 93 => ⟨S2x16384x8x128, .f32⟩
  | 94 => ⟨S2x16384x8x128, .f32⟩
  | 95 => ⟨S_, .f32⟩
  | 96 => ⟨S2x16384x8, .f32⟩
  | 97 => ⟨S2x16384x8x1, .f32⟩
  | 98 => ⟨S_, .f32⟩
  | 99 => ⟨S2x16384x8x1, .f32⟩
  | 100 => ⟨S2x16384x8x1, .f32⟩
  | 101 => ⟨S2x16384x8x128, .f32⟩
  | 102 => ⟨S2x16384x8x128, .f32⟩
  | 103 => ⟨S_, .f32⟩
  | 104 => ⟨S2x16384x8x1, .f32⟩
  | 105 => ⟨S2x16384x8x1, .f32⟩
  | 106 => ⟨S2x16384x8x1, .f32⟩
  | 107 => ⟨S2x16384x8x128, .f32⟩
  | 108 => ⟨S2x16384x8x128, .f32⟩
  | 109 => ⟨S2x16384x1024, .f32⟩
  | 110 => ⟨S1x1x1024, .f32⟩
  | 111 => ⟨S2x16384x1024, .f32⟩
  | 112 => ⟨S2x16384x1024, .f32⟩
  | 113 => ⟨S1x1x1024, .f32⟩
  | 114 => ⟨S2x16384x1024, .f32⟩
  | 115 => ⟨S2x16384x1024, .f32⟩
  | 116 => ⟨S2x16384x1024, .f32⟩
  | 117 => ⟨S2x16384x1024, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_10 : Ref sig .tc := ⟨.hbm, 114, rfl⟩
abbrev main_v97 : Ref sig .tc := ⟨.hbm, 115, rfl⟩
abbrev main_v98 : Ref sig .tc := ⟨.hbm, 116, rfl⟩
abbrev main_cst_11 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_12 : Ref sig .tc := ⟨.hbm, 126, rfl⟩
abbrev main_call0_v0 : Ref sig .tc := ⟨.hbm, 127, rfl⟩
abbrev main_call0_v1 : Ref sig .tc := ⟨.hbm, 128, rfl⟩
abbrev main_call0_v2 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_13 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_14 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_cst_15 : Ref sig .tc := ⟨.hbm, 156, rfl⟩
abbrev main_v131 : Ref sig .tc := ⟨.hbm, 157, rfl⟩
abbrev main_v132 : Ref sig .tc := ⟨.hbm, 158, rfl⟩
abbrev main_cst_16 : Ref sig .tc := ⟨.hbm, 159, rfl⟩
abbrev main_v133 : Ref sig .tc := ⟨.hbm, 160, rfl⟩
abbrev main_c : Ref sig .tc := ⟨.hbm, 161, rfl⟩
abbrev main_v134_0 : Ref sig .tc := ⟨.hbm, 162, rfl⟩
abbrev main_v134_1 : Ref sig .tc := ⟨.hbm, 163, rfl⟩
abbrev main_v134_2 : Ref sig .tc := ⟨.hbm, 164, rfl⟩
abbrev main_v134_3 : Ref sig .tc := ⟨.hbm, 165, rfl⟩
abbrev main_v134_4 : Ref sig .tc := ⟨.hbm, 166, rfl⟩
abbrev main_while0c_c_27 : Ref sig .tc := ⟨.hbm, 167, rfl⟩
abbrev main_while0c_v180 : Ref sig .tc := ⟨.hbm, 168, rfl⟩
abbrev main_while0b_call1_c : Ref sig .tc := ⟨.hbm, 169, rfl⟩
abbrev main_while0b_call1_c_0 : Ref sig .tc := ⟨.hbm, 170, rfl⟩
abbrev main_while0b_call1_c_1 : Ref sig .tc := ⟨.hbm, 171, rfl⟩
abbrev main_while0b_call1_c_2 : Ref sig .tc := ⟨.hbm, 172, rfl⟩
abbrev main_while0b_call1_v0 : Ref sig .tc := ⟨.hbm, 173, rfl⟩
abbrev main_while0b_v180 : Ref sig .tc := ⟨.hbm, 174, rfl⟩
abbrev main_while0b_v181 : Ref sig .tc := ⟨.hbm, 175, rfl⟩
abbrev main_while0b_v182 : Ref sig .tc := ⟨.hbm, 176, rfl⟩
abbrev main_while0b_v183 : Ref sig .tc := ⟨.hbm, 177, rfl⟩
abbrev main_while0b_v184 : Ref sig .tc := ⟨.hbm, 178, rfl⟩
abbrev main_while0b_call2_v0 : Ref sig .tc := ⟨.hbm, 179, rfl⟩
abbrev main_while0b_call2_c : Ref sig .tc := ⟨.hbm, 180, rfl⟩
abbrev main_while0b_call2_c_0 : Ref sig .tc := ⟨.hbm, 181, rfl⟩
abbrev main_while0b_call2_c_1 : Ref sig .tc := ⟨.hbm, 182, rfl⟩
abbrev main_while0b_call2_c_2 : Ref sig .tc := ⟨.hbm, 183, rfl⟩
abbrev main_while0b_v185 : Ref sig .tc := ⟨.hbm, 184, rfl⟩
abbrev main_while0b_c_27 : Ref sig .tc := ⟨.hbm, 185, rfl⟩
abbrev main_while0b_v186 : Ref sig .tc := ⟨.hbm, 186, rfl⟩
abbrev main_v135 : Ref sig .tc := ⟨.hbm, 187, rfl⟩
abbrev main_cst_17 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_call3_v0 : Ref sig .tc := ⟨.hbm, 205, rfl⟩
abbrev main_call3_v1 : Ref sig .tc := ⟨.hbm, 206, rfl⟩
abbrev main_call3_cst : Ref sig .tc := ⟨.hbm, 207, rfl⟩
abbrev main_call3_v2 : Ref sig .tc := ⟨.hbm, 208, rfl⟩
abbrev main_call3_v3 : Ref sig .tc := ⟨.hbm, 209, rfl⟩
abbrev main_call3_cst_0 : Ref sig .tc := ⟨.hbm, 210, rfl⟩
abbrev main_call3_v4 : Ref sig .tc := ⟨.hbm, 211, rfl⟩
abbrev main_call3_v5 : Ref sig .tc := ⟨.hbm, 212, rfl⟩
abbrev main_v152 : Ref sig .tc := ⟨.hbm, 213, rfl⟩
abbrev main_cst_18 : Ref sig .tc := ⟨.hbm, 214, rfl⟩
abbrev main_v153 : Ref sig .tc := ⟨.hbm, 215, rfl⟩
abbrev main_v154 : Ref sig .tc := ⟨.hbm, 216, rfl⟩
abbrev main_cst_19 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_20 : Ref sig .tc := ⟨.hbm, 223, rfl⟩
abbrev main_v160 : Ref sig .tc := ⟨.hbm, 224, rfl⟩
abbrev main_v161 : Ref sig .tc := ⟨.hbm, 225, rfl⟩
abbrev main_cst_21 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_22 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S2x16384x2048 : Shape := ⟨3, ![2, 16384, 2048]⟩
abbrev S2048x5504 : Shape := ⟨2, ![2048, 5504]⟩
abbrev S5504x2048 : Shape := ⟨2, ![5504, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S2048x384 : Shape := ⟨2, ![2048, 384]⟩
abbrev S512x384 : Shape := ⟨2, ![512, 384]⟩
abbrev S384x2048 : Shape := ⟨2, ![384, 2048]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S2048x5504, .bf16⟩
  | .hbm, ⟨8, _⟩ => ⟨S2048x5504, .bf16⟩
  | .hbm, ⟨9, _⟩ => ⟨S5504x2048, .bf16⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S2x16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S2x16384x2048 : Shape := ⟨3, ![2, 16384, 2048]⟩
abbrev S2048x5504 : Shape := ⟨2, ![2048, 5504]⟩
abbrev S5504x2048 : Shape := ⟨2, ![5504, 2048]⟩
abbrev S2048 : Shape := ⟨1, ![2048]⟩
abbrev S_ : Shape := ⟨0, ![]⟩
abbrev S2x16384x5504 : Shape := ⟨3, ![2, 16384, 5504]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2x16384x2048, .f32⟩
  | .hbm, ⟨8, _⟩ => ⟨S2x16384x2048, .f32⟩
  | .hbm, ⟨9, _⟩ => ⟨S2x16384x5504, .f32⟩
  | .hbm, ⟨10, _⟩ => ⟨S2x16384x5504, .f32⟩
  | .hbm, ⟨11, _⟩ => ⟨S2x16384x5504, .f32⟩
  | .hbm, ⟨12, _⟩ => ⟨S_, .f32⟩
  | .hbm, ⟨13, _⟩ => ⟨S2x16384x5504, .f32⟩
  | .hbm, ⟨14, _⟩ => ⟨S2x16384x5504, .f32⟩
  | .hbm, ⟨15, _⟩ => ⟨S_, .f32⟩
  | .hbm, ⟨16, _⟩ => ⟨S2x16384x5504, .f32⟩
  | .hbm, ⟨17, _⟩ => ⟨S2x16384x5504, .f32⟩
  | .hbm, ⟨18, _⟩ => ⟨S2x16384x5504, .f32⟩
  | .hbm, ⟨19, _⟩ => ⟨S2x16384x5504, .f32⟩
  | .hbm, ⟨20, _⟩ => ⟨S2x16384x5504, .f32⟩
  | .hbm, ⟨21, _⟩ => ⟨S2x16384x2048, .f32⟩
  | .hbm, ⟨22, _⟩ => ⟨S_, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x2048, .f32⟩
  | .hbm, ⟨42, _⟩ => ⟨S2x16384x2048, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x2048, .f32⟩
  | .hbm, ⟨48, _⟩ => ⟨S2x16384x2048, .f32⟩
  | .hbm, ⟨49, _⟩ => ⟨S1x1x2048, .f32⟩
  | .hbm, ⟨50, _⟩ => ⟨S2x16384x2048, .f32⟩
  | .hbm, ⟨51, _⟩ => ⟨S2x16384x2048, .f32⟩
  | .hbm, ⟨52, _⟩ => ⟨S1x1x2048, .f32⟩
  | .hbm, ⟨53, _⟩ => ⟨S2x16384x2048, .f32⟩
  | .hbm, ⟨54, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== FfnFirst.lean ====
abbrev S2x16384x2048 : Shape := ⟨3, ![2, 16384, 2048]⟩
abbrev S2048x5504 : Shape := ⟨2, ![2048, 5504]⟩
abbrev S5504x2048 : Shape := ⟨2, ![5504, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S2048x384 : Shape := ⟨2, ![2048, 384]⟩
abbrev S512x384 : Shape := ⟨2, ![512, 384]⟩
abbrev S384x2048 : Shape := ⟨2, ![384, 2048]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S2048x5504, .bf16⟩
  | .hbm, ⟨8, _⟩ => ⟨S2048x5504, .bf16⟩
  | .hbm, ⟨9, _⟩ => ⟨S5504x2048, .bf16⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnFirstReferenceIdeal.lean ====
abbrev S2x16384x2048 : Shape := ⟨3, ![2, 16384, 2048]⟩
abbrev S2048x5504 : Shape := ⟨2, ![2048, 5504]⟩
abbrev S5504x2048 : Shape := ⟨2, ![5504, 2048]⟩
abbrev S2048 : Shape := ⟨1, ![2048]⟩
abbrev S_ : Shape := ⟨0, ![]⟩
abbrev S2x16384x5504 : Shape := ⟨3, ![2, 16384, 5504]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2x16384x2048, .f32⟩
  | .hbm, ⟨8, _⟩ => ⟨S2x16384x2048, .f32⟩
  | .hbm, ⟨9, _⟩ => ⟨S2x16384x5504, .f32⟩
  | .hbm, ⟨10, _⟩ => ⟨S2x16384x5504, .f32⟩
  | .hbm, ⟨11, _⟩ => ⟨S2x16384x5504, .f32⟩
  | .hbm, ⟨12, _⟩ => ⟨S_, .f32⟩
  | .hbm, ⟨13, _⟩ => ⟨S2x16384x5504, .f32⟩
  | .hbm, ⟨14, _⟩ => ⟨S2x16384x5504, .f32⟩
  | .hbm, ⟨15, _⟩ => ⟨S_, .f32⟩
  | .hbm, ⟨16, _⟩ => ⟨S2x16384x5504, .f32⟩
  | .hbm, ⟨17, _⟩ => ⟨S2x16384x5504, .f32⟩
  | .hbm, ⟨18, _⟩ => ⟨S2x16384x5504, .f32⟩
  | .hbm, ⟨19, _⟩ => ⟨S2x16384x5504, .f32⟩
  | .hbm, ⟨20, _⟩ => ⟨S2x16384x5504, .f32⟩
  | .hbm, ⟨21, _⟩ => ⟨S2x16384x2048, .f32⟩
  | .hbm, ⟨22, _⟩ => ⟨S_, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x2048, .f32⟩
  | .hbm, ⟨42, _⟩ => ⟨S2x16384x2048, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x2048, .f32⟩
  | .hbm, ⟨48, _⟩ => ⟨S2x16384x2048, .f32⟩
  | .hbm, ⟨49, _⟩ => ⟨S1x1x2048, .f32⟩
  | .hbm, ⟨50, _⟩ => ⟨S2x16384x2048, .f32⟩
  | .hbm, ⟨51, _⟩ => ⟨S2x16384x2048, .f32⟩
  | .hbm, ⟨52, _⟩ => ⟨S1x1x2048, .f32⟩
  | .hbm, ⟨53, _⟩ => ⟨S2x16384x2048, .f32⟩
  | .hbm, ⟨54, _⟩ => ⟨S2x16384x2048, .f32⟩
  | .hbm, ⟨55, _⟩ => ⟨S32768x2048, .f32⟩
  | .hbm, ⟨56, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Merge.lean ====
abbrev S32768x2048 : Shape := ⟨2, ![32768, 2048]⟩
abbrev S32768x1024 : Shape := ⟨2, ![32768, 1024]⟩
abbrev S2048x4096 : Shape := ⟨2, ![2048, 4096]⟩
abbrev S1024x2048 : Shape := ⟨2, ![1024, 2048]⟩
abbrev S2048x2048 : Shape := ⟨2, ![2048, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 16
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x1024, .f32⟩
  | .hbm, ⟨3, _⟩ => ⟨S2048x4096, .f32⟩
  | .hbm, ⟨4, _⟩ => ⟨S1024x2048, .f32⟩
  | .hbm, ⟨5, _⟩ => ⟨S1024x2048, .f32⟩
  | .hbm, ⟨6, _⟩ => ⟨S32768x2048, .bf16⟩
  | .hbm, ⟨7, _⟩ => ⟨S32768x1024, .bf16⟩
  | .hbm, ⟨8, _⟩ => ⟨S32768x1024, .bf16⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S1024x2048, .bf16⟩
  | .hbm, ⟨14, _⟩ => ⟨S1024x2048, .bf16⟩
  | .hbm, ⟨15, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S32768x2048 : Shape := ⟨2, ![32768, 2048]⟩
abbrev S32768x1024 : Shape := ⟨2, ![32768, 1024]⟩
abbrev S2048x4096 : Shape := ⟨2, ![2048, 4096]⟩
abbrev S1024x2048 : Shape := ⟨2, ![1024, 2048]⟩
abbrev S32768x4096 : Shape := ⟨2, ![32768, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x1024, .f32⟩
  | .hbm, ⟨3, _⟩ => ⟨S2048x4096, .f32⟩
  | .hbm, ⟨4, _⟩ => ⟨S1024x2048, .f32⟩
  | .hbm, ⟨5, _⟩ => ⟨S1024x2048, .f32⟩
  | .hbm, ⟨6, _⟩ => ⟨S32768x4096, .f32⟩
  | .hbm, ⟨7, _⟩ => ⟨S32768x4096, .f32⟩
  | .hbm, ⟨8, _⟩ => ⟨S32768x4096, .f32⟩
  | .hbm, ⟨9, _⟩ => ⟨S_, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768x4096, .f32⟩
  | .hbm, ⟨14, _⟩ => ⟨S32768x4096, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== ProjLn.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S32768x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjLnReferenceIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== RetProj.lean ====
abbrev S32768x2048 : Shape := ⟨2, ![32768, 2048]⟩
abbrev S2048x6704 : Shape := ⟨2, ![2048, 6704]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x6704, .f32⟩
  | .hbm, ⟨2, _⟩ => ⟨S32768x2048, .bf16⟩
  | .hbm, ⟨3, _⟩ => ⟨S2048x4096, .f32⟩
  | .hbm, ⟨4, _⟩ => ⟨S2048x4096, .bf16⟩
  | .hbm, ⟨5, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetProjReferenceIdeal.lean ====
abbrev S32768x2048 : Shape := ⟨2, ![32768, 2048]⟩
abbrev S2048x6704 : Shape := ⟨2, ![2048, 6704]⟩
abbrev S32768x6704 : Shape := ⟨2, ![32768, 6704]⟩
abbrev S32768x4096 : Shape := ⟨2, ![32768, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x6704, .f32⟩
  | .hbm, ⟨2, _⟩ => ⟨S32768x6704, .f32⟩
  | .hbm, ⟨3, _⟩ => ⟨S32768x4096, .f32⟩
  | .hbm, ⟨4, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NsaProj.lean ====
abbrev S32768x2048 : Shape := ⟨2, ![32768, 2048]⟩
abbrev S2048x6704 : Shape := ⟨2, ![2048, 6704]⟩
abbrev S16384x64 : Shape := ⟨2, ![16384, 64]⟩
abbrev S2048x1024 : Shape := ⟨2, ![2048, 1024]⟩
abbrev S2048x1536 : Shape := ⟨2, ![2048, 1536]⟩
abbrev S2048x48 : Shape := ⟨2, ![2048, 48]⟩
abbrev S2048x4x12 : Shape := ⟨3, ![2048, 4, 12]⟩
abbrev S_ : Shape := ⟨0, ![]⟩
abbrev S2048x4x16 : Shape := ⟨3, ![2048, 4, 16]⟩
abbrev S2048x64 : Shape := ⟨2, ![2048, 64]⟩
abbrev S2048x128 : Shape := ⟨2, ![2048, 128]⟩
abbrev S2x16x64x16384 : Shape := ⟨4, ![2, 16, 64, 16384]⟩
abbrev S2x4x16384x64 : Shape := ⟨4, ![2, 4, 16384, 64]⟩
abbrev S2x4x16384x128 : Shape := ⟨4, ![2, 4, 16384, 128]⟩
abbrev S2x4x80x16384 : Shape := ⟨4, ![2, 4, 80, 16384]⟩
abbrev S2x4x16x16384 : Shape := ⟨4, ![2, 4, 16, 16384]⟩
abbrev S512x2048 : Shape := ⟨2, ![512, 2048]⟩
abbrev S512x64 : Shape := ⟨2, ![512, 64]⟩
abbrev S1x16x64x512 : Shape := ⟨4, ![1, 16, 64, 512]⟩
abbrev S1x4x512x64 : Shape := ⟨4, ![1, 4, 512, 64]⟩
abbrev S1x4x512x128 : Shape := ⟨4, ![1, 4, 512, 128]⟩
abbrev S1x4x80x512 : Shape := ⟨4, ![1, 4, 80, 512]⟩
abbrev S1x4x16x512 : Shape := ⟨4, ![1, 4, 16, 512]⟩
abbrev S512x128 : Shape := ⟨2, ![512, 128]⟩
abbrev S128x512 : Shape := ⟨2, ![128, 512]⟩
abbrev S16x512 : Shape := ⟨2, ![16, 512]⟩
abbrev S1x1x16x512 : Shape := ⟨4, ![1, 1, 16, 512]⟩
abbrev S512x1024 : Shape := ⟨2, ![512, 1024]⟩
abbrev S64x512 : Shape := ⟨2, ![64, 512]⟩
abbrev S1x1x64x512 : Shape := ⟨4, ![1, 1, 64, 512]⟩
abbrev S512x1536 : Shape := ⟨2, ![512, 1536]⟩
abbrev S1x1x512x64 : Shape := ⟨4, ![1, 1, 512, 64]⟩

abbrev nBuf : Space → Nat
  | .hbm => 26
  | .vmem => 23
  | .smem => 0
  | _ => 0

abbrev bufTy : (tb : Table) → Fin (tcTables nBuf tb) → BufTy
  | .hbm, ⟨0, _⟩ => ⟨S32768x2048, .f32⟩
  | .hbm, ⟨1, _⟩ => ⟨S2048x6704, .f32⟩
  | .hbm, ⟨2, _⟩ => ⟨S16384x64, .bf16⟩
  | .hbm, ⟨3, _⟩ => ⟨S2048x1024, .f32⟩
  | .hbm, ⟨4, _⟩ => ⟨S2048x1024, .bf16⟩
  | .hbm, ⟨5, _⟩ => ⟨S2048x1536, .f32⟩
  | .hbm, ⟨6, _⟩ => ⟨S2048x1536, .bf16⟩
  | .hbm, ⟨7, _⟩ => ⟨S2048x48, .f32⟩
  | .hbm, ⟨8, _⟩ => ⟨S2048x4x12, .f32⟩
  | .hbm, ⟨9, _⟩ => ⟨S_, .i32⟩
  | .hbm, ⟨10, _⟩ => ⟨S_, .f32⟩
  | .hbm, ⟨11, _⟩ => ⟨S2048x4x16, .f32⟩
  | .hbm, ⟨12, _⟩ => ⟨S2048x64, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S32768x2048, .bf16⟩
  | .hbm, ⟨18, _⟩ => ⟨S2x16x64x16384, .bf16⟩
  | .hbm, ⟨19, _⟩ => ⟨S2x4x16384x64, .bf16⟩
  | .hbm, ⟨20, _⟩ => ⟨S2x4x16384x64, .bf16⟩
  | .hbm, ⟨21, _⟩ => ⟨S2x4x16384x128, .bf16⟩
  | .hbm, ⟨22, _⟩ => ⟨S2x4x80x16384, .bf16⟩
  | .hbm, ⟨23, _⟩ => ⟨S2x4x16384x64, .bf16⟩
  | .hbm, ⟨24, _⟩ => ⟨S2x4x80x16384, .bf16⟩
  | .hbm, ⟨25, _⟩ => ⟨S2x4x16x16384, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1536, .bf16⟩
  | .local _ .vmem, ⟨4, _⟩ => ⟨S2048x128, .bf16⟩
  | .local _ .vmem, ⟨5, _⟩ => ⟨S512x64, .bf16⟩
  | .local _ .vmem, ⟨6, _⟩ => ⟨S512x64, .bf16⟩
  | .local _ .vmem, ⟨7, _⟩ => ⟨S1x16x64x512, .bf16⟩
  | .local _ .vmem, ⟨8, _⟩ => ⟨S1x16x64x512, .bf16⟩
  | .local _ .vmem, ⟨9, _⟩ => ⟨S1x4x512x64, .bf16⟩
  | .local _ .vmem, ⟨10, _⟩ => ⟨S1x4x512x64, .bf16⟩
  | .local _ .vmem, ⟨11, _⟩ => ⟨S1x4x512x64, .bf16⟩
  | .local _ .vmem, ⟨12, _⟩ => ⟨S1x4x512x64, .bf16⟩
  | .local _ .vmem, ⟨13, _⟩ => ⟨S1x4x512x128, .bf16⟩
  | .local _ .vmem, ⟨14, _⟩ => ⟨S1x4x512x128, .bf16⟩
  | .local _ .vmem, ⟨15, _⟩ => ⟨S1x4x80x512, .bf16⟩
  | .local _ .vmem, ⟨16, _⟩ => ⟨S1x4x80x512, .bf16⟩
  | .local _ .vmem, ⟨17, _⟩ => ⟨S1x4x512x64, .bf16⟩
  | .local _ .vmem, ⟨18, _⟩ => ⟨S1x4x512x64, .bf16⟩
  | .local _ .vmem, ⟨19, _⟩ => ⟨S1x4x80x512, .bf16⟩
  | .local _ .vmem, ⟨20, _⟩ => ⟨S1x4x80x512, .bf16⟩
  | .local _ .vmem, ⟨21, _⟩ => ⟨S1x4x16x512, .f32⟩
  | .local _ .vmem, ⟨22, _⟩ => ⟨S1x4x16x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== NsaProjReferenceIdeal.lean ====
abbrev S32768x2048 : Shape := ⟨2, ![32768, 2048]⟩
abbrev S2048x6704 : Shape := ⟨2, ![2048, 6704]⟩
abbrev S16384x64 : Shape := ⟨2, ![16384, 64]⟩
abbrev S32768x6704 : Shape := ⟨2, ![32768, 6704]⟩
abbrev S32768x1024 : Shape := ⟨2, ![32768, 1024]⟩
abbrev S2x16384x16x64 : Shape := ⟨4, ![2, 16384, 16, 64]⟩
abbrev S32768x256 : Shape := ⟨2, ![32768, 256]⟩
abbrev S2x16384x4x64 : Shape := ⟨4, ![2, 16384, 4, 64]⟩
abbrev S32768x48 : Shape := ⟨2, ![32768, 48]⟩
abbrev S2x16384x4x12 : Shape := ⟨4, ![2, 16384, 4, 12]⟩
abbrev S_ : Shape := ⟨0, ![]⟩
abbrev S2x16384x4x16 : Shape := ⟨4, ![2, 16384, 4, 16]⟩
abbrev S1x1x16384x64 : Shape := ⟨4, ![1, 1, 16384, 64]⟩
abbrev S2x4x16384x64 : Shape := ⟨4, ![2, 4, 16384, 64]⟩
abbrev S16 : Shape := ⟨1, ![16]⟩
abbrev S1x1x16x1 : Shape := ⟨4, ![1, 1, 16, 1]⟩
abbrev S2x4x16x16384 : Shape := ⟨4, ![2, 4, 16, 16384]⟩
abbrev S2x16x64x16384 : Shape := ⟨4, ![2, 16, 64, 16384]⟩
abbrev S2x4x16384x128 : Shape := ⟨4, ![2, 4, 16384, 128]⟩
abbrev S2x4x64x16384 : Shape := ⟨4, ![2, 4, 64, 16384]⟩
abbrev S2x4x80x16384 : Shape := ⟨4, ![2, 4, 80, 16384]⟩

abbrev nBuf : Space → Nat
  | .hbm => 68
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x6704, .f32⟩
  | .hbm, ⟨2, _⟩ => ⟨S16384x64, .bf16⟩
  | .hbm, ⟨3, _⟩ => ⟨S32768x6704, .f32⟩
  | .hbm, ⟨4, _⟩ => ⟨S32768x1024, .f32⟩
  | .hbm, ⟨5, _⟩ => ⟨S2x16384x16x64, .f32⟩
  | .hbm, ⟨6, _⟩ => ⟨S32768x256, .f32⟩
  | .hbm, ⟨7, _⟩ => ⟨S2x16384x4x64, .f32⟩
  | .hbm, ⟨8, _⟩ => ⟨S32768x256, .f32⟩
  | .hbm, ⟨9, _⟩ => ⟨S2x16384x4x64, .f32⟩
  | .hbm, ⟨10, _⟩ => ⟨S32768x256, .f32⟩
  | .hbm, ⟨11, _⟩ => ⟨S2x16384x4x64, .f32⟩
  | .hbm, ⟨12, _⟩ => ⟨S32768x256, .f32⟩
  | .hbm, ⟨13, _⟩ => ⟨S2x16384x4x64, .f32⟩
  | .hbm, ⟨14, _⟩ => ⟨S32768x256, .f32⟩
  | .hbm, ⟨15, _⟩ => ⟨S2x16384x4x64, .f32⟩
  | .hbm, ⟨16, _⟩ => ⟨S32768x256, .f32⟩
  | .hbm, ⟨17, _⟩ => ⟨S2x16384x4x64, .f32⟩
  | .hbm, ⟨18, _⟩ => ⟨S32768x48, .f32⟩
  | .hbm, ⟨19, _⟩ => ⟨S2x16384x4x12, .f32⟩
  | .hbm, ⟨20, _⟩ => ⟨S_, .i32⟩
  | .hbm, ⟨21, _⟩ => ⟨S_, .f32⟩
  | .hbm, ⟨22, _⟩ => ⟨S2x16384x4x16, .f32⟩
  | .hbm, ⟨23, _⟩ => ⟨S1x1x16384x64, .bf16⟩
  | .hbm, ⟨24, _⟩ => ⟨S1x1x16384x64, .f32⟩
  | .hbm, ⟨25, _⟩ => ⟨S2x4x16384x64, .f32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S1x1x16x1, .f32⟩
  | .hbm, ⟨36, _⟩ => ⟨S2x4x16x16384, .f32⟩
  | .hbm, ⟨37, _⟩ => ⟨S_, .f32⟩
  | .hbm, ⟨38, _⟩ => ⟨S2x16384x16x64, .f32⟩
  | .hbm, ⟨39, _⟩ => ⟨S2x16384x16x64, .f32⟩
  | .hbm, ⟨40, _⟩ => ⟨S2x16x64x16384, .f32⟩
  | .hbm, ⟨41, _⟩ => ⟨S2x16x64x16384, .bf16⟩
  | .hbm, ⟨42, _⟩ => ⟨S2x4x16384x64, .f32⟩
  | .hbm, ⟨43, _⟩ => ⟨S2x4x16384x64, .bf16⟩
  | .hbm, ⟨44, _⟩ => ⟨S2x4x16384x64, .f32⟩
  | .hbm, ⟨45, _⟩ => ⟨S2x4x16384x64, .bf16⟩
  | .hbm, ⟨46, _⟩ => ⟨S2x4x16384x64, .f32⟩
  | .hbm, ⟨47, _⟩ => ⟨S2x4x16384x128, .f32⟩
  | .hbm, ⟨48, _⟩ => ⟨S2x4x16384x128, .bf16⟩
  | .hbm, ⟨49, _⟩ => ⟨S2x4x64x16384, .f32⟩
  | .hbm, ⟨50, _⟩ => ⟨S2x4x16x16384, .f32⟩
  | .hbm, ⟨51, _⟩ => ⟨S2x4x80x16384, .f32⟩
  | .hbm, ⟨52, _⟩ => ⟨S2x4x80x16384, .bf16⟩
  | .hbm, ⟨53, _⟩ => ⟨S2x4x16384x64, .f32⟩
  | .hbm, ⟨54, _⟩ => ⟨S2x4x16384x64, .bf16⟩
  | .hbm, ⟨55, _⟩ => ⟨S2x4x64x16384, .f32⟩
  | .hbm, ⟨56, _⟩ => ⟨S2x4x16x16384, .f32⟩
  | .hbm, ⟨57, _⟩ => ⟨S2x4x80x16384, .f32⟩
  | .hbm, ⟨58, _⟩ => ⟨S2x4x80x16384, .bf16⟩
  | .hbm, ⟨59, _⟩ => ⟨S2x16384x4x16, .f32⟩
  | .hbm, ⟨60, _⟩ => ⟨S2x16384x4x16, .f32⟩
  | .hbm, ⟨61, _⟩ => ⟨S_, .f32⟩
  | .hbm, ⟨62, _⟩ => ⟨S2x16384x4x16, .f32⟩
  | .hbm, ⟨63, _⟩ => ⟨S2x16384x4x16, .f32⟩
  | .hbm, ⟨64, _⟩ => ⟨S_, .f32⟩
  | .hbm, ⟨65, _⟩ => ⟨S2x16384x4x16, .f32⟩
  | .hbm, ⟨66, _⟩ => ⟨S2x16384x4x16, .f32⟩
  | .hbm, ⟨67, _⟩ => ⟨S2x4x16x16384, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proof.RetReference.lean ====
/- The retention's reference runs to its end with its arguments as they were, and what its loop leaves alone:
   a buffer that neither the condition nor the body of the loop writes holds after the loop what it held before. -/
module

public import proofs.«01_k».proof.Proof.Gen.ReferenceIdeal.Run

@[expose] public section

set_option maxRecDepth 8192

noncomputable section

namespace Cert.RetReference

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F] (m : (ℓ : Loc nD τ sig) → Buf (Elt F) ℓ) (ρ : Dev nD → PrngReg)

/-- What stretch 3 of the program writes. -/
abbrev written3 : List (Ref sig .tc) := [main_v135, main_cst_17, main_v136, main_v137, main_v138, main_v139, main_v140, main_v141, main_v142, main_v143, main_v144, main_v145, main_v146, main_v147, main_v148, main_v149, main_v150, main_v151]
theorem written3_all : (hostOps0_3 : List (HloOp τ sig (Elt F))).Forall fun op => op.writes ⊆ (written3.map (Proc.devRef (τ := τ) .tc)).toFinset :=
  forall_writes_sub_of_map rfl

/-- What stretch 4 of the program writes. -/
abbrev written4 : List (Ref sig .tc) := [main_call3_v0, main_call3_v1, main_call3_cst, main_call3_v2, main_call3_v3, main_call3_cst_0, main_call3_v4, main_call3_v5, main_v152]
theorem written4_all : (hostOps0_4 : List (HloOp τ sig (Elt F))).Forall fun op => op.writes ⊆ (written4.map (Proc.devRef (τ := τ) .tc)).toFinset :=
  forall_writes_sub_of_map rfl

/-- What stretch 5 of the program writes. -/
abbrev written5 : List (Ref sig .tc) := [main_cst_18, main_v153, main_v154, main_cst_19, main_v155, main_v156, main_v157, main_v158, main_v159, main_cst_20, main_v160, main_v161, main_cst_21, main_v162, main_v163, main_v164, main_v165, main_cst_22, main_v166, main_v167, main_v168, main_v169, main_v170, main_v171, main_v172, main_v173, main_v174, main_v175, main_v176, main_v177, main_v178, main_v179]
theorem written5_all : (hostOps0_5 : List (HloOp τ sig (Elt F))).Forall fun op => op.writes ⊆ (written5.map (Proc.devRef (τ := τ) .tc)).toFinset :=
  forall_writes_sub_of_map rfl

/-- One round of the loop leaves a buffer alone that no operation of it writes. -/
theorem round_keeps (X : Valuation τ sig (Elt F)) (r : Ref sig .tc) (hc : r ∉ condOps_W) (h0 : r ∉ while0Ops0_W) (h1 : r ∉ while0Ops0_1_W) (h2 : r ∉ while0Ops0_2_W) (h3 : r ∉ while0Ops0_3_W) :
    afterL bodyI (after condOps X) (Proc.devRef .tc r) = X (Proc.devRef .tc r) :=
  (after_of_writes_sub while0Ops0_3 _ while0Ops0_3_writes h3).trans <|
  (after_of_writes_sub while0Ops0_2 _ while0Ops0_2_writes h2).trans <|
  (after_of_writes_sub while0Ops0_1 _ while0Ops0_1_writes h1).trans <|
  (after_of_writes_sub while0Ops0 _ while0Ops0_writes h0).trans <|
  after_of_writes_sub condOps _ condOps_writes hc

/-- And so do any number of rounds. -/
theorem loop_keeps (c : Dev nD) (r : Ref sig .tc) (hc : r ∉ condOps_W) (h0 : r ∉ while0Ops0_W) (h1 : r ∉ while0Ops0_1_W) (h2 : r ∉ while0Ops0_2_W) (h3 : r ∉ while0Ops0_3_W) :
    ∀ k, atK m k c (Proc.devRef .tc r) = entryContents preI m c (Proc.devRef .tc r)
  | 0 => rfl
  | k + 1 => (round_keeps _ r hc h0 h1 h2 h3).trans (loop_keeps c r hc h0 h1 h2 h3 k)

/-- Every buffer after the loop and the last run of its condition. -/
abbrev left (c : Dev nD) : Valuation τ sig (Elt F) := after condOps (atK m 128 c)

/-- What the loop does not write is, after it, what it was before it. -/
theorem left_keeps (c : Dev nD) (r : Ref sig .tc) (hc : r ∉ condOps_W := by decide) (h0 : r ∉ while0Ops0_W := by decide) (h1 : r ∉ while0Ops0_1_W := by decide) (h2 : r ∉ while0Ops0_2_W := by decide) (h3 : r ∉ while0Ops0_3_W := by decide) :
    left m c (Proc.devRef .tc r) = entryContents preI m c (Proc.devRef .tc r) :=
  (after_of_writes_sub condOps _ condOps_writes hc).trans (loop_keeps m c r hc h0 h1 h2 h3 128)

/-- A buffer that nothing before the loop writes is, at the loop's start, what it was at launch. -/
theorem entry_keeps (c : Dev nD) (r : Ref sig .tc) (h0 : r ∉ hostOps0_W := by decide) (h1 : r ∉ hostOps0_1_W := by decide) (h2 : r ∉ hostOps0_2_W := by decide) :
    entryContents preI m c (Proc.devRef .tc r) = m ((c : Thread nD τ).loc r) :=
  (after_of_writes_sub hostOps0_2 _ hostOps0_2_writes h2).trans <|
  (after_of_writes_sub hostOps0_1 _ hostOps0_1_writes h1).trans <|
  after_of_writes_sub hostOps0 _ hostOps0_writes h0

/-- A buffer that nothing after the loop writes is, at the end, what the loop left. -/
theorem final_keeps (c : Dev nD) (r : Ref sig .tc) (h3 : r ∉ written3 := by decide) (h4 : r ∉ written4 := by decide) (h5 : r ∉ written5 := by decide) :
    finalContents condOps preI bodyI postI 128 m c (Proc.devRef .tc r) = left m c (Proc.devRef .tc r) :=
  (after_of_writes_sub hostOps0_5 _ written5_all h5).trans <|
  (after_of_writes_sub hostOps0_4 _ written4_all h4).trans <|
  after_of_writes_sub hostOps0_3 _ written3_all h3

theorem arg0_left (c : Dev nD) : left m c (Proc.devRef .tc main_arg0) = m ((c : Thread nD τ).loc main_arg0) :=
  (left_keeps m c main_arg0).trans (entry_keeps m c main_arg0)
theorem arg1_left (c : Dev nD) : left m c (Proc.devRef .tc main_arg1) = m ((c : Thread nD τ).loc main_arg1) :=
  (left_keeps m c main_arg1).trans (entry_keeps m c main_arg1)
theorem arg2_left (c : Dev nD) : left m c (Proc.devRef .tc main_arg2) = m ((c : Thread nD τ).loc main_arg2) :=
  (left_keeps m c main_arg2).trans (entry_keeps m c main_arg2)
theorem arg3_left (c : Dev nD) : left m c (Proc.devRef .tc main_arg3) = m ((c : Thread nD τ).loc main_arg3) :=
  (left_keeps m c main_arg3).trans (entry_keeps m c main_arg3)
theorem arg4_left (c : Dev nD) : left m c (Proc.devRef .tc main_arg4) = m ((c : Thread nD τ).loc main_arg4) :=
  (left_keeps m c main_arg4).trans (entry_keeps m c main_arg4)
theorem arg5_left (c : Dev nD) : left m c (Proc.devRef .tc main_arg5) = m ((c : Thread nD τ).loc main_arg5) :=
  (left_keeps m c main_arg5).trans (entry_keeps m c main_arg5)

/-- The reference ends with its arguments as they were. -/
theorem frame_run : θ_run (defs (F := F)) (onTc (τ := τ) (main (F := F))) ⟨m, fun _ => 0, ρ⟩
    (fun r => ∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c main_arg0 rfl).trans ((final_keeps m c main_arg0).trans (arg0_left m c)), (h c main_arg1 rfl).trans ((final_keeps m c main_arg1).trans (arg1_left m c)), (h c main_arg2 rfl).trans ((final_keeps m c main_arg2).trans (arg2_left m c)), (h c main_arg3 rfl).trans ((final_keeps m c main_arg3).trans (arg3_left m c)), (h c main_arg4 rfl).trans ((final_keeps m c main_arg4).trans (arg4_left m c)), (h c main_arg5 rfl).trans ((final_keeps m c main_arg5).trans (arg5_left m c))⟩) (run_fold m ρ)

end Cert.RetReference

end
-- ==== Proof.RetForms.lean ====
/-
  The terms of the retention's reference: rotations, decays, scores, what a chunk adds to the state, and the output from the states.
-/
module

public import proofs.«01_k».proof.Proof.RetReference
public import Idealize.ShloMosaic.Lib.Pipeline.ValueKit
public import Idealize.ShloMosaic.Lib.Pointwise

@[expose] public section

set_option maxRecDepth 8192

namespace Cert.RetForms

open Cert.ReferenceIdeal Cert.ReferenceIdeal.Gen
open Idealize.ShloMosaic Idealize.ShloMosaic.TcCoe Idealize.ShloMosaic.StableHlo

/-- The angle of a position at a frequency. -/
noncomputable def angle : FVec Ideal S16384x64 .f32 :=
  (mulf (broadcastInDim S16384x64 ![0, 1] bcast_S16384x1_S16384x64_0_1 (sitofp .f32 (broadcastInDim S16384x1 ![0] bcast_S16384_S16384x1_0 (iotaInDim S16384 32 0)))) (broadcastInDim S16384x64 ![0, 1] bcast_S1x64_S16384x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))))))

/-- The rotated heads of a projection. -/
noncomputable def rotated (a : FVec Ideal S2x16384x1024 .f32) : FVec Ideal S2x16384x8x128 .f32 :=
  ((fun a b => concatenate S2x16384x8x128 3 [⟨S2x16384x8x64, a⟩, ⟨S2x16384x8x64, b⟩] concatenates_S2x16384x8x64_S2x16384x8x64_S2x16384x8x128_d3) (subf (mulf (extractStridedSlice S2x16384x8x64 ![0, 0, 0, 0] (shapeCast S2x16384x8x128 a shapeCasts_S2x16384x1024_S2x16384x8x128) slices_S2x16384x8x128_S2x16384x8x64_0_0_0_0) (broadcastInDim S2x16384x8x64 ![0, 1, 2, 3] bcast_S1x16384x1x64_S2x16384x8x64_0_1_2_3 (broadcastInDim S1x16384x1x64 ![1, 2, 3] bcast_S16384x1x64_S1x16384x1x64_1_2_3 (broadcastInDim S16384x1x64 ![0, 2] bcast_S16384x64_S16384x1x64_0_2 (Host.cos angle))))) (mulf (extractStridedSlice S2x16384x8x64 ![0, 0, 0, 64] (shapeCast S2x16384x8x128 a shapeCasts_S2x16384x1024_S2x16384x8x128) slices_S2x16384x8x128_S2x16384x8x64_0_0_0_64) (broadcastInDim S2x16384x8x64 ![0, 1, 2, 3] bcast_S1x16384x1x64_S2x16384x8x64_0_1_2_3 (broadcastInDim S1x16384x1x64 ![1, 2, 3] bcast_S16384x1x64_S1x16384x1x64_1_2_3 (broadcastInDim S16384x1x64 ![0, 2] bcast_S16384x64_S16384x1x64_0_2 (Host.sin angle)))))) (addf (mulf (extractStridedSlice S2x16384x8x64 ![0, 0, 0, 0] (shapeCast S2x16384x8x128 a shapeCasts_S2x16384x1024_S2x16384x8x128) slices_S2x16384x8x128_S2x16384x8x64_0_0_0_0) (broadcastInDim S2x16384x8x64 ![0, 1, 2, 3] bcast_S1x16384x1x64_S2x16384x8x64_0_1_2_3 (broadcastInDim S1x16384x1x64 ![1, 2, 3] bcast_S16384x1x64_S1x16384x1x64_1_2_3 (broadcastInDim S16384x1x64 ![0, 2] bcast_S16384x64_S16384x1x64_0_2 (Host.sin angle))))) (mulf (extractStridedSlice S2x16384x8x64 ![0, 0, 0, 64] (shapeCast S2x16384x8x128 a shapeCasts_S2x16384x1024_S2x16384x8x128) slices_S2x16384x8x128_S2x16384x8x64_0_0_0_64) (broadcastInDim S2x16384x8x64 ![0, 1, 2, 3] bcast_S1x16384x1x64_S2x16384x8x64_0_1_2_3 (broadcastInDim S1x16384x1x64 ![1, 2, 3] bcast_S16384x1x64_S1x16384x1x64_1_2_3 (broadcastInDim S16384x1x64 ![0, 2] bcast_S16384x64_S16384x1x64_0_2 (Host.cos angle)))))))

/-- The logarithm of each head's decay. -/
noncomputable def logDecay : FVec Ideal S8 .f32 :=
  (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0)))))))

/-- The rotated queries by chunk. -/
noncomputable def queries (a : FVec Ideal S2x16384x1024 .f32) : FVec Ideal S2x128x128x8x128 .f32 :=
  (shapeCast S2x128x128x8x128 (rotated a) shapeCasts_S2x16384x8x128_S2x128x128x8x128)

/-- The rotated and scaled keys by chunk. -/
noncomputable def keys (a : FVec Ideal S2x16384x1024 .f32) : FVec Ideal S2x128x128x8x128 .f32 :=
  (shapeCast S2x128x128x8x128 (mulf (rotated a) (broadcastInDim S2x16384x8x128 ![] bcast_S_S2x16384x8x128 (constant S_ .f32 0x3DB504F3#32))) shapeCasts_S2x16384x8x128_S2x128x128x8x128)

/-- The values by chunk. -/
noncomputable def values (a : FVec Ideal S2x16384x1024 .f32) : FVec Ideal S2x128x128x8x128 .f32 :=
  (shapeCast S2x128x128x8x128 (shapeCast S2x16384x8x128 a shapeCasts_S2x16384x1024_S2x16384x8x128) shapeCasts_S2x16384x8x128_S2x128x128x8x128)

/-- The decay between two positions of a chunk. -/
noncomputable def decayWithin : FVec Ideal S8x128x128 .f32 :=
  (select (broadcastInDim S8x128x128 ![1, 2] bcast_S128x128_S8x128x128_1_2 (cmpf (F := Ideal) .oge (subf (broadcastInDim S128x128 ![0, 1] bcast_S128x1_S128x128_0_1 (broadcastInDim S128x1 ![0] bcast_S128_S128x1_0 (sitofp .f32 (iotaInDim S128 32 0)))) (broadcastInDim S128x128 ![0, 1] bcast_S1x128_S128x128_0_1 (broadcastInDim S1x128 ![1] bcast_S128_S1x128_1 (sitofp .f32 (iotaInDim S128 32 0))))) (broadcastInDim S128x128 ![] bcast_S_S128x128 (constant S_ .f32 0x00000000#32)))) (Host.exp (mulf (broadcastInDim S8x128x128 ![0, 1, 2] bcast_S1x128x128_S8x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp .f32 (iotaInDim S128 32 0)))) (broadcastInDim S128x128 ![0, 1] bcast_S1x128_S128x128_0_1 (broadcastInDim S1x128 ![1] bcast_S128_S1x128_1 (sitofp .f32 (iotaInDim S128 32 0))))) (broadcastInDim S128x128 ![] bcast_S_S128x128 (constant S_ .f32 0x00000000#32))))) (broadcastInDim S8x128x128 ![0, 1, 2] bcast_S8x1x1_S8x128x128_0_1_2 (broadcastInDim S8x1x1 ![0] bcast_S8_S8x1x1_0 logDecay)))) (broadcastInDim S8x128x128 ![] bcast_S_S8x128x128 (id (constant S_ .f32 0x00000000#32))))

/-- The decay from a chunk's position to its end. -/
noncomputable def decayToEnd : FVec Ideal S8x128 .f32 :=
  (Host.exp (mulf (broadcastInDim S8x128 ![0, 1] bcast_S1x128_S8x128_0_1 (broadcastInDim S1x128 ![1] bcast_S128_S1x128_1 (subf (broadcastInDim S128 ![] bcast_S_S128 (constant S_ .f32 0x42FE0000#32)) (sitofp .f32 (iotaInDim S128 32 0))))) (broadcastInDim S8x128 ![0, 1] bcast_S8x1_S8x128_0_1 (broadcastInDim S8x1 ![0] bcast_S8_S8x1_0 logDecay))))

/-- The decay from a chunk's start to a position. -/
noncomputable def decayFromStart : FVec Ideal S8x128 .f32 :=
  (Host.exp (mulf (broadcastInDim S8x128 ![0, 1] bcast_S1x128_S8x128_0_1 (broadcastInDim S1x128 ![1] bcast_S128_S1x128_1 (addf (sitofp .f32 (iotaInDim S128 32 0)) (broadcastInDim S128 ![] bcast_S_S128 (constant S_ .f32 0x3F800000#32))))) (broadcastInDim S8x128 ![0, 1] bcast_S8x1_S8x128_0_1 (broadcastInDim S8x1 ![0] bcast_S8_S8x1_0 logDecay))))

/-- The decay over a chunk. -/
noncomputable def decayChunk : FVec Ideal S8 .f32 :=
  (Host.exp (mulf (broadcastInDim S8 ![] bcast_S_S8 (constant S_ .f32 0x43000000#32)) logDecay))

/-- The scores within a chunk. -/
noncomputable def scores (q k : FVec Ideal S2x16384x1024 .f32) : FVec Ideal S2x128x8x128x128 .f32 :=
  (mulf ((fun l r => Host.dotGeneral dot_S2x128x128x8x128_S2x128x128x8x128_S2x128x8x128x128_4_4_2_2_013_013 none l r) (queries q) (keys k)) (broadcastInDim S2x128x8x128x128 ![0, 1, 2, 3, 4] bcast_S1x1x8x128x128_S2x128x8x128x128_0_1_2_3_4 (broadcastInDim S1x1x8x128x128 ![2, 3, 4] bcast_S8x128x128_S1x1x8x128x128_2_3_4 decayWithin)))

/-- The part of the output that a chunk gives to itself. -/
noncomputable def within (q k v : FVec Ideal S2x16384x1024 .f32) : FVec Ideal S2x128x128x8x128 .f32 :=
  (transpose S2x128x128x8x128 [0, 1, 4, 2, 3] ((fun l r => Host.dotGeneral dot_S2x128x128x8x128_S2x128x8x128x128_S2x128x8x128x128_2_4_4_3_013_012 none l r) (values v) (scores q k)) transposes_S2x128x8x128x128_S2x128x128x8x128_0_1_4_2_3)

/-- What a chunk adds to the state. -/
noncomputable def chunkKv (k v : FVec Ideal S2x16384x1024 .f32) : FVec Ideal S128x2x8x128x128 .f32 :=
  (transpose S128x2x8x128x128 [1, 0, 2, 3, 4] ((fun l r => Host.dotGeneral dot_S2x128x128x8x128_S2x128x128x8x128_S2x128x8x128x128_2_2_4_4_013_013 none l r) (mulf (keys k) (broadcastInDim S2x128x128x8x128 ![0, 1, 2, 3, 4] bcast_S1x1x128x8x1_S2x128x128x8x128_0_1_2_3_4 (broadcastInDim S1x1x128x8x1 ![2, 3] bcast_S128x8_S1x1x128x8x1_2_3 (transpose S128x8 [1, 0] decayToEnd transposes_S8x128_S128x8_1_0)))) (values v)) transposes_S2x128x8x128x128_S128x2x8x128x128_1_0_2_3_4)

/-- The output before its norm, from the states before the chunks. -/
noncomputable def mixed (q k v : FVec Ideal S2x16384x1024 .f32) (R : FVec Ideal S128x2x8x128x128 .f32) : FVec Ideal S2x16384x8x128 .f32 :=
  (shapeCast S2x16384x8x128 (addf (within q k v) (transpose S2x128x128x8x128 [0, 1, 4, 2, 3] ((fun l r => Host.dotGeneral dot_S2x128x8x128x128_S2x128x128x8x128_S2x128x8x128x128_3_4_4_2_012_013 none l r) (transpose S2x128x8x128x128 [1, 0, 2, 3, 4] R transposes_S128x2x8x128x128_S2x128x8x128x128_1_0_2_3_4) (mulf (queries q) (broadcastInDim S2x128x128x8x128 ![0, 1, 2, 3, 4] bcast_S1x1x128x8x1_S2x128x128x8x128_0_1_2_3_4 (broadcastInDim S1x1x128x8x1 ![2, 3] bcast_S128x8_S1x1x128x8x1_2_3 (transpose S128x8 [1, 0] decayFromStart transposes_S8x128_S128x8_1_0))))) transposes_S2x128x8x128x128_S2x128x128x8x128_0_1_4_2_3)) shapeCasts_S2x128x128x8x128_S2x16384x8x128)

/-- The norm of each head of an array of outputs. -/
noncomputable def headNorm (y : FVec Ideal S2x16384x8x128 .f32) : FVec Ideal S2x16384x8x128 .f32 :=
  (mulf (subf y (broadcastInDim S2x16384x8x128 ![0, 1, 2, 3] bcast_S2x16384x8x1_S2x16384x8x128_0_1_2_3 (Host.divf (broadcastInDim S2x16384x8x1 ![0, 1, 2] bcast_S2x16384x8_S2x16384x8x1_0_1_2 ((fun x v => Host.reduceAdd x v reducesTo_S2x16384x8x128_S2x16384x8_d3 h_S_) y (constant S_ .f32 0x00000000#32))) (broadcastInDim S2x16384x8x1 ![] bcast_S_S2x16384x8x1 (constant S_ .f32 0x43000000#32))))) (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 ((fun x v => Host.reduceAdd x v reducesTo_S2x16384x8x128_S2x16384x8_d3 h_S_) (mulf (subf y (broadcastInDim S2x16384x8x128 ![0, 1, 2, 3] bcast_S2x16384x8x1_S2x16384x8x128_0_1_2_3 (Host.divf (broadcastInDim S2x16384x8x1 ![0, 1, 2] bcast_S2x16384x8_S2x16384x8x1_0_1_2 ((fun x v => Host.reduceAdd x v reducesTo_S2x16384x8x128_S2x16384x8_d3 h_S_) y (constant S_ .f32 0x00000000#32))) (broadcastInDim S2x16384x8x1 ![] bcast_S_S2x16384x8x1 (constant S_ .f32 0x43000000#32))))) (subf y (broadcastInDim S2x16384x8x128 ![0, 1, 2, 3] bcast_S2x16384x8x1_S2x16384x8x128_0_1_2_3 (Host.divf (broadcastInDim S2x16384x8x1 ![0, 1, 2] bcast_S2x16384x8_S2x16384x8x1_0_1_2 ((fun x v => Host.reduceAdd x v reducesTo_S2x16384x8x128_S2x16384x8_d3 h_S_) y (constant S_ .f32 0x00000000#32))) (broadcastInDim S2x16384x8x1 ![] bcast_S_S2x16384x8x1 (constant S_ .f32 0x43000000#32)))))) (constant S_ .f32 0x00000000#32))) (broadcastInDim S2x16384x8x1 ![] bcast_S_S2x16384x8x1 (constant S_ .f32 0x43000000#32))) (broadcastInDim S2x16384x8x1 ![] bcast_S_S2x16384x8x1 (constant S_ .f32 0x3727C5AC#32))))))

/-- The result: the normed output with its gain and bias, times the gate. -/
noncomputable def gated (y : FVec Ideal S2x16384x8x128 .f32) (gate : FVec Ideal S2x16384x1024 .f32) (gain bias : FVec Ideal S1024 .f32) : FVec Ideal S2x16384x1024 .bf16 :=
  (truncf .bf16 (mulf (mulf gate (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf gate))))) (addf (mulf (shapeCast S2x16384x1024 (headNorm y) shapeCasts_S2x16384x8x128_S2x16384x1024) (broadcastInDim S2x16384x1024 ![0, 1, 2] bcast_S1x1x1024_S2x16384x1024_0_1_2 (broadcastInDim S1x1x1024 ![2] bcast_S1024_S1x1x1024_2 gain))) (broadcastInDim S2x16384x1024 ![0, 1, 2] bcast_S1x1x1024_S2x16384x1024_0_1_2 (broadcastInDim S1x1x1024 ![2] bcast_S1024_S1x1x1024_2 bias)))) bitsLt_bf16_f32)

end Cert.RetForms
-- ==== Proof.RetTables.lean ====
/-
  The arrays that the retention's kernel reads: what the host computes before the launch.
-/
module

public import proofs.«01_k».proof.Proof.RetForms
public import proofs.«01_k».proof.Proof.Gen.KernelIdeal.Value

@[expose] public section

set_option maxRecDepth 8192

noncomputable section

namespace Cert.RetTables

open Cert.KernelIdeal Cert.KernelIdeal.Gen
open Cert.RetForms (angle decayWithin decayToEnd decayFromStart decayChunk)
open Idealize.ShloMosaic Idealize.ShloMosaic.TcCoe Idealize.ShloMosaic.StableHlo

section forms

/-- The four projections side by side, rounded. -/
def packed (q k v g : FVec Ideal S2x16384x1024 .f32) : FVec Ideal S2x16384x4096 .bf16 :=
  truncf .bf16 (concatenate S2x16384x4096 2 [⟨S2x16384x1024, q⟩, ⟨S2x16384x1024, k⟩, ⟨S2x16384x1024, v⟩, ⟨S2x16384x1024, g⟩]
    concatenates_S2x16384x1024_S2x16384x1024_S2x16384x1024_S2x16384x1024_S2x16384x4096_d2) bitsLt_bf16_f32

/-- The cosines, twice. -/
def cosines : FVec Ideal S16384x128 .f32 :=
  concatenate S16384x128 1 [⟨S16384x64, Host.cos angle⟩, ⟨S16384x64, Host.cos angle⟩] concatenates_S16384x64_S16384x64_S16384x128_d1

/-- The negated sines, then the sines. -/
def sines : FVec Ideal S16384x128 .f32 :=
  concatenate S16384x128 1 [⟨S16384x64, Host.negf (Host.sin angle)⟩, ⟨S16384x64, Host.sin angle⟩] concatenates_S16384x64_S16384x64_S16384x128_d1

/-- A decay of a position, in every channel. -/
def spread (x : FVec Ideal S8x128 .f32) : FVec Ideal S8x128x128 .f32 :=
  broadcastInDim S8x128x128 ![0, 1, 2] bcast_S8x128x1_S8x128x128_0_1_2 (broadcastInDim S8x128x1 ![0, 1] bcast_S8x128_S8x128x1_0_1 x)

/-- A decay of a head, in every channel. -/
def spreadHead (x : FVec Ideal S8 .f32) : FVec Ideal S8x1x128 .f32 :=
  broadcastInDim S8x1x128 ![0, 1, 2] bcast_S8x1x1_S8x1x128_0_1_2 (broadcastInDim S8x1x1 ![0] bcast_S8_S8x1x1_0 x)

/-- A vector of channels as a row. -/
def row (x : FVec Ideal S1024 .f32) : FVec Ideal S1x1024 .f32 := shapeCast S1x1024 x shapeCasts_S1024_S1x1024

theorem packed_q (q k v g : FVec Ideal S2x16384x1024 .f32) (b : Fin 2) (p : Fin 16384) (x : Fin 1024) :
    packed q k v g (ix3 b p ⟨x, by omega⟩) = q (ix3 b p x) := by
  pointwise [packed]

theorem packed_k (q k v g : FVec Ideal S2x16384x1024 .f32) (b : Fin 2) (p : Fin 16384) (x : Fin 1024) :
    packed q k v g (ix3 b p ⟨1024 + x, by omega⟩) = k (ix3 b p x) := by
  pointwise [packed]

theorem packed_v (q k v g : FVec Ideal S2x16384x1024 .f32) (b : Fin 2) (p : Fin 16384) (x : Fin 1024) :
    packed q k v g (ix3 b p ⟨2048 + x, by omega⟩) = v (ix3 b p x) := by
  pointwise [packed]
  rw [dif_neg (by omega), dif_neg (by omega), dif_pos (by omega)]
  refine congrArg v (congrArg (ix3 b p) (Fin.ext ?_))
  show 2048 + (x : ℕ) - 1024 - 1024 = x
  omega

theorem packed_g (q k v g : FVec Ideal S2x16384x1024 .f32) (b : Fin 2) (p : Fin 16384) (x : Fin 1024) :
    packed q k v g (ix3 b p ⟨3072 + x, by omega⟩) = g (ix3 b p x) := by
  pointwise [packed]
  rw [dif_neg (by omega), dif_neg (by omega), dif_neg (by omega)]
  refine congrArg g (congrArg (ix3 b p) (Fin.ext ?_))
  show 3072 + (x : ℕ) - 1024 - 1024 - 1024 = x
  omega

theorem cosines_at (p : Fin 16384) (d : Fin 128) :
    cosines (ix2 p d) = Ideal.cos (angle (ix2 p ⟨d % 64, by omega⟩)) := by
  pointwise [cosines]
  split
  · refine congrArg (fun z => Ideal.cos (angle (ix2 p z))) (Fin.ext ?_)
    show (d : ℕ) = (d : ℕ) % 64
    omega
  · refine congrArg (fun z => Ideal.cos (angle (ix2 p z))) (Fin.ext ?_)
    show (d : ℕ) - 64 = (d : ℕ) % 64
    omega

theorem sines_low (p : Fin 16384) (d : Fin 128) (hd : (d : ℕ) < 64) :
    sines (ix2 p d) = -Ideal.sin (angle (ix2 p ⟨d % 64, by omega⟩)) := by
  pointwise [sines]
  rw [dif_pos hd]
  refine congrArg (fun z => -Ideal.sin (angle (ix2 p z))) (Fin.ext ?_)
  show (d : ℕ) = (d : ℕ) % 64
  omega

theorem sines_high (p : Fin 16384) (d : Fin 128) (hd : ¬(d : ℕ) < 64) :
    sines (ix2 p d) = Ideal.sin (angle (ix2 p ⟨d % 64, by omega⟩)) := by
  pointwise [sines]
  rw [dif_neg hd]
  refine congrArg (fun z => Ideal.sin (angle (ix2 p z))) (Fin.ext ?_)
  show (d : ℕ) - 64 = (d : ℕ) % 64
  omega

theorem spread_at (x : FVec Ideal S8x128 .f32) (h : Fin 8) (i d : Fin 128) : spread x (ix3 h i d) = x (ix2 h i) := by
  pointwise [spread]

theorem spreadHead_at (x : FVec Ideal S8 .f32) (h : Fin 8) (d : Fin 128) : spreadHead x (ix3 h 0 d) = x (ix1 h) := by
  pointwise [spreadHead]

theorem row_at (x : FVec Ideal S1024 .f32) (d : Fin 1024) : row x (ix2 0 d) = x (ix1 d) := by
  pointwise [row]

end forms

variable (m : (ℓ : Loc nD τ sig) → Buf (Elt Ideal) ℓ) (c : Dev nD)

/-- Every buffer at the launch, stretch by stretch. -/
theorem launch_eq (r : Ref sig .tc) :
    V m c r = after hostOps0_2 (after hostOps0_1 (after hostOps0 (fun b => m (c, b)))) (Proc.devRef .tc r) := rfl

set_option maxHeartbeats 4000000 in
theorem at_packed : V m c main_v1 = packed (m ((c : Thread nD τ).loc main_arg0)) (m ((c : Thread nD τ).loc main_arg1))
    (m ((c : Thread nD τ).loc main_arg2)) (m ((c : Thread nD τ).loc main_arg3)) := by
  rw [launch_eq]
  after_results
  rfl

set_option maxHeartbeats 4000000 in
theorem at_cosines : V m c main_v21 = cosines := by
  rw [launch_eq]
  after_results
  rfl

set_option maxHeartbeats 4000000 in
theorem at_sines : V m c main_v23 = sines := by
  rw [launch_eq]
  after_results
  rfl

set_option maxHeartbeats 4000000 in
theorem at_within : V m c main_v48 = decayWithin := by
  rw [launch_eq]
  after_results
  rfl

set_option maxHeartbeats 4000000 in
theorem at_fromStart : V m c main_v69 = spread decayFromStart := by
  rw [launch_eq]
  after_results
  rfl

set_option maxHeartbeats 4000000 in
theorem at_toEnd : V m c main_v71 = spread decayToEnd := by
  rw [launch_eq]
  after_results
  rfl

set_option maxHeartbeats 4000000 in
theorem at_chunk : V m c main_v73 = spreadHead decayChunk := by
  rw [launch_eq]
  after_results
  rfl

set_option maxHeartbeats 4000000 in
theorem at_gain : V m c main_v74 = row (m ((c : Thread nD τ).loc main_arg4)) := by
  rw [launch_eq]
  after_results
  rfl

set_option maxHeartbeats 4000000 in
theorem at_bias : V m c main_v75 = row (m ((c : Thread nD τ).loc main_arg5)) := by
  rw [launch_eq]
  after_results
  rfl

end Cert.RetTables

end
-- ==== Proof.RetStep.lean ====
module
public import proofs.«01_k».proof.Proof.Gen.KernelIdeal.Value
public import Idealize.ShloMosaic.Lib.Pipeline.ReadBack
public import Idealize.ShloMosaic.Lib.WholeRead

/-! # One chunk and one head of the retention kernel

A grid point of the retention kernel handles a tile of 1024 positions for two heads, as eight chunks of 128 positions. For every chunk
and head the kernel does the same thing: it reads the chunk's queries, keys, values and gates, reads the head's state, computes the chunk's
output and the head's next state, and stores both. `stepOut` and `stepState` are that computation, `stateAt` is the state before a chunk, and
the theorems say that the stores found in a run of the body are these terms for all sixteen pairs. -/

@[expose] public section
namespace Cert.RetentionStep
open Idealize.ShloMosaic
open Cert.KernelIdeal Cert.KernelIdeal.Gen
variable {F : FTy → Type} [FloatOps F]

/-- What a grid point loads, by chunk and by head of the pair. -/
structure Loads (F : FTy → Type) where
  q : ℕ → ℕ → Vec F S1x128x128 .bf16
  k : ℕ → ℕ → Vec F S1x128x128 .bf16
  v : ℕ → ℕ → Vec F S1x128x128 .bf16
  gate : ℕ → ℕ → Vec F S1x128x128 .bf16
  cos : ℕ → Vec F S128x128 .f32
  sin : ℕ → Vec F S128x128 .f32
  dmat : ℕ → Vec F S1x128x128 .f32
  qdec : ℕ → Vec F S1x128x128 .f32
  kdec : ℕ → Vec F S1x128x128 .f32
  cdec : ℕ → Vec F S1x1x128 .f32
  gain : ℕ → Vec F S1x128 .f32
  bias : ℕ → Vec F S1x128 .f32

/-- The state after a chunk, from the state before it. -/
noncomputable def stepState (T : Loads F) (n h : ℕ) (s : Vec F S1x128x128 .f32) : Vec F S1x128x128 .f32 :=
  k0_pay10 (k0_pay6 (T.cos n) (T.sin n) (T.k n h)) (k0_pay7 (T.v n h)) s (T.cdec h) (T.kdec h)

/-- The output of a chunk, from the state before it. -/
noncomputable def stepOut (T : Loads F) (n h : ℕ) (s : Vec F S1x128x128 .f32) : Vec F S1x128x128 .bf16 :=
  k0_pay13
    (k0_pay11 (k0_pay5 (T.cos n) (T.sin n) (T.q n h)) (k0_pay7 (T.v n h)) (k0_pay8 (T.cos n) (T.sin n) (T.q n h) (T.k n h) (T.dmat h)) s (T.qdec h))
    (k0_pay12 (k0_pay5 (T.cos n) (T.sin n) (T.q n h)) (k0_pay7 (T.v n h)) (k0_pay8 (T.cos n) (T.sin n) (T.q n h) (T.k n h) (T.dmat h)) s (T.qdec h))
    (T.gain h) (T.bias h) (T.gate n h)

/-- The state before chunk `n` of a tile, from the states `s` the tile starts with. -/
noncomputable def stateAt (T : Loads F) (s : ℕ → Vec F S1x128x128 .f32) (h : ℕ) : ℕ → Vec F S1x128x128 .f32
  | 0 => s h
  | n + 1 => stepState T n h (stateAt T s h n)

/-- The rectangle of chunk `n` and head `h` in a tile. -/
abbrev rectTile (n h : ℕ) : Rect S1x1024x256 :=
  Rect.unit ![0, 128 * (n % 8), 128 * (h % 2)] S1x128x128.size (by
    intro a; fin_cases a
    · exact Nat.le_refl 1
    · show 128 * (n % 8) + 128 ≤ 1024; omega
    · show 128 * (h % 2) + 128 ≤ 256; omega)

/-- The rows of chunk `n` in a table of a tile's positions. -/
abbrev rectRows (n : ℕ) : Rect S1024x128 :=
  Rect.unit ![128 * (n % 8), 0] S128x128.size (by
    intro a; fin_cases a
    · show 128 * (n % 8) + 128 ≤ 1024; omega
    · exact Nat.le_refl 128)

/-- The plane of head `h` in a table of the pair. -/
abbrev rectHead (h : ℕ) : Rect S2x128x128 :=
  Rect.unit ![h % 2, 0, 0] S1x128x128.size (by
    intro a; fin_cases a
    · show h % 2 + 1 ≤ 2; omega
    · exact Nat.le_refl 128
    · exact Nat.le_refl 128)

/-- The row of head `h` in a table of the pair. -/
abbrev rectRow (h : ℕ) : Rect S2x1x128 :=
  Rect.unit ![h % 2, 0, 0] S1x1x128.size (by
    intro a; fin_cases a
    · show h % 2 + 1 ≤ 2; omega
    · exact Nat.le_refl 1
    · exact Nat.le_refl 128)

/-- The channels of head `h` in a row of the pair's channels. -/
abbrev rectChan (h : ℕ) : Rect S1x256 :=
  Rect.unit ![0, 128 * (h % 2)] S1x128.size (by
    intro a; fin_cases a
    · exact Nat.le_refl 1
    · show 128 * (h % 2) + 128 ≤ 256; omega)

/-- The loads out of the point's blocks. -/
noncomputable def loads (x0 x1 x2 x3 : Vec F S1x1024x256 .bf16) (x4 x5 : Vec F S1024x128 .f32) (x6 x7 x8 : Vec F S2x128x128 .f32)
    (x9 : Vec F S2x1x128 .f32) (x10 x11 : Vec F S1x256 .f32) : Loads F where
  q n h := View.ld x0 (rectTile n h)
  k n h := View.ld x1 (rectTile n h)
  v n h := View.ld x2 (rectTile n h)
  gate n h := View.ld x3 (rectTile n h)
  cos n := View.ld x4 (rectRows n)
  sin n := View.ld x5 (rectRows n)
  dmat h := View.ld x6 (rectHead h)
  qdec h := View.ld x7 (rectHead h)
  kdec h := View.ld x8 (rectHead h)
  cdec h := View.ld x9 (rectRow h)
  gain h := View.ld x10 (rectChan h)
  bias h := View.ld x11 (rectChan h)

end Cert.RetentionStep
-- ==== Proof.RetPoint.lean ====
/-
  The terms of the retention's reference at an index.
-/
module

public import proofs.«01_k».proof.Proof.RetForms

@[expose] public section

set_option maxRecDepth 8192

namespace Cert.RetForms

open Cert.ReferenceIdeal Cert.ReferenceIdeal.Gen
open Idealize.ShloMosaic Idealize.ShloMosaic.TcCoe Idealize.ShloMosaic.StableHlo

/-- A rotated head: the first half of its channels. -/
theorem rotated_low (a : FVec Ideal S2x16384x1024 .f32) (b : Fin 2) (p : Fin 16384) (h : Fin 8) (d : Fin 128) (hd : (d : ℕ) < 64) :
    rotated a (ix4 b p h d)
      = a (ix3 b p ⟨h * 128 + d, by omega⟩) * Ideal.cos (angle (ix2 p ⟨d, hd⟩))
        - a (ix3 b p ⟨h * 128 + (64 + d), by omega⟩) * Ideal.sin (angle (ix2 p ⟨d, hd⟩)) := by
  pointwise [rotated]
  exact dif_pos hd

/-- A rotated head: the second half of its channels. -/
theorem rotated_high (a : FVec Ideal S2x16384x1024 .f32) (b : Fin 2) (p : Fin 16384) (h : Fin 8) (d : Fin 128) (hd : ¬(d : ℕ) < 64) :
    rotated a (ix4 b p h d)
      = a (ix3 b p ⟨h * 128 + (d - 64), by omega⟩) * Ideal.sin (angle (ix2 p ⟨d - 64, by omega⟩))
        + a (ix3 b p ⟨h * 128 + (64 + (d - 64)), by omega⟩) * Ideal.cos (angle (ix2 p ⟨d - 64, by omega⟩)) := by
  pointwise [rotated]
  exact dif_neg hd

theorem queries_at (a : FVec Ideal S2x16384x1024 .f32) (b : Fin 2) (n i : Fin 128) (h : Fin 8) (d : Fin 128) :
    queries a (ix5 b n i h d) = rotated a (ix4 b ⟨n * 128 + i, by omega⟩ h d) := by
  pointwise [queries]

theorem keys_at (a : FVec Ideal S2x16384x1024 .f32) (b : Fin 2) (n i : Fin 128) (h : Fin 8) (d : Fin 128) :
    keys a (ix5 b n i h d) = rotated a (ix4 b ⟨n * 128 + i, by omega⟩ h d) * Ideal.ofBits FTy.f32 0x3DB504F3#32 := by
  pointwise [keys]

theorem values_at (a : FVec Ideal S2x16384x1024 .f32) (b : Fin 2) (n i : Fin 128) (h : Fin 8) (d : Fin 128) :
    values a (ix5 b n i h d) = a (ix3 b ⟨n * 128 + i, by omega⟩ ⟨h * 128 + d, by omega⟩) := by
  pointwise [values]

/-- A table of the heads and pairs of positions, repeated over sequences and chunks. -/
theorem pairs_at (t : FVec Ideal S8x128x128 .f32) (b : Fin 2) (n : Fin 128) (h : Fin 8) (x y : Fin 128) :
    broadcastInDim S2x128x8x128x128 ![0, 1, 2, 3, 4] bcast_S1x1x8x128x128_S2x128x8x128x128_0_1_2_3_4 (broadcastInDim S1x1x8x128x128 ![2, 3, 4] bcast_S8x128x128_S1x1x8x128x128_2_3_4 t) (ix5 b n h x y) = t (ix3 h x y) := by
  have h0 : ∀ i : S2x128x8x128x128.Idx, broadcastInDim S2x128x8x128x128 ![0, 1, 2, 3, 4] bcast_S1x1x8x128x128_S2x128x8x128x128_0_1_2_3_4 (broadcastInDim S1x1x8x128x128 ![2, 3, 4] bcast_S8x128x128_S1x1x8x128x128_2_3_4 t) i = t (ix3 (i 2) (i 3) (i 4)) := by
    intro i
    have h1 : ∀ (u : FVec Ideal S1x1x8x128x128 .f32) (i : S2x128x8x128x128.Idx), broadcastInDim S2x128x8x128x128 ![0, 1, 2, 3, 4] bcast_S1x1x8x128x128_S2x128x8x128x128_0_1_2_3_4 u i = u (ix5 0 0 (i 2) (i 3) (i 4)) := by
      intro u i; pointwise []
    have h2 : ∀ (t : FVec Ideal S8x128x128 .f32) (i : S1x1x8x128x128.Idx), broadcastInDim S1x1x8x128x128 ![2, 3, 4] bcast_S8x128x128_S1x1x8x128x128_2_3_4 t i = t (ix3 (i 2) (i 3) (i 4)) := by
      intro t i; pointwise []
    exact (h1 _ i).trans (h2 t _)
  exact h0 _

/-- A table of the heads and positions, repeated over sequences, chunks and channels. -/
theorem rows_at (t : FVec Ideal S8x128 .f32) (b : Fin 2) (n x : Fin 128) (h : Fin 8) (d : Fin 128) :
    broadcastInDim S2x128x128x8x128 ![0, 1, 2, 3, 4] bcast_S1x1x128x8x1_S2x128x128x8x128_0_1_2_3_4 (broadcastInDim S1x1x128x8x1 ![2, 3] bcast_S128x8_S1x1x128x8x1_2_3 (transpose S128x8 [1, 0] t transposes_S8x128_S128x8_1_0)) (ix5 b n x h d) = t (ix2 h x) := by
  have h0 : ∀ i : S2x128x128x8x128.Idx, broadcastInDim S2x128x128x8x128 ![0, 1, 2, 3, 4] bcast_S1x1x128x8x1_S2x128x128x8x128_0_1_2_3_4 (broadcastInDim S1x1x128x8x1 ![2, 3] bcast_S128x8_S1x1x128x8x1_2_3 (transpose S128x8 [1, 0] t transposes_S8x128_S128x8_1_0)) i = t (ix2 (i 3) (i 2)) := by
    intro i
    have h1 : ∀ (u : FVec Ideal S1x1x128x8x1 .f32) (i : S2x128x128x8x128.Idx), broadcastInDim S2x128x128x8x128 ![0, 1, 2, 3, 4] bcast_S1x1x128x8x1_S2x128x128x8x128_0_1_2_3_4 u i = u (ix5 0 0 (i 2) (i 3) 0) := by
      intro u i; pointwise []
    have h2 : ∀ (t : FVec Ideal S128x8 .f32) (i : S1x1x128x8x1.Idx), broadcastInDim S1x1x128x8x1 ![2, 3] bcast_S128x8_S1x1x128x8x1_2_3 t i = t (ix2 (i 2) (i 3)) := by
      intro t i; pointwise []
    have h3 : ∀ (t : FVec Ideal S8x128 .f32) (i : S128x8.Idx), transpose S128x8 [1, 0] t transposes_S8x128_S128x8_1_0 i = t (ix2 (i 1) (i 0)) := by
      intro t i; pointwise []
    exact ((h1 _ i).trans (h2 _ _)).trans (h3 t _)
  exact h0 _

theorem dot_scores (a b : FVec Ideal S2x128x128x8x128 .f32) (b1 : Fin 2) (n1 : Fin 128) (h1 : Fin 8) (x1 y1 : Fin 128) :
    Host.dotGeneral dot_S2x128x128x8x128_S2x128x128x8x128_S2x128x8x128x128_4_4_2_2_013_013 none a b (ix5 b1 n1 h1 x1 y1)
      = ∑ x, a (ix5 b1 n1 x1 h1 x) * b (ix5 b1 n1 y1 h1 x) := by
  have h0 : ∀ i : S2x128x8x128x128.Idx, Host.dotGeneral dot_S2x128x128x8x128_S2x128x128x8x128_S2x128x8x128x128_4_4_2_2_013_013 none a b i
      = ∑ x, a (ix5 (i 0) (i 1) (i 3) (i 2) x) * b (ix5 (i 0) (i 1) (i 4) (i 2) x) := by
    intro i
    pointwise []
  exact h0 _

theorem dot_kv (a b : FVec Ideal S2x128x128x8x128 .f32) (b1 : Fin 2) (n1 : Fin 128) (h1 : Fin 8) (x1 y1 : Fin 128) :
    Host.dotGeneral dot_S2x128x128x8x128_S2x128x128x8x128_S2x128x8x128x128_2_2_4_4_013_013 none a b (ix5 b1 n1 h1 x1 y1)
      = ∑ x, a (ix5 b1 n1 x h1 x1) * b (ix5 b1 n1 x h1 y1) := by
  have h0 : ∀ i : S2x128x8x128x128.Idx, Host.dotGeneral dot_S2x128x128x8x128_S2x128x128x8x128_S2x128x8x128x128_2_2_4_4_013_013 none a b i
      = ∑ x, a (ix5 (i 0) (i 1) x (i 2) (i 3)) * b (ix5 (i 0) (i 1) x (i 2) (i 4)) := by
    intro i
    pointwise []
  exact h0 _

theorem dot_cross (a : FVec Ideal S2x128x8x128x128 .f32) (b : FVec Ideal S2x128x128x8x128 .f32) (b1 : Fin 2) (n1 : Fin 128) (h1 : Fin 8) (x1 y1 : Fin 128) :
    Host.dotGeneral dot_S2x128x8x128x128_S2x128x128x8x128_S2x128x8x128x128_3_4_4_2_012_013 none a b (ix5 b1 n1 h1 x1 y1)
      = ∑ x, a (ix5 b1 n1 h1 x x1) * b (ix5 b1 n1 y1 h1 x) := by
  have h0 : ∀ i : S2x128x8x128x128.Idx, Host.dotGeneral dot_S2x128x8x128x128_S2x128x128x8x128_S2x128x8x128x128_3_4_4_2_012_013 none a b i
      = ∑ x, a (ix5 (i 0) (i 1) (i 2) x (i 3)) * b (ix5 (i 0) (i 1) (i 4) (i 2) x) := by
    intro i
    pointwise []
  exact h0 _

theorem dot_within (a : FVec Ideal S2x128x128x8x128 .f32) (b : FVec Ideal S2x128x8x128x128 .f32) (b1 : Fin 2) (n1 : Fin 128) (h1 : Fin 8) (x1 y1 : Fin 128) :
    Host.dotGeneral dot_S2x128x128x8x128_S2x128x8x128x128_S2x128x8x128x128_2_4_4_3_013_012 none a b (ix5 b1 n1 h1 x1 y1)
      = ∑ x, a (ix5 b1 n1 x h1 x1) * b (ix5 b1 n1 h1 y1 x) := by
  have h0 : ∀ i : S2x128x8x128x128.Idx, Host.dotGeneral dot_S2x128x128x8x128_S2x128x8x128x128_S2x128x8x128x128_2_4_4_3_013_012 none a b i
      = ∑ x, a (ix5 (i 0) (i 1) x (i 2) (i 3)) * b (ix5 (i 0) (i 1) (i 2) (i 4) x) := by
    intro i
    pointwise []
  exact h0 _

theorem chunks_first (u : FVec Ideal S2x128x8x128x128 .f32) (n1 : Fin 128) (b1 : Fin 2) (h1 : Fin 8) (x1 y1 : Fin 128) :
    transpose S128x2x8x128x128 [1, 0, 2, 3, 4] u transposes_S2x128x8x128x128_S128x2x8x128x128_1_0_2_3_4 (ix5 n1 b1 h1 x1 y1) = u (ix5 b1 n1 h1 x1 y1) := by
  have h0 : ∀ i : S128x2x8x128x128.Idx, transpose S128x2x8x128x128 [1, 0, 2, 3, 4] u transposes_S2x128x8x128x128_S128x2x8x128x128_1_0_2_3_4 i = u (ix5 (i 1) (i 0) (i 2) (i 3) (i 4)) := by
    intro i
    pointwise []
  exact h0 _

theorem sequences_first (u : FVec Ideal S128x2x8x128x128 .f32) (b1 : Fin 2) (n1 : Fin 128) (h1 : Fin 8) (x1 y1 : Fin 128) :
    transpose S2x128x8x128x128 [1, 0, 2, 3, 4] u transposes_S128x2x8x128x128_S2x128x8x128x128_1_0_2_3_4 (ix5 b1 n1 h1 x1 y1) = u (ix5 n1 b1 h1 x1 y1) := by
  have h0 : ∀ i : S2x128x8x128x128.Idx, transpose S2x128x8x128x128 [1, 0, 2, 3, 4] u transposes_S128x2x8x128x128_S2x128x8x128x128_1_0_2_3_4 i = u (ix5 (i 1) (i 0) (i 2) (i 3) (i 4)) := by
    intro i
    pointwise []
  exact h0 _

theorem positions_second (u : FVec Ideal S2x128x8x128x128 .f32) (b1 : Fin 2) (n1 x1 : Fin 128) (h1 : Fin 8) (y1 : Fin 128) :
    transpose S2x128x128x8x128 [0, 1, 4, 2, 3] u transposes_S2x128x8x128x128_S2x128x128x8x128_0_1_4_2_3 (ix5 b1 n1 x1 h1 y1) = u (ix5 b1 n1 h1 y1 x1) := by
  have h0 : ∀ i : S2x128x128x8x128.Idx, transpose S2x128x128x8x128 [0, 1, 4, 2, 3] u transposes_S2x128x8x128x128_S2x128x128x8x128_0_1_4_2_3 i = u (ix5 (i 0) (i 1) (i 3) (i 4) (i 2)) := by
    intro i
    pointwise []
  exact h0 _

theorem unchunk (u : FVec Ideal S2x128x128x8x128 .f32) (b : Fin 2) (n i : Fin 128) (h : Fin 8) (d : Fin 128) :
    shapeCast S2x16384x8x128 u shapeCasts_S2x128x128x8x128_S2x16384x8x128 (ix4 b ⟨n * 128 + i, by omega⟩ h d) = u (ix5 b n i h d) := by
  have h1 : ∀ j : S2x16384x8x128.Idx, shapeCast S2x16384x8x128 u shapeCasts_S2x128x128x8x128_S2x16384x8x128 j
      = u (ix5 (j 0) ⟨(j 1 : ℕ) / 128, by have := (j 1).isLt; change (j 1 : ℕ) < 16384 at this; omega⟩ ⟨(j 1 : ℕ) % 128, by omega⟩ (j 2) (j 3)) := by
    intro j; pointwise []
  rw [h1]
  congr 1
  have e1 : (n * 128 + i : ℕ) / 128 = n := by omega
  have e2 : (n * 128 + i : ℕ) % 128 = i := by omega
  show ix5 b ⟨(n * 128 + i : ℕ) / 128, _⟩ ⟨(n * 128 + i : ℕ) % 128, _⟩ h d = _
  congr 1
  · exact Fin.ext e1
  · exact Fin.ext e2

theorem mulf_at {S : Shape} {f : FTy} (a b : FVec Ideal S f) (i : S.Idx) : mulf a b i = a i * b i := rfl
theorem addf_at {S : Shape} {f : FTy} (a b : FVec Ideal S f) (i : S.Idx) : addf a b i = a i + b i := rfl

theorem scores_at (q k : FVec Ideal S2x16384x1024 .f32) (b : Fin 2) (n : Fin 128) (h : Fin 8) (i j : Fin 128) :
    scores q k (ix5 b n h i j) = (∑ x, queries q (ix5 b n i h x) * keys k (ix5 b n j h x)) * decayWithin (ix3 h i j) := by
  unfold scores
  beta_reduce
  rw [mulf_at, pairs_at, dot_scores]

theorem within_at (q k v : FVec Ideal S2x16384x1024 .f32) (b : Fin 2) (n i : Fin 128) (h : Fin 8) (e : Fin 128) :
    within q k v (ix5 b n i h e) = ∑ x, values v (ix5 b n x h e) * scores q k (ix5 b n h i x) := by
  unfold within
  beta_reduce
  rw [positions_second, dot_within]

theorem chunkKv_at (k v : FVec Ideal S2x16384x1024 .f32) (n : Fin 128) (b : Fin 2) (h : Fin 8) (d e : Fin 128) :
    chunkKv k v (ix5 n b h d e) = ∑ x, keys k (ix5 b n x h d) * decayToEnd (ix2 h x) * values v (ix5 b n x h e) := by
  unfold chunkKv
  beta_reduce
  rw [chunks_first, dot_kv]
  refine Finset.sum_congr rfl fun x _ => ?_
  rw [mulf_at, rows_at]

theorem mixed_at (q k v : FVec Ideal S2x16384x1024 .f32) (R : FVec Ideal S128x2x8x128x128 .f32) (b : Fin 2) (n i : Fin 128) (h : Fin 8)
    (e : Fin 128) :
    mixed q k v R (ix4 b ⟨n * 128 + i, by omega⟩ h e)
      = within q k v (ix5 b n i h e)
        + ∑ x, R (ix5 n b h x e) * (queries q (ix5 b n i h x) * decayFromStart (ix2 h i)) := by
  unfold mixed
  beta_reduce
  rw [unchunk, addf_at, positions_second, dot_cross]
  refine congrArg (within q k v (ix5 b n i h e) + ·) (Finset.sum_congr rfl fun x _ => ?_)
  rw [sequences_first, mulf_at, rows_at]

/-- The mean of a head's channels. -/
noncomputable def meanOf (r : Fin 128 → EReal) : EReal := Ideal.div (∑ x, r x) (Ideal.ofBits FTy.f32 0x43000000#32)

/-- A head's channels normed. -/
noncomputable def normOf (r : Fin 128 → EReal) (e : Fin 128) : EReal :=
  (r e - meanOf r) * Ideal.rsqrt (meanOf (fun x => (r x - meanOf r) * (r x - meanOf r)) + Ideal.ofBits FTy.f32 0x3727C5AC#32)

theorem headNorm_at (y : FVec Ideal S2x16384x8x128 .f32) (b : Fin 2) (p : Fin 16384) (h : Fin 8) (e : Fin 128) :
    headNorm y (ix4 b p h e) = normOf (fun x => y (ix4 b p h x)) e := by
  have h1 : ∀ i : S2x16384x8x128.Idx, headNorm y i = normOf (fun x => y (ix4 (i 0) (i 1) (i 2) x)) (i 3) := by
    intro i
    pointwise [headNorm, normOf, meanOf]
  exact h1 _

theorem gated_at (y : FVec Ideal S2x16384x8x128 .f32) (gate : FVec Ideal S2x16384x1024 .f32) (gain bias : FVec Ideal S1024 .f32)
    (b : Fin 2) (p : Fin 16384) (h : Fin 8) (e : Fin 128) :
    gated y gate gain bias (ix3 b p ⟨h * 128 + e, by omega⟩)
      = gate (ix3 b p ⟨h * 128 + e, by omega⟩) * Ideal.div 1 (1 + Ideal.exp (-gate (ix3 b p ⟨h * 128 + e, by omega⟩)))
        * (headNorm y (ix4 b p h e) * gain (ix1 ⟨h * 128 + e, by omega⟩) + bias (ix1 ⟨h * 128 + e, by omega⟩)) := by
  have h1 : ∀ i : S2x16384x1024.Idx, gated y gate gain bias i
      = gate i * Ideal.div 1 (1 + Ideal.exp (-gate i))
        * (headNorm y (ix4 (i 0) (i 1) ⟨(i 2 : ℕ) / 128, by have := (i 2).isLt; change (i 2 : ℕ) < 1024 at this; omega⟩ ⟨(i 2 : ℕ) % 128, by omega⟩) * gain (ix1 (i 2)) + bias (ix1 (i 2))) := by
    intro i
    pointwise [gated]
  rw [h1]
  have e1 : (h * 128 + e : ℕ) / 128 = h := by omega
  have e2 : (h * 128 + e : ℕ) % 128 = e := by omega
  have e3 : (ix4 b p (⟨(h * 128 + e : ℕ) / 128, by omega⟩ : Fin 8) (⟨(h * 128 + e : ℕ) % 128, by omega⟩ : Fin 128) : S2x16384x8x128.Idx) = ix4 b p h e := by
    congr 1
    · exact Fin.ext e1
    · exact Fin.ext e2
  exact congrArg (fun j => _ * (headNorm y j * _ + _)) e3

end Cert.RetForms
-- ==== Proof.RetMatch.lean ====
/-
  One chunk and one head of the kernel, beside the reference's chunk and head.
-/
module

public import proofs.«01_k».proof.Proof.RetStep
public import proofs.«01_k».proof.Proof.RetPoint

@[expose] public section

set_option maxRecDepth 8192

namespace Cert.RetMatch

open Cert.KernelIdeal Cert.KernelIdeal.Gen Cert.RetentionStep
open Cert.RetForms (rotated queries keys values scores within chunkKv mixed headNorm gated angle decayWithin decayToEnd decayFromStart decayChunk normOf meanOf)
open Idealize.ShloMosaic Idealize.ShloMosaic.TcCoe Idealize.ShloMosaic.StableHlo

/-- The rotated rows of a load. -/
theorem turned_at (c s : Vec Ideal S128x128 .f32) (x : Vec Ideal S1x128x128 .bf16) (i d : Fin 128) :
    k0_pay5 (F := Ideal) c s x (ix2 i d) = x (ix3 0 i d) * c (ix2 i d) + x (ix3 0 i ⟨((d : ℕ) + 128 - 64) % 128, by omega⟩) * s (ix2 i d) := by
  pointwise [k0_pay5, k0_pay3, k0_pay4]

theorem turned_scaled_at (c s : Vec Ideal S128x128 .f32) (x : Vec Ideal S1x128x128 .bf16) (i : S128x128.Idx) :
    k0_pay6 (F := Ideal) c s x i = k0_pay5 (F := Ideal) c s x i * Ideal.ofBits FTy.f32 0x3DB504F3#32 := by
  pointwise [k0_pay6, k0_pay5]

theorem plain_at (x : Vec Ideal S1x128x128 .bf16) (i d : Fin 128) :
    k0_pay7 (F := Ideal) x (ix2 i d) = x (ix3 0 i d) := by
  pointwise [k0_pay7]

theorem inner_at (c s : Vec Ideal S128x128 .f32) (q k : Vec Ideal S1x128x128 .bf16) (dm : Vec Ideal S1x128x128 .f32) (i j : Fin 128) :
    k0_pay8 (F := Ideal) c s q k dm (ix2 i j)
      = (∑ x, k0_pay5 (F := Ideal) c s q (ix2 i x) * k0_pay6 (F := Ideal) c s k (ix2 j x)) * dm (ix3 0 i j) := by
  pointwise [k0_pay8]

theorem next_at (kr : FVec Ideal S128x128 .f32) (v : FVec Ideal S128x128 .bf16) (st : Vec Ideal S1x128x128 .f32) (cd : Vec Ideal S1x1x128 .f32)
    (kd : Vec Ideal S1x128x128 .f32) (d e : Fin 128) :
    k0_pay10 (F := Ideal) kr v st cd kd (ix3 0 d e)
      = st (ix3 0 d e) * cd (ix3 0 0 e) + ∑ x, kr (ix2 x d) * kd (ix3 0 x d) * v (ix2 x e) := by
  pointwise [k0_pay10, k0_pay9]

/-- The output of a chunk before its norm. -/
noncomputable def raw (q : FVec Ideal S128x128 .f32) (v : FVec Ideal S128x128 .bf16) (inn : FVec Ideal S128x128 .f32) (st : Vec Ideal S1x128x128 .f32)
    (qd : Vec Ideal S1x128x128 .f32) (i e : Fin 128) : EReal :=
  ∑ x, inn (ix2 i x) * v (ix2 x e) + ∑ x, q (ix2 i x) * qd (ix3 0 i x) * st (ix3 0 x e)

theorem centred_at (q : FVec Ideal S128x128 .f32) (v : FVec Ideal S128x128 .bf16) (inn : FVec Ideal S128x128 .f32) (st : Vec Ideal S1x128x128 .f32)
    (qd : Vec Ideal S1x128x128 .f32) (i e : Fin 128) :
    k0_pay11 (F := Ideal) q v inn st qd (ix2 i e) = raw q v inn st qd i e - meanOf (raw q v inn st qd i) := by
  pointwise [k0_pay11, k0_pay9, raw, meanOf]

theorem scale_at (q : FVec Ideal S128x128 .f32) (v : FVec Ideal S128x128 .bf16) (inn : FVec Ideal S128x128 .f32) (st : Vec Ideal S1x128x128 .f32)
    (qd : Vec Ideal S1x128x128 .f32) (i e : Fin 128) :
    k0_pay12 (F := Ideal) q v inn st qd (ix2 i e)
      = Ideal.rsqrt (meanOf (fun x => k0_pay11 (F := Ideal) q v inn st qd (ix2 i x) * k0_pay11 (F := Ideal) q v inn st qd (ix2 i x))
          + Ideal.ofBits FTy.f32 0x3727C5AC#32) := by
  pointwise [k0_pay12, meanOf]

theorem gate_at (d r : FVec Ideal S128x128 .f32) (g b : Vec Ideal S1x128 .f32) (gate : Vec Ideal S1x128x128 .bf16) (i e : Fin 128) :
    k0_pay13 (F := Ideal) d r g b gate (ix3 0 i e)
      = gate (ix3 0 i e) * Ideal.div 1 (1 + Ideal.exp (0 - gate (ix3 0 i e))) * (d (ix2 i e) * r (ix2 i e) * g (ix2 0 e) + b (ix2 0 e)) := by
  pointwise [k0_pay13]

/-- What a grid point loads for chunk `n` and head `h` of its tile is the arrays' chunk `c`, head `hd` of sequence `b`, with the tables of that head. -/
structure Matches (T : Loads Ideal) (n h : ℕ) (qA kA vA gA : FVec Ideal S2x16384x1024 .f32) (gain bias : FVec Ideal S1024 .f32)
    (b : Fin 2) (c : Fin 128) (hd : Fin 8) : Prop where
  q : ∀ i d : Fin 128, T.q n h (ix3 0 i d) = qA (ix3 b ⟨c * 128 + i, by omega⟩ ⟨hd * 128 + d, by omega⟩)
  k : ∀ i d : Fin 128, T.k n h (ix3 0 i d) = kA (ix3 b ⟨c * 128 + i, by omega⟩ ⟨hd * 128 + d, by omega⟩)
  v : ∀ i d : Fin 128, T.v n h (ix3 0 i d) = vA (ix3 b ⟨c * 128 + i, by omega⟩ ⟨hd * 128 + d, by omega⟩)
  gate : ∀ i d : Fin 128, T.gate n h (ix3 0 i d) = gA (ix3 b ⟨c * 128 + i, by omega⟩ ⟨hd * 128 + d, by omega⟩)
  cos : ∀ i d : Fin 128, T.cos n (ix2 i d) = Ideal.cos (angle (ix2 ⟨c * 128 + i, by omega⟩ ⟨(d : ℕ) % 64, by omega⟩))
  sin_low : ∀ i d : Fin 128, (d : ℕ) < 64 → T.sin n (ix2 i d) = -Ideal.sin (angle (ix2 ⟨c * 128 + i, by omega⟩ ⟨(d : ℕ) % 64, by omega⟩))
  sin_high : ∀ i d : Fin 128, ¬(d : ℕ) < 64 → T.sin n (ix2 i d) = Ideal.sin (angle (ix2 ⟨c * 128 + i, by omega⟩ ⟨(d : ℕ) % 64, by omega⟩))
  dmat : ∀ i j : Fin 128, T.dmat h (ix3 0 i j) = decayWithin (ix3 hd i j)
  qdec : ∀ i d : Fin 128, T.qdec h (ix3 0 i d) = decayFromStart (ix2 hd i)
  kdec : ∀ i d : Fin 128, T.kdec h (ix3 0 i d) = decayToEnd (ix2 hd i)
  cdec : ∀ d : Fin 128, T.cdec h (ix3 0 0 d) = decayChunk (ix1 hd)
  gain : ∀ d : Fin 128, T.gain h (ix2 0 d) = gain (ix1 ⟨hd * 128 + d, by omega⟩)
  bias : ∀ d : Fin 128, T.bias h (ix2 0 d) = bias (ix1 ⟨hd * 128 + d, by omega⟩)

variable {T : Loads Ideal} {n h : ℕ} {qA kA vA gA : FVec Ideal S2x16384x1024 .f32} {gain bias : FVec Ideal S1024 .f32}
    {b : Fin 2} {c : Fin 128} {hd : Fin 8}

/-- A rotated load is the rotated array's chunk. -/
theorem turned_eq (M : Matches T n h qA kA vA gA gain bias b c hd) (x : Vec Ideal S1x128x128 .bf16) (a : FVec Ideal S2x16384x1024 .f32)
    (hx : ∀ i d : Fin 128, x (ix3 0 i d) = a (ix3 b ⟨c * 128 + i, by omega⟩ ⟨hd * 128 + d, by omega⟩)) (i d : Fin 128) :
    k0_pay5 (F := Ideal) (T.cos n) (T.sin n) x (ix2 i d) = rotated a (ix4 b ⟨c * 128 + i, by omega⟩ hd d) := by
  rw [turned_at, M.cos, hx, hx]
  by_cases hlow : (d : ℕ) < 64
  · rw [Cert.RetForms.rotated_low a b _ hd d hlow, M.sin_low i d hlow, mul_neg, ← sub_eq_add_neg]
    have e1 : (⟨(d : ℕ) % 64, by omega⟩ : Fin 64) = ⟨d, hlow⟩ := Fin.ext (Nat.mod_eq_of_lt hlow)
    have e2 : (⟨hd * 128 + (⟨((d : ℕ) + 128 - 64) % 128, by omega⟩ : Fin 128), by dsimp only; omega⟩ : Fin 1024) = ⟨hd * 128 + (64 + d), by omega⟩ :=
      Fin.ext (by dsimp only; omega)
    rw [e1, e2]
  · rw [Cert.RetForms.rotated_high a b _ hd d hlow, M.sin_high i d hlow, add_comm]
    have e1 : (⟨(d : ℕ) % 64, by omega⟩ : Fin 64) = ⟨d - 64, by omega⟩ := Fin.ext (by dsimp only; omega)
    have e2 : (⟨hd * 128 + (⟨((d : ℕ) + 128 - 64) % 128, by omega⟩ : Fin 128), by dsimp only; omega⟩ : Fin 1024) = ⟨hd * 128 + (d - 64), by omega⟩ :=
      Fin.ext (by dsimp only; omega)
    have e3 : (⟨hd * 128 + (64 + ((d : ℕ) - 64)), by omega⟩ : Fin 1024) = ⟨hd * 128 + d, by omega⟩ := Fin.ext (by dsimp only; omega)
    rw [e1, e2, e3]

theorem query_eq (M : Matches T n h qA kA vA gA gain bias b c hd) (i d : Fin 128) :
    k0_pay5 (F := Ideal) (T.cos n) (T.sin n) (T.q n h) (ix2 i d) = queries qA (ix5 b c i hd d) :=
  (turned_eq M _ qA M.q i d).trans (Cert.RetForms.queries_at qA b c i hd d).symm

theorem key_eq (M : Matches T n h qA kA vA gA gain bias b c hd) (i d : Fin 128) :
    k0_pay6 (F := Ideal) (T.cos n) (T.sin n) (T.k n h) (ix2 i d) = keys kA (ix5 b c i hd d) := by
  rw [turned_scaled_at, turned_eq M _ kA M.k, Cert.RetForms.keys_at]

theorem value_eq (M : Matches T n h qA kA vA gA gain bias b c hd) (i d : Fin 128) :
    k0_pay7 (F := Ideal) (T.v n h) (ix2 i d) = values vA (ix5 b c i hd d) := by
  rw [plain_at, M.v, Cert.RetForms.values_at]

theorem score_eq (M : Matches T n h qA kA vA gA gain bias b c hd) (i j : Fin 128) :
    k0_pay8 (F := Ideal) (T.cos n) (T.sin n) (T.q n h) (T.k n h) (T.dmat h) (ix2 i j) = scores qA kA (ix5 b c hd i j) := by
  rw [inner_at, Cert.RetForms.scores_at, M.dmat]
  refine congrArg (· * _) (Finset.sum_congr rfl fun x _ => ?_)
  rw [query_eq M, key_eq M]

/-- The state after the chunk. -/
theorem state_eq (M : Matches T n h qA kA vA gA gain bias b c hd) (s : Vec Ideal S1x128x128 .f32) (S : Fin 128 → Fin 128 → EReal)
    (hs : ∀ d e, s (ix3 0 d e) = S d e) (d e : Fin 128) :
    stepState T n h s (ix3 0 d e) = S d e * decayChunk (ix1 hd) + chunkKv kA vA (ix5 c b hd d e) := by
  unfold stepState
  rw [next_at, hs, M.cdec, Cert.RetForms.chunkKv_at]
  refine congrArg (_ + ·) (Finset.sum_congr rfl fun x _ => ?_)
  rw [key_eq M, value_eq M, M.kdec]

/-- The output of the chunk before its norm. -/
theorem raw_eq (M : Matches T n h qA kA vA gA gain bias b c hd) (s : Vec Ideal S1x128x128 .f32) (R : FVec Ideal Cert.ReferenceIdeal.S128x2x8x128x128 .f32)
    (hs : ∀ d e, s (ix3 0 d e) = R (ix5 c b hd d e)) (i e : Fin 128) :
    raw (k0_pay5 (T.cos n) (T.sin n) (T.q n h)) (k0_pay7 (T.v n h)) (k0_pay8 (T.cos n) (T.sin n) (T.q n h) (T.k n h) (T.dmat h)) s (T.qdec h) i e
      = mixed qA kA vA R (ix4 b ⟨c * 128 + i, by omega⟩ hd e) := by
  unfold raw
  rw [Cert.RetForms.mixed_at, Cert.RetForms.within_at]
  refine congrArg₂ (· + ·) (Finset.sum_congr rfl fun x _ => ?_) (Finset.sum_congr rfl fun x _ => ?_)
  · rw [score_eq M, value_eq M, mul_comm]
  · rw [query_eq M, M.qdec, hs, mul_comm]

/-- The output of the chunk. -/
theorem out_eq (M : Matches T n h qA kA vA gA gain bias b c hd) (s : Vec Ideal S1x128x128 .f32) (R : FVec Ideal Cert.ReferenceIdeal.S128x2x8x128x128 .f32)
    (hs : ∀ d e, s (ix3 0 d e) = R (ix5 c b hd d e)) (i e : Fin 128) :
    stepOut T n h s (ix3 0 i e)
      = gated (mixed qA kA vA R) gA gain bias (ix3 b ⟨c * 128 + i, by omega⟩ ⟨hd * 128 + e, by omega⟩) := by
  unfold stepOut
  rw [gate_at, Cert.RetForms.gated_at, Cert.RetForms.headNorm_at, M.gate, M.gain, M.bias, scale_at, zero_sub]
  unfold normOf
  simp only [centred_at]
  rw [show raw (k0_pay5 (T.cos n) (T.sin n) (T.q n h)) (k0_pay7 (T.v n h)) (k0_pay8 (T.cos n) (T.sin n) (T.q n h) (T.k n h) (T.dmat h)) s (T.qdec h) i
      = (fun e => mixed qA kA vA R (ix4 b ⟨c * 128 + i, by omega⟩ hd e)) from funext fun e => raw_eq M s R hs i e]

end Cert.RetMatch
-- ==== Proof.RetBlocks.lean ====
/-
  The blocks that a grid point of the retention's kernel is given, as entries of the arguments and of the decays.
-/
module

public import proofs.«01_k».proof.Proof.RetTables
public import proofs.«01_k».proof.Proof.RetMatch

@[expose] public section

set_option maxRecDepth 16384

noncomputable section

namespace Cert.RetBlocks

open Cert.KernelIdeal Cert.KernelIdeal.Gen Cert.RetTables Cert.RetentionStep Cert.RetMatch
open Cert.RetForms (angle decayWithin decayToEnd decayFromStart decayChunk)
open Idealize.ShloMosaic Idealize.ShloMosaic.TcCoe Idealize.ShloMosaic.StableHlo

/-- Where each window's block lies at point `t`. -/
theorem idx : ∀ t : Fin cfg0.N,
    win0_0.index t = ![t.val / 64, t.val % 16, t.val / 16 % 4] ∧ win0_1.index t = ![t.val / 64, t.val % 16, 4 + t.val / 16 % 4]
      ∧ win0_2.index t = ![t.val / 64, t.val % 16, 8 + t.val / 16 % 4] ∧ win0_3.index t = ![t.val / 64, t.val % 16, 12 + t.val / 16 % 4]
      ∧ win0_4.index t = ![t.val % 16, 0] ∧ win0_5.index t = ![t.val % 16, 0]
      ∧ win0_6.index t = ![t.val / 16 % 4, 0, 0] ∧ win0_7.index t = ![t.val / 16 % 4, 0, 0] ∧ win0_8.index t = ![t.val / 16 % 4, 0, 0]
      ∧ win0_9.index t = ![t.val / 16 % 4, 0, 0] ∧ win0_10.index t = ![0, t.val / 16 % 4] ∧ win0_11.index t = ![0, t.val / 16 % 4]
      ∧ win0_12.index t = ![t.val / 64, t.val % 16, t.val / 16 % 4] ∧ t.val / 64 < 2 :=
  (by decide +kernel : ∀ t : Fin grid0.N, _)

theorem points (t : Fin cfg0.N) : t.val < 128 := by have h := (idx t).2.2.2.2.2.2.2.2.2.2.2.2.2; omega

/-- The sequence of a point. -/
abbrev seqOf (t : Fin cfg0.N) : Fin 2 := ⟨t.val / 64, by have := points t; omega⟩
/-- A row of a point's block, among the positions. -/
abbrev posOf (t : Fin cfg0.N) (r : Fin 1024) : Fin 16384 := ⟨t.val % 16 * 1024 + r, by omega⟩
/-- A column of a point's block, among the channels. -/
abbrev chanOf (t : Fin cfg0.N) (x : Fin 256) : Fin 1024 := ⟨t.val / 16 % 4 * 256 + x, by omega⟩
/-- A head of a point, among the heads. -/
abbrev headOf (t : Fin cfg0.N) (h : Fin 2) : Fin 8 := ⟨t.val / 16 % 4 * 2 + h, by omega⟩

variable (m : (ℓ : Loc nD τ sig) → Buf (Elt Ideal) ℓ) (c : Dev nD) (t : Fin cfg0.N)

def argQ : FVec Ideal S2x16384x1024 .f32 := m ((c : Thread nD τ).loc main_arg0)
def argK : FVec Ideal S2x16384x1024 .f32 := m ((c : Thread nD τ).loc main_arg1)
def argV : FVec Ideal S2x16384x1024 .f32 := m ((c : Thread nD τ).loc main_arg2)
def argG : FVec Ideal S2x16384x1024 .f32 := m ((c : Thread nD τ).loc main_arg3)
def argGain : FVec Ideal S1024 .f32 := m ((c : Thread nD τ).loc main_arg4)
def argBias : FVec Ideal S1024 .f32 := m ((c : Thread nD τ).loc main_arg5)

theorem block_q (r : Fin 1024) (x : Fin 256) :
    iblk m c 0 t (ix3 0 r x) = argQ m c (ix3 (seqOf t) (posOf t r) (chanOf t x)) := by
  have e : iblk m c 0 t (ix3 0 r x) = V m c main_v1 (ix3 (seqOf t) (posOf t r) (⟨chanOf t x, by omega⟩ : Fin 4096)) := by
    blk_ext [iblk, idx t]
  rw [e, at_packed]
  exact packed_q _ _ _ _ _ _ _

theorem block_k (r : Fin 1024) (x : Fin 256) :
    iblk m c 1 t (ix3 0 r x) = argK m c (ix3 (seqOf t) (posOf t r) (chanOf t x)) := by
  have e : iblk m c 1 t (ix3 0 r x) = V m c main_v1 (ix3 (seqOf t) (posOf t r) (⟨1024 + chanOf t x, by omega⟩ : Fin 4096)) := by
    blk_ext [iblk, idx t]
  rw [e, at_packed]
  exact packed_k _ _ _ _ _ _ _

theorem block_v (r : Fin 1024) (x : Fin 256) :
    iblk m c 2 t (ix3 0 r x) = argV m c (ix3 (seqOf t) (posOf t r) (chanOf t x)) := by
  have e : iblk m c 2 t (ix3 0 r x) = V m c main_v1 (ix3 (seqOf t) (posOf t r) (⟨2048 + chanOf t x, by omega⟩ : Fin 4096)) := by
    blk_ext [iblk, idx t]
  rw [e, at_packed]
  exact packed_v _ _ _ _ _ _ _

theorem block_g (r : Fin 1024) (x : Fin 256) :
    iblk m c 3 t (ix3 0 r x) = argG m c (ix3 (seqOf t) (posOf t r) (chanOf t x)) := by
  have e : iblk m c 3 t (ix3 0 r x) = V m c main_v1 (ix3 (seqOf t) (posOf t r) (⟨3072 + chanOf t x, by omega⟩ : Fin 4096)) := by
    blk_ext [iblk, idx t]
  rw [e, at_packed]
  exact packed_g _ _ _ _ _ _ _

theorem block_cos (r : Fin 1024) (d : Fin 128) : iblk m c 4 t (ix2 r d) = cosines (ix2 (posOf t r) d) := by
  have e : iblk m c 4 t (ix2 r d) = V m c main_v21 (ix2 (posOf t r) d) := by
    blk_ext [iblk, idx t]
  rw [e, at_cosines]

theorem block_sin (r : Fin 1024) (d : Fin 128) : iblk m c 5 t (ix2 r d) = sines (ix2 (posOf t r) d) := by
  have e : iblk m c 5 t (ix2 r d) = V m c main_v23 (ix2 (posOf t r) d) := by
    blk_ext [iblk, idx t]
  rw [e, at_sines]

theorem block_within (h : Fin 2) (i j : Fin 128) : iblk m c 6 t (ix3 h i j) = decayWithin (ix3 (headOf t h) i j) := by
  have e : iblk m c 6 t (ix3 h i j) = V m c main_v48 (ix3 (headOf t h) i j) := by
    blk_ext [iblk, idx t]
  rw [e, at_within]

theorem block_fromStart (h : Fin 2) (i d : Fin 128) : iblk m c 7 t (ix3 h i d) = decayFromStart (ix2 (headOf t h) i) := by
  have e : iblk m c 7 t (ix3 h i d) = V m c main_v69 (ix3 (headOf t h) i d) := by
    blk_ext [iblk, idx t]
  rw [e, at_fromStart]
  exact spread_at _ _ _ _

theorem block_toEnd (h : Fin 2) (i d : Fin 128) : iblk m c 8 t (ix3 h i d) = decayToEnd (ix2 (headOf t h) i) := by
  have e : iblk m c 8 t (ix3 h i d) = V m c main_v71 (ix3 (headOf t h) i d) := by
    blk_ext [iblk, idx t]
  rw [e, at_toEnd]
  exact spread_at _ _ _ _

theorem block_chunk (h : Fin 2) (d : Fin 128) : iblk m c 9 t (ix3 h 0 d) = decayChunk (ix1 (headOf t h)) := by
  have e : iblk m c 9 t (ix3 h 0 d) = V m c main_v73 (ix3 (headOf t h) 0 d) := by
    blk_ext [iblk, idx t]
  rw [e, at_chunk]
  exact spreadHead_at _ _ _

theorem block_gain (x : Fin 256) : iblk m c 10 t (ix2 0 x) = argGain m c (ix1 (chanOf t x)) := by
  have e : iblk m c 10 t (ix2 0 x) = V m c main_v74 (ix2 0 (chanOf t x)) := by
    blk_ext [iblk, idx t]
  rw [e, at_gain]
  exact row_at _ _

theorem block_bias (x : Fin 256) : iblk m c 11 t (ix2 0 x) = argBias m c (ix1 (chanOf t x)) := by
  have e : iblk m c 11 t (ix2 0 x) = V m c main_v75 (ix2 0 (chanOf t x)) := by
    blk_ext [iblk, idx t]
  rw [e, at_bias]
  exact row_at _ _

end Cert.RetBlocks

end
-- ==== Proof.RetPlaced.lean ====
/-
  A grid point's loads are the arguments' chunk and head and the decays of the head.
-/
module

public import proofs.«01_k».proof.Proof.RetBlocks

@[expose] public section

set_option maxRecDepth 16384

noncomputable section

namespace Cert.RetPlaced

open Cert.KernelIdeal Cert.KernelIdeal.Gen Cert.RetTables Cert.RetentionStep Cert.RetMatch Cert.RetBlocks
open Cert.RetForms (angle decayWithin decayToEnd decayFromStart decayChunk)
open Idealize.ShloMosaic Idealize.ShloMosaic.TcCoe Idealize.ShloMosaic.StableHlo

section loads

theorem tile_idx (n : Fin 8) (h : Fin 2) (i d : Fin 128) :
    (rectTile n h).idx (ix3 0 i d) = ix3 0 ⟨n * 128 + i, by omega⟩ ⟨h * 128 + d, by omega⟩ := by
  funext a
  refine Fin.ext ((Rect.idx_unit_val _ _ _ _ a).trans ?_)
  fin_cases a
  · rfl
  · show 128 * ((n : ℕ) % 8) + i = n * 128 + i; omega
  · show 128 * ((h : ℕ) % 2) + d = h * 128 + d; omega

theorem rows_idx (n : Fin 8) (i d : Fin 128) : (rectRows n).idx (ix2 i d) = ix2 ⟨n * 128 + i, by omega⟩ d := by
  funext a
  refine Fin.ext ((Rect.idx_unit_val _ _ _ _ a).trans ?_)
  fin_cases a
  · show 128 * ((n : ℕ) % 8) + i = n * 128 + i; omega
  · show 0 + (d : ℕ) = d; omega

theorem head_idx (h : Fin 2) (i d : Fin 128) : (rectHead h).idx (ix3 0 i d) = ix3 h i d := by
  funext a
  refine Fin.ext ((Rect.idx_unit_val _ _ _ _ a).trans ?_)
  fin_cases a
  · show (h : ℕ) % 2 + 0 = h; omega
  · show 0 + (i : ℕ) = i; omega
  · show 0 + (d : ℕ) = d; omega

theorem row_idx (h : Fin 2) (d : Fin 128) : (rectRow h).idx (ix3 0 0 d) = ix3 h 0 d := by
  funext a
  refine Fin.ext ((Rect.idx_unit_val _ _ _ _ a).trans ?_)
  fin_cases a
  · show (h : ℕ) % 2 + 0 = h; omega
  · rfl
  · show 0 + (d : ℕ) = d; omega

theorem chan_idx (h : Fin 2) (d : Fin 128) : (rectChan h).idx (ix2 0 d) = ix2 0 ⟨h * 128 + d, by omega⟩ := by
  funext a
  refine Fin.ext ((Rect.idx_unit_val _ _ _ _ a).trans ?_)
  fin_cases a
  · rfl
  · show 128 * ((h : ℕ) % 2) + d = h * 128 + d; omega

theorem tile_at (X : Vec Ideal S1x1024x256 .bf16) (n : Fin 8) (h : Fin 2) (i d : Fin 128) :
    View.ld X (rectTile n h) (ix3 0 i d) = X (ix3 0 ⟨n * 128 + i, by omega⟩ ⟨h * 128 + d, by omega⟩) := congrArg X (tile_idx n h i d)

theorem rows_at (X : Vec Ideal S1024x128 .f32) (n : Fin 8) (i d : Fin 128) :
    View.ld X (rectRows n) (ix2 i d) = X (ix2 ⟨n * 128 + i, by omega⟩ d) := congrArg X (rows_idx n i d)

theorem head_at (X : Vec Ideal S2x128x128 .f32) (h : Fin 2) (i d : Fin 128) :
    View.ld X (rectHead h) (ix3 0 i d) = X (ix3 h i d) := congrArg X (head_idx h i d)

theorem row_at (X : Vec Ideal S2x1x128 .f32) (h : Fin 2) (d : Fin 128) :
    View.ld X (rectRow h) (ix3 0 0 d) = X (ix3 h 0 d) := congrArg X (row_idx h d)

theorem chan_at (X : Vec Ideal S1x256 .f32) (h : Fin 2) (d : Fin 128) :
    View.ld X (rectChan h) (ix2 0 d) = X (ix2 0 ⟨h * 128 + d, by omega⟩) := congrArg X (chan_idx h d)

end loads

variable (m : (ℓ : Loc nD τ sig) → Buf (Elt Ideal) ℓ) (c : Dev nD) (t : Fin cfg0.N)

/-- The chunk of a point's step. -/
abbrev chunkOf (n : Fin 8) : Fin 128 := ⟨t.val % 16 * 8 + n, by omega⟩

/-- The loads of a point. -/
def loadsOf : Loads Ideal :=
  loads (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

theorem pos_eq (n : Fin 8) (i : Fin 128) :
    posOf t ⟨n * 128 + i, by omega⟩ = ⟨(chunkOf t n : ℕ) * 128 + i, by omega⟩ := Fin.ext (by
  show t.val % 16 * 1024 + (n * 128 + i) = (t.val % 16 * 8 + n) * 128 + i
  omega)

theorem chan_eq (h : Fin 2) (d : Fin 128) :
    chanOf t ⟨h * 128 + d, by omega⟩ = ⟨(headOf t h : ℕ) * 128 + d, by omega⟩ := Fin.ext (by
  show t.val / 16 % 4 * 256 + (h * 128 + d) = (t.val / 16 % 4 * 2 + h) * 128 + d
  omega)

section
variable (n : Fin 8) (h : Fin 2)

theorem load_q (i d : Fin 128) : View.ld (iblk m c 0 t) (rectTile n h) (ix3 0 i d) = argQ m c (ix3 (seqOf t) ⟨(chunkOf t n : ℕ) * 128 + i, by omega⟩ ⟨(headOf t h : ℕ) * 128 + d, by omega⟩) := by
  refine (tile_at _ n h i d).trans ((block_q m c t _ _).trans ?_)
  rw [pos_eq, chan_eq]

theorem load_k (i d : Fin 128) : View.ld (iblk m c 1 t) (rectTile n h) (ix3 0 i d) = argK m c (ix3 (seqOf t) ⟨(chunkOf t n : ℕ) * 128 + i, by omega⟩ ⟨(headOf t h : ℕ) * 128 + d, by omega⟩) := by
  refine (tile_at _ n h i d).trans ((block_k m c t _ _).trans ?_)
  rw [pos_eq, chan_eq]

theorem load_v (i d : Fin 128) : View.ld (iblk m c 2 t) (rectTile n h) (ix3 0 i d) = argV m c (ix3 (seqOf t) ⟨(chunkOf t n : ℕ) * 128 + i, by omega⟩ ⟨(headOf t h : ℕ) * 128 + d, by omega⟩) := by
  refine (tile_at _ n h i d).trans ((block_v m c t _ _).trans ?_)
  rw [pos_eq, chan_eq]

theorem load_gate (i d : Fin 128) : View.ld (iblk m c 3 t) (rectTile n h) (ix3 0 i d) = argG m c (ix3 (seqOf t) ⟨(chunkOf t n : ℕ) * 128 + i, by omega⟩ ⟨(headOf t h : ℕ) * 128 + d, by omega⟩) := by
  refine (tile_at _ n h i d).trans ((block_g m c t _ _).trans ?_)
  rw [pos_eq, chan_eq]

theorem load_cos (i d : Fin 128) : View.ld (iblk m c 4 t) (rectRows n) (ix2 i d)
    = Ideal.cos (angle (ix2 ⟨(chunkOf t n : ℕ) * 128 + i, by omega⟩ ⟨(d : ℕ) % 64, by omega⟩)) := by
  refine (rows_at _ n i d).trans ((block_cos m c t _ _).trans ((cosines_at _ _).trans ?_))
  rw [pos_eq]

theorem load_sin_low (i d : Fin 128) (hd : (d : ℕ) < 64) : View.ld (iblk m c 5 t) (rectRows n) (ix2 i d)
    = -Ideal.sin (angle (ix2 ⟨(chunkOf t n : ℕ) * 128 + i, by omega⟩ ⟨(d : ℕ) % 64, by omega⟩)) := by
  refine (rows_at _ n i d).trans ((block_sin m c t _ _).trans ((sines_low _ _ hd).trans ?_))
  rw [pos_eq]

theorem load_sin_high (i d : Fin 128) (hd : ¬(d : ℕ) < 64) : View.ld (iblk m c 5 t) (rectRows n) (ix2 i d)
    = Ideal.sin (angle (ix2 ⟨(chunkOf t n : ℕ) * 128 + i, by omega⟩ ⟨(d : ℕ) % 64, by omega⟩)) := by
  refine (rows_at _ n i d).trans ((block_sin m c t _ _).trans ((sines_high _ _ hd).trans ?_))
  rw [pos_eq]

theorem load_within (i j : Fin 128) : View.ld (iblk m c 6 t) (rectHead h) (ix3 0 i j) = decayWithin (ix3 (headOf t h) i j) :=
  (head_at _ h i j).trans (block_within m c t h i j)

theorem load_fromStart (i d : Fin 128) : View.ld (iblk m c 7 t) (rectHead h) (ix3 0 i d) = decayFromStart (ix2 (headOf t h) i) :=
  (head_at _ h i d).trans (block_fromStart m c t h i d)

theorem load_toEnd (i d : Fin 128) : View.ld (iblk m c 8 t) (rectHead h) (ix3 0 i d) = decayToEnd (ix2 (headOf t h) i) :=
  (head_at _ h i d).trans (block_toEnd m c t h i d)

theorem load_chunk (d : Fin 128) : View.ld (iblk m c 9 t) (rectRow h) (ix3 0 0 d) = decayChunk (ix1 (headOf t h)) :=
  (row_at _ h d).trans (block_chunk m c t h d)

theorem load_gain (d : Fin 128) : View.ld (iblk m c 10 t) (rectChan h) (ix2 0 d) = argGain m c (ix1 ⟨(headOf t h : ℕ) * 128 + d, by omega⟩) := by
  refine (chan_at _ h d).trans ((block_gain m c t _).trans ?_)
  rw [chan_eq]

theorem load_bias (d : Fin 128) : View.ld (iblk m c 11 t) (rectChan h) (ix2 0 d) = argBias m c (ix1 ⟨(headOf t h : ℕ) * 128 + d, by omega⟩) := by
  refine (chan_at _ h d).trans ((block_bias m c t _).trans ?_)
  rw [chan_eq]

set_option maxHeartbeats 4000000 in
/-- The loads of a point, chunk and head are those of the arguments. -/
theorem matched :
    Matches (loadsOf m c t) n h (argQ m c) (argK m c) (argV m c) (argG m c) (argGain m c) (argBias m c) (seqOf t) (chunkOf t n) (headOf t h) :=
  ⟨load_q m c t n h, load_k m c t n h, load_v m c t n h, load_gate m c t n h, load_cos m c t n, load_sin_low m c t n, load_sin_high m c t n,
    load_within m c t h, load_fromStart m c t h, load_toEnd m c t h, load_chunk m c t h, load_gain m c t h, load_bias m c t h⟩

end

end Cert.RetPlaced

end
-- ==== Proof.RetLoop.lean ====
/-
  The loop of the retention's reference: the state before each chunk, and the array that collects those states.
-/
module

public import proofs.«01_k».proof.Proof.RetPoint
public import Idealize.ShloMosaic.Lib.DynamicIndex

@[expose] public section

set_option maxRecDepth 8192

noncomputable section

namespace Cert.RetLoop

open Cert.ReferenceIdeal Cert.ReferenceIdeal.Gen Cert.ReferenceIdeal.Value Cert.RetForms
open Idealize.ShloMosaic Idealize.ShloMosaic.TcCoe Idealize.ShloMosaic.StableHlo

/-- The state before chunk `n`. -/
def stateN (k v : FVec Ideal S2x16384x1024 .f32) : ℕ → FVec Ideal S2x8x128x128 .f32
  | 0 => fun _ => 0
  | n + 1 => fun i => stateN k v n i * decayChunk (ix1 (i 1)) + chunkKv k v (ix5 ⟨n % 128, Nat.mod_lt _ (by decide)⟩ (i 0) (i 1) (i 2) (i 3))

/-- The states before the chunks, one after another. -/
def states (k v : FVec Ideal S2x16384x1024 .f32) : FVec Ideal S128x2x8x128x128 .f32 :=
  fun i => stateN k v (i 0) (ix4 (i 1) (i 2) (i 3) (i 4))

/-- The chunk that a round of the loop reads. -/
theorem slice_at (x : FVec Ideal S128x2x8x128x128 .f32) (start : Fin 5 → Int) (n : Fin 128) (h0 : start 0 = (n : ℕ)) (h1 : start 1 = 0)
    (h2 : start 2 = 0) (h3 : start 3 = 0) (h4 : start 4 = 0) (i : S2x8x128x128.Idx) :
    shapeCast S2x8x128x128 (Host.dynamicSlice S1x2x8x128x128 x start sliceFits_S128x2x8x128x128_S1x2x8x128x128) shapeCasts_S1x2x8x128x128_S2x8x128x128 i
      = x (ix5 n (i 0) (i 1) (i 2) (i 3)) := by
  have hc : ∀ u : FVec Ideal S1x2x8x128x128 .f32, shapeCast S2x8x128x128 u shapeCasts_S1x2x8x128x128_S2x8x128x128 i = u (ix5 0 (i 0) (i 1) (i 2) (i 3)) := by
    intro u
    pointwise []
  rw [hc]
  have hoff : S128x2x8x128x128.Slices ![(n : ℕ), 0, 0, 0, 0] S1x2x8x128x128 := ⟨rfl, by
    intro a
    have := n.isLt
    fin_cases a
    · show (n : ℕ) + 1 ≤ 128; omega
    · exact Nat.le_refl 2
    · exact Nat.le_refl 8
    · exact Nat.le_refl 128
    · exact Nat.le_refl 128⟩
  rw [Host.dynamicSlice_eq_extractStridedSlice S1x2x8x128x128 x start ![(n : ℕ), 0, 0, 0, 0] _ hoff (by
    intro a
    fin_cases a
    · exact h0
    · exact h1
    · exact h2
    · exact h3
    · exact h4)]
  show x _ = _
  congr 1
  funext a
  fin_cases a
  · exact Fin.ext (Nat.add_zero _)
  · exact Fin.ext (Nat.zero_add _)
  · exact Fin.ext (Nat.zero_add _)
  · exact Fin.ext (Nat.zero_add _)
  · exact Fin.ext (Nat.zero_add _)

/-- The array of states after a round of the loop. -/
theorem update_at (x : FVec Ideal S128x2x8x128x128 .f32) (s : FVec Ideal S2x8x128x128 .f32) (start : Fin 5 → Int) (n : Fin 128)
    (h0 : start 0 = (n : ℕ)) (h1 : start 1 = 0) (h2 : start 2 = 0) (h3 : start 3 = 0) (h4 : start 4 = 0) (i : S128x2x8x128x128.Idx) :
    Host.dynamicUpdateSlice x (broadcastInDim S1x2x8x128x128 ![1, 2, 3, 4] bcast_S2x8x128x128_S1x2x8x128x128_1_2_3_4 s) start updateFits_S128x2x8x128x128_S1x2x8x128x128 i
      = if (i 0 : ℕ) = n then s (ix4 (i 1) (i 2) (i 3) (i 4)) else x i := by
  have hb : ∀ j : S1x2x8x128x128.Idx, broadcastInDim S1x2x8x128x128 ![1, 2, 3, 4] bcast_S2x8x128x128_S1x2x8x128x128_1_2_3_4 s j = s (ix4 (j 1) (j 2) (j 3) (j 4)) := by
    intro j
    pointwise []
  have hn := n.isLt
  have c0 := Host.clampedStart_of_le (s := S128x2x8x128x128) (t := S1x2x8x128x128) rfl start 0 n h0 (by show (n : ℕ) + 1 ≤ 128; omega)
  have c1 := Host.clampedStart_of_le (s := S128x2x8x128x128) (t := S1x2x8x128x128) rfl start 1 0 h1 (Nat.le_refl 2)
  have c2 := Host.clampedStart_of_le (s := S128x2x8x128x128) (t := S1x2x8x128x128) rfl start 2 0 h2 (Nat.le_refl 8)
  have c3 := Host.clampedStart_of_le (s := S128x2x8x128x128) (t := S1x2x8x128x128) rfl start 3 0 h3 (Nat.le_refl 128)
  have c4 := Host.clampedStart_of_le (s := S128x2x8x128x128) (t := S1x2x8x128x128) rfl start 4 0 h4 (Nat.le_refl 128)
  rw [Host.dynamicUpdateSlice_apply]
  by_cases hi : (i 0 : ℕ) = n
  · rw [if_pos hi, dif_pos, hb]
    · congr 1
      funext a
      fin_cases a
      · exact Fin.ext ((congrArg ((i 1 : ℕ) - ·) c1).trans (Nat.sub_zero _))
      · exact Fin.ext ((congrArg ((i 2 : ℕ) - ·) c2).trans (Nat.sub_zero _))
      · exact Fin.ext ((congrArg ((i 3 : ℕ) - ·) c3).trans (Nat.sub_zero _))
      · exact Fin.ext ((congrArg ((i 4 : ℕ) - ·) c4).trans (Nat.sub_zero _))
    · intro a
      fin_cases a
      · show Host.clampedStart S128x2x8x128x128 S1x2x8x128x128 rfl start 0 ≤ (i 0 : ℕ) ∧ (i 0 : ℕ) < Host.clampedStart S128x2x8x128x128 S1x2x8x128x128 rfl start 0 + 1
        rw [c0]; omega
      · show Host.clampedStart S128x2x8x128x128 S1x2x8x128x128 rfl start 1 ≤ (i 1 : ℕ) ∧ (i 1 : ℕ) < Host.clampedStart S128x2x8x128x128 S1x2x8x128x128 rfl start 1 + 2
        have := (i 1).isLt; change (i 1 : ℕ) < 2 at this
        rw [c1]; omega
      · show Host.clampedStart S128x2x8x128x128 S1x2x8x128x128 rfl start 2 ≤ (i 2 : ℕ) ∧ (i 2 : ℕ) < Host.clampedStart S128x2x8x128x128 S1x2x8x128x128 rfl start 2 + 8
        have := (i 2).isLt; change (i 2 : ℕ) < 8 at this
        rw [c2]; omega
      · show Host.clampedStart S128x2x8x128x128 S1x2x8x128x128 rfl start 3 ≤ (i 3 : ℕ) ∧ (i 3 : ℕ) < Host.clampedStart S128x2x8x128x128 S1x2x8x128x128 rfl start 3 + 128
        have := (i 3).isLt; change (i 3 : ℕ) < 128 at this
        rw [c3]; omega
      · show Host.clampedStart S128x2x8x128x128 S1x2x8x128x128 rfl start 4 ≤ (i 4 : ℕ) ∧ (i 4 : ℕ) < Host.clampedStart S128x2x8x128x128 S1x2x8x128x128 rfl start 4 + 128
        have := (i 4).isLt; change (i 4 : ℕ) < 128 at this
        rw [c4]; omega
  · rw [if_neg hi, dif_neg]
    intro hall
    have := hall 0
    change Host.clampedStart S128x2x8x128x128 S1x2x8x128x128 rfl start 0 ≤ (i 0 : ℕ) ∧ (i 0 : ℕ) < Host.clampedStart S128x2x8x128x128 S1x2x8x128x128 rfl start 0 + 1 at this
    rw [c0] at this
    omega

/-- A decay of the heads, repeated over sequences and the state's entries. -/
theorem decay_at (t : FVec Ideal S8x1x1 .f32) (i : S2x8x128x128.Idx) :
    broadcastInDim S2x8x128x128 ![0, 1, 2, 3] bcast_S1x8x1x1_S2x8x128x128_0_1_2_3 (broadcastInDim S1x8x1x1 ![1, 2, 3] bcast_S8x1x1_S1x8x1x1_1_2_3 t) i
      = t (ix3 (i 1) 0 0) := by
  have h1 : ∀ (u : FVec Ideal S1x8x1x1 .f32) (i : S2x8x128x128.Idx), broadcastInDim S2x8x128x128 ![0, 1, 2, 3] bcast_S1x8x1x1_S2x8x128x128_0_1_2_3 u i = u (ix4 0 (i 1) 0 0) := by
    intro u i; pointwise []
  have h2 : ∀ (t : FVec Ideal S8x1x1 .f32) (i : S1x8x1x1.Idx), broadcastInDim S1x8x1x1 ![1, 2, 3] bcast_S8x1x1_S1x8x1x1_1_2_3 t i = t (ix3 (i 1) 0 0) := by
    intro t i; pointwise []
  exact (h1 _ i).trans (h2 t _)

/-- The decay over a chunk, as the loop carries it. -/
def decayCol : FVec Ideal S8x1x1 .f32 := broadcastInDim S8x1x1 ![0] bcast_S8_S8x1x1_0 decayChunk

theorem decayCol_at (h : Fin 8) : decayCol (ix3 h 0 0) = decayChunk (ix1 h) := by
  pointwise [decayCol]

/-- The counter of a round, read as a number. -/
theorem counter_toInt (k : ℕ) (hk : k < 128) : (Scf.iv (0#32) (1#32) k).toInt = (k : ℕ) := by
  rw [Scf.iv, BitVec.zero_add]
  rw [show BitVec.ofNat 32 k * 1#32 = BitVec.ofNat 32 k from BitVec.mul_one _]
  exact toInt_ofNat_of_lt (by omega)

variable (m : (ℓ : Loc nD τ sig) → Buf (Elt Ideal) ℓ)

/-- What the loop's buffers hold before round `n`, when they start from the chunks' additions, the decay, and zeros. -/
theorem rounds (c : Dev nD) (k v : FVec Ideal S2x16384x1024 .f32)
    (e0 : entryContents preI m c (Proc.devRef .tc main_v134_0) = chunkKv k v)
    (e1 : entryContents preI m c (Proc.devRef .tc main_v134_1) = decayCol)
    (e3 : entryContents preI m c (Proc.devRef .tc main_v134_3) = fun _ => (0 : EReal)) :
    ∀ n : ℕ, n ≤ 128 →
      atK m n c (Proc.devRef .tc main_v134_0) = chunkKv k v
      ∧ atK m n c (Proc.devRef .tc main_v134_1) = decayCol
      ∧ atK m n c (Proc.devRef .tc main_v134_3) = stateN k v n
      ∧ ∀ i : S128x2x8x128x128.Idx, (i 0 : ℕ) < n → atK m n c (Proc.devRef .tc main_v134_4) i = states k v i := by
  intro n
  induction n with
  | zero =>
    intro _
    exact ⟨e0, e1, e3, fun i hi => absurd hi (Nat.not_lt_zero _)⟩
  | succ n ih =>
    intro hn
    obtain ⟨i0, i1, i3, i4⟩ := ih (by omega)
    have hstep := trip_agree (atK m n c)
    have hct := atK_ctr m c n
    have hcounter := counter_toInt n (by omega)
    have s0 : atK m (n + 1) c (Proc.devRef .tc main_v134_0) = _ := (hstep main_v134_0 (by decide)).trans (STEP_main_v134_0 _)
    have s1 : atK m (n + 1) c (Proc.devRef .tc main_v134_1) = _ := (hstep main_v134_1 (by decide)).trans (STEP_main_v134_1 _)
    have s3 : atK m (n + 1) c (Proc.devRef .tc main_v134_3) = _ := (hstep main_v134_3 (by decide)).trans (STEP_main_v134_3 _)
    have s4 : atK m (n + 1) c (Proc.devRef .tc main_v134_4) = _ := (hstep main_v134_4 (by decide)).trans (STEP_main_v134_4 _)
    refine ⟨s0.trans i0, s1.trans i1, s3.trans ?_, fun i hi => (congrFun s4 i).trans ?_⟩
    · unfold step_main_v134_3
      rw [i0, i1, i3, hct]
      funext i
      rw [id, addf_at, mulf_at, decay_at, slice_at _ _ ⟨n, by omega⟩ hcounter rfl rfl rfl rfl]
      have hmod : (⟨n % 128, Nat.mod_lt _ (by decide)⟩ : Fin 128) = ⟨n, by omega⟩ := Fin.ext (Nat.mod_eq_of_lt (by omega))
      refine congrArg₂ (· + ·) (congrArg (stateN k v n i * ·) (decayCol_at (i 1))) ?_
      rw [← hmod]
    · unfold step_main_v134_4
      rw [i3, hct, id, update_at _ _ _ ⟨n, by omega⟩ hcounter rfl rfl rfl rfl]
      by_cases hin : (i 0 : ℕ) = n
      · rw [if_pos hin]
        unfold states
        rw [hin]
      · rw [if_neg hin]
        exact i4 i (by omega)

end Cert.RetLoop

end
-- ==== Proof.RetEntry.lean ====
/-
  What the loop of the retention's reference starts from, and the result from what the loop leaves.
-/
module

public import proofs.«01_k».proof.Proof.RetLoop

@[expose] public section

set_option maxRecDepth 8192

noncomputable section

namespace Cert.RetEntry

open Cert.ReferenceIdeal Cert.ReferenceIdeal.Gen Cert.ReferenceIdeal.Value Cert.RetForms Cert.RetLoop
open Idealize.ShloMosaic Idealize.ShloMosaic.TcCoe Idealize.ShloMosaic.StableHlo

/-- The positions of a chunk as numbers. -/
def steps : FVec Ideal S128 .f32 := sitofp .f32 (iotaInDim S128 32 0)

variable (X : Valuation τ sig (Elt Ideal))

set_option maxHeartbeats 4000000 in
theorem first_queries : after hostOps0 X (Proc.devRef .tc main_v88) = queries (X (Proc.devRef .tc main_arg0)) := by
  after_results
  rfl

set_option maxHeartbeats 4000000 in
theorem first_keys : after hostOps0 X (Proc.devRef .tc main_v89) = keys (X (Proc.devRef .tc main_arg1)) := by
  after_results
  rfl

set_option maxHeartbeats 4000000 in
theorem first_values : after hostOps0 X (Proc.devRef .tc main_v90) = values (X (Proc.devRef .tc main_arg2)) := by
  after_results
  rfl

set_option maxHeartbeats 4000000 in
theorem first_logDecay : after hostOps0 X (Proc.devRef .tc main_v87) = logDecay := by
  after_results
  rfl

set_option maxHeartbeats 4000000 in
theorem first_steps : after hostOps0 X (Proc.devRef .tc main_v91) = steps := by
  after_results
  rfl

set_option maxHeartbeats 4000000 in
theorem first_decayWithin : after hostOps0_1 (after hostOps0 X) (Proc.devRef .tc main_v107) = decayWithin := by
  after_results
  rfl

set_option maxHeartbeats 4000000 in
theorem last_within (q k v : FVec Ideal S2x16384x1024 .f32) (h0 : X (Proc.devRef .tc main_v88) = queries q) (h1 : X (Proc.devRef .tc main_v89) = keys k)
    (h2 : X (Proc.devRef .tc main_v90) = values v) (h3 : X (Proc.devRef .tc main_v107) = decayWithin) :
    after hostOps0_2 X (Proc.devRef .tc main_v113) = within q k v := by
  after_results
  rw [h0, h1, h2, h3]
  rfl

set_option maxHeartbeats 4000000 in
theorem last_chunkKv (k v : FVec Ideal S2x16384x1024 .f32) (h1 : X (Proc.devRef .tc main_v89) = keys k)
    (h2 : X (Proc.devRef .tc main_v90) = values v) (h3 : X (Proc.devRef .tc main_v87) = logDecay) (h4 : X (Proc.devRef .tc main_v91) = steps) :
    after hostOps0_2 X (Proc.devRef .tc main_v134_0) = chunkKv k v := by
  after_results
  rw [h1, h2, h3, h4]
  rfl

set_option maxHeartbeats 4000000 in
theorem last_decay (h3 : X (Proc.devRef .tc main_v87) = logDecay) : after hostOps0_2 X (Proc.devRef .tc main_v134_1) = decayCol := by
  after_results
  rw [h3]
  rfl

theorem zeros (i : S2x8x128x128.Idx) : broadcastInDim S2x8x128x128 ![] bcast_S_S2x8x128x128 (constant (F := Ideal) S_ .f32 0x00000000#32) i = (0 : EReal) := by
  pointwise []

set_option maxHeartbeats 4000000 in
theorem last_zero : after hostOps0_2 X (Proc.devRef .tc main_v134_3) = fun _ => (0 : EReal) := by
  after_results
  exact funext zeros

set_option maxHeartbeats 4000000 in
theorem result (q k v : FVec Ideal S2x16384x1024 .f32) (R : FVec Ideal S128x2x8x128x128 .f32) (h0 : X (Proc.devRef .tc main_v113) = within q k v) (h1 : X (Proc.devRef .tc main_v88) = queries q)
    (h2 : X (Proc.devRef .tc main_v87) = logDecay) (h3 : X (Proc.devRef .tc main_v91) = steps) (h4 : X (Proc.devRef .tc main_v134_4) = R) :
    after hostOps0_5 (after hostOps0_4 (after hostOps0_3 X)) (Proc.devRef .tc main_v179)
      = gated (mixed q k v R) (X (Proc.devRef .tc main_arg3)) (X (Proc.devRef .tc main_arg4)) (X (Proc.devRef .tc main_arg5)) := by
  after_results
  rw [h0, h1, h2, h3, h4]
  rfl

end Cert.RetEntry

end
-- ==== Proof.RetRefValue.lean ====
/-
  What the retention's reference computes.
-/
module

public import proofs.«01_k».proof.Proof.RetEntry

@[expose] public section

set_option maxRecDepth 8192

noncomputable section

namespace Cert.RetRefValue

open Cert.ReferenceIdeal Cert.ReferenceIdeal.Gen Cert.ReferenceIdeal.Value Cert.RetForms Cert.RetLoop Cert.RetEntry Cert.RetReference
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The queries, keys, values, gates, gains and biases at launch. -/
def argQ (c : Dev nD) : FVec Ideal S2x16384x1024 .f32 := m ((c : Thread nD τ).loc main_arg0)
def argK (c : Dev nD) : FVec Ideal S2x16384x1024 .f32 := m ((c : Thread nD τ).loc main_arg1)
def argV (c : Dev nD) : FVec Ideal S2x16384x1024 .f32 := m ((c : Thread nD τ).loc main_arg2)
def argG (c : Dev nD) : FVec Ideal S2x16384x1024 .f32 := m ((c : Thread nD τ).loc main_arg3)
def argGain (c : Dev nD) : FVec Ideal S1024 .f32 := m ((c : Thread nD τ).loc main_arg4)
def argBias (c : Dev nD) : FVec Ideal S1024 .f32 := m ((c : Thread nD τ).loc main_arg5)

/-- The result of the retention, of the arguments. -/
def retention (q k v gate : FVec Ideal S2x16384x1024 .f32) (gain bias : FVec Ideal S1024 .f32) : FVec Ideal S2x16384x1024 .bf16 :=
  gated (mixed q k v (states k v)) gate gain bias

/-- Every buffer before the last stretch before the loop. -/
abbrev mid (c : Dev nD) : Valuation τ sig (Elt Ideal) := after hostOps0_1 (after hostOps0 (fun b => m (c, b)))

theorem entry_eq (c : Dev nD) : entryContents preI m c = after hostOps0_2 (mid m c) := rfl

theorem mid_keeps (c : Dev nD) (r : Ref sig .tc) (h1 : r ∉ hostOps0_1_W := by decide) :
    mid m c (Proc.devRef .tc r) = after hostOps0 (fun b => m (c, b)) (Proc.devRef .tc r) :=
  after_of_writes_sub hostOps0_1 _ hostOps0_1_writes h1

theorem entry_mid (c : Dev nD) (r : Ref sig .tc) (h2 : r ∉ hostOps0_2_W := by decide) :
    entryContents preI m c (Proc.devRef .tc r) = mid m c (Proc.devRef .tc r) :=
  after_of_writes_sub hostOps0_2 _ hostOps0_2_writes h2

theorem mid_q (c : Dev nD) : mid m c (Proc.devRef .tc main_v88) = queries (argQ m c) := (mid_keeps m c main_v88).trans (first_queries _)
theorem mid_k (c : Dev nD) : mid m c (Proc.devRef .tc main_v89) = keys (argK m c) := (mid_keeps m c main_v89).trans (first_keys _)
theorem mid_v (c : Dev nD) : mid m c (Proc.devRef .tc main_v90) = values (argV m c) := (mid_keeps m c main_v90).trans (first_values _)
theorem mid_log (c : Dev nD) : mid m c (Proc.devRef .tc main_v87) = logDecay := (mid_keeps m c main_v87).trans (first_logDecay _)
theorem mid_steps (c : Dev nD) : mid m c (Proc.devRef .tc main_v91) = steps := (mid_keeps m c main_v91).trans (first_steps _)
theorem mid_within (c : Dev nD) : mid m c (Proc.devRef .tc main_v107) = decayWithin := first_decayWithin _

/-- The array of states that the loop leaves. -/
theorem left_states (c : Dev nD) : left m c (Proc.devRef .tc main_v134_4) = states (argK m c) (argV m c) := by
  have h := rounds m c (argK m c) (argV m c)
    (last_chunkKv (mid m c) _ _ (mid_k m c) (mid_v m c) (mid_log m c) (mid_steps m c))
    (last_decay (mid m c) (mid_log m c)) (last_zero (mid m c)) 128 (Nat.le_refl _)
  refine (cond_keeps (atK m 128 c) main_v134_4 (by decide)).trans (funext fun i => h.2.2.2 i ?_)
  exact (i 0).isLt

theorem left_within (c : Dev nD) : left m c (Proc.devRef .tc main_v113) = within (argQ m c) (argK m c) (argV m c) :=
  (left_keeps m c main_v113).trans (last_within (mid m c) _ _ _ (mid_q m c) (mid_k m c) (mid_v m c) (mid_within m c))
theorem left_q (c : Dev nD) : left m c (Proc.devRef .tc main_v88) = queries (argQ m c) :=
  (left_keeps m c main_v88).trans ((entry_mid m c main_v88).trans (mid_q m c))
theorem left_log (c : Dev nD) : left m c (Proc.devRef .tc main_v87) = logDecay :=
  (left_keeps m c main_v87).trans ((entry_mid m c main_v87).trans (mid_log m c))
theorem left_steps (c : Dev nD) : left m c (Proc.devRef .tc main_v91) = steps :=
  (left_keeps m c main_v91).trans ((entry_mid m c main_v91).trans (mid_steps m c))

theorem final_result (c : Dev nD) :
    finalContents condOps preI bodyI postI 128 m c (Proc.devRef .tc main_v179)
      = retention (argQ m c) (argK m c) (argV m c) (argG m c) (argGain m c) (argBias m c) := by
  refine (result (left m c) _ _ _ _ (left_within m c) (left_q m c) (left_log m c) (left_steps m c) (left_states m c)).trans ?_
  rw [arg3_left, arg4_left, arg5_left]
  rfl

/-- The reference ends with the retention of its arguments, and the arguments as they were. -/
theorem value_run : θ_run (defs (F := Ideal)) (onTc (τ := τ) (main (F := Ideal))) ⟨m, fun _ => 0, ρ⟩
    (fun r => ∀ c : Dev nD, r.2.mem ((c : Thread nD τ).loc main_v179) = retention (argQ m c) (argK m c) (argV m c) (argG m c) (argGain m c) (argBias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c main_v179 rfl).trans (final_result m c),
    (h c main_arg0 rfl).trans ((final_keeps m c main_arg0).trans (arg0_left m c)), (h c main_arg1 rfl).trans ((final_keeps m c main_arg1).trans (arg1_left m c)),
    (h c main_arg2 rfl).trans ((final_keeps m c main_arg2).trans (arg2_left m c)), (h c main_arg3 rfl).trans ((final_keeps m c main_arg3).trans (arg3_left m c)),
    (h c main_arg4 rfl).trans ((final_keeps m c main_arg4).trans (arg4_left m c)), (h c main_arg5 rfl).trans ((final_keeps m c main_arg5).trans (arg5_left m c))⟩)
    (run_fold m ρ)

end Cert.RetRefValue

end
-- ==== Proof.RetRun.lean ====
/-
  One grid point of the retention's kernel: from the state before its first chunk to its block of the result and the state it leaves.
-/
module

public import proofs.«01_k».proof.Proof.RetPlaced
public import proofs.«01_k».proof.Proof.RetRefValue

@[expose] public section

set_option maxRecDepth 16384

noncomputable section

namespace Cert.RetRun

open Cert.KernelIdeal Cert.KernelIdeal.Gen Cert.RetentionStep Cert.RetMatch Cert.RetBlocks Cert.RetPlaced
open Cert.RetForms (decayChunk chunkKv gated mixed)
open Cert.RetLoop (stateN states)
open Cert.RetRefValue (retention)
open Idealize.ShloMosaic Idealize.ShloMosaic.TcCoe Idealize.ShloMosaic.StableHlo

variable (m : (ℓ : Loc nD τ sig) → Buf (Elt Ideal) ℓ) (c : Dev nD) (t : Fin cfg0.N)

/-- The state before chunk `n`, of a point's sequence and head. -/
def stateOf (n : ℕ) (h : Fin 2) (d e : Fin 128) : EReal :=
  stateN (argK m c) (argV m c) n (ix4 (seqOf t) (headOf t h) d e)

theorem stateOf_succ (n : ℕ) (hn : n < 8) (h : Fin 2) (d e : Fin 128) :
    stateOf m c t (t.val % 16 * 8 + (n + 1)) h d e
      = stateOf m c t (t.val % 16 * 8 + n) h d e * decayChunk (ix1 (headOf t h))
        + chunkKv (argK m c) (argV m c) (ix5 (chunkOf t ⟨n, hn⟩) (seqOf t) (headOf t h) d e) := by
  have e1 : (⟨(t.val % 16 * 8 + n) % 128, Nat.mod_lt _ (by decide)⟩ : Fin 128) = chunkOf t ⟨n, hn⟩ := Fin.ext (by
    show (t.val % 16 * 8 + n) % 128 = t.val % 16 * 8 + n
    omega)
  rw [← e1]
  rfl

/-- The states of a point's chunks follow the recurrence. -/
theorem stateAt_eq (st : ℕ → Vec Ideal S1x128x128 .f32) (h : Fin 2)
    (h0 : ∀ d e, st h (ix3 0 d e) = stateOf m c t (t.val % 16 * 8) h d e) :
    ∀ n ≤ 8, ∀ d e, stateAt (loadsOf m c t) st h n (ix3 0 d e) = stateOf m c t (t.val % 16 * 8 + n) h d e
  | 0, _, d, e => h0 d e
  | n + 1, hn, d, e => by
    rw [stateOf_succ m c t n hn h d e]
    exact state_eq (matched m c t ⟨n, hn⟩ h) _ (fun d e => stateOf m c t (t.val % 16 * 8 + n) h d e)
      (stateAt_eq st h h0 n (by omega)) d e

/-- What a point's step writes to the result. -/
theorem stepOut_eq (st : ℕ → Vec Ideal S1x128x128 .f32) (n : Fin 8) (h : Fin 2)
    (h0 : ∀ d e, st h (ix3 0 d e) = stateOf m c t (t.val % 16 * 8) h d e) (i e : Fin 128) :
    stepOut (loadsOf m c t) n h (stateAt (loadsOf m c t) st h n) (ix3 0 i e)
      = retention (argQ m c) (argK m c) (argV m c) (argG m c) (argGain m c) (argBias m c)
          (ix3 (seqOf t) ⟨(chunkOf t n : ℕ) * 128 + i, by omega⟩ ⟨(headOf t h : ℕ) * 128 + e, by omega⟩) :=
  out_eq (matched m c t n h) _ (states (argK m c) (argV m c))
    (fun d e => stateAt_eq m c t st h h0 n (by omega) d e) i e

/-- The scratch after a point, from the last two stores. -/
theorem canon_high (P : Vec Ideal S1x128x128 .f32) (L : List (View.Piece (Elt Ideal) S2x128x128 .f32)) (d e : Fin 128) :
    View.canon (⟨rectHead 1, P⟩ :: L) (ix3 1 d e) = P (ix3 0 d e) := by
  rw [← show (rectHead 1).emb (ix3 0 d e) = ix3 1 d e from head_idx 1 d e]
  exact View.canon_cons_emb _ _ _ _

theorem canon_low (P Q : Vec Ideal S1x128x128 .f32) (L : List (View.Piece (Elt Ideal) S2x128x128 .f32)) (d e : Fin 128) :
    View.canon (⟨rectHead 1, P⟩ :: ⟨rectHead 0, Q⟩ :: L) (ix3 0 d e) = Q (ix3 0 d e) := by
  rw [View.canon_cons_of_not_mem]
  · rw [← show (rectHead 0).emb (ix3 0 d e) = ix3 0 d e from head_idx 0 d e]
    exact View.canon_cons_emb _ _ _ _
  · intro hm
    obtain ⟨j, -, hj⟩ := (rectHead 1).mem_set.1 hm 0
    exact absurd (show (0 : ℕ) = 1 + 1 * j from hj) (by omega)

/-- A point's stores to the result, last first. -/
def stores (T : Loads Ideal) (st : ℕ → Vec Ideal S1x128x128 .f32) : List (View.Piece (Elt Ideal) S1x1024x256 .bf16) :=
  ([(7, 1), (7, 0), (6, 1), (6, 0), (5, 1), (5, 0), (4, 1), (4, 0), (3, 1), (3, 0), (2, 1), (2, 0), (1, 1), (1, 0), (0, 1), (0, 0)]
    : List (Fin 8 × Fin 2)).map
    fun p => ⟨rectTile p.1 p.2, stepOut T p.1 p.2 (stateAt T st p.2 p.1)⟩

/-- The block that a point leaves in the result. -/
theorem canon_stores (st : ℕ → Vec Ideal S1x128x128 .f32)
    (h0 : ∀ (h : Fin 2) d e, st h (ix3 0 d e) = stateOf m c t (t.val % 16 * 8) h d e) (r : Fin 1024) (x : Fin 256) :
    View.canon (stores (loadsOf m c t) st) (ix3 0 r x)
      = retention (argQ m c) (argK m c) (argV m c) (argG m c) (argGain m c) (argBias m c) (ix3 (seqOf t) (posOf t r) (chanOf t x)) := by
  have h := View.canon_append_of_pieces (Val := Elt Ideal) (S := S1x1024x256) (e := .bf16)
    (fun y => retention (argQ m c) (argK m c) (argV m c) (argG m c) (argGain m c) (argBias m c) (ix3 (seqOf t) (posOf t (y 1)) (chanOf t (y 2))))
    [] (stores (loadsOf m c t) st) ?_ (ix3 0 r x) ?_
  · rw [List.append_nil] at h
    exact h
  · intro p hp y
    obtain ⟨⟨n, hh⟩, -, rfl⟩ := List.mem_map.1 hp
    obtain ⟨i, d, rfl⟩ : ∃ i d : Fin 128, y = ix3 0 i d := ⟨y 1, y 2, by
      funext a
      fin_cases a
      · exact Fin.ext (by have h1 : (y 0 : ℕ) < 1 := (y 0).isLt; show (y 0 : ℕ) = 0; omega)
      · rfl
      · rfl⟩
    refine (stepOut_eq m c t st n hh (h0 hh) i d).trans ?_
    rw [show (rectTile n hh).emb (ix3 0 i d) = ix3 0 ⟨n * 128 + i, by omega⟩ ⟨hh * 128 + d, by omega⟩ from tile_idx n hh i d]
    show _ = retention (argQ m c) (argK m c) (argV m c) (argG m c) (argGain m c) (argBias m c)
      (ix3 (seqOf t) (posOf t ⟨n * 128 + i, by omega⟩) (chanOf t ⟨hh * 128 + d, by omega⟩))
    rw [pos_eq, chan_eq]
  · refine ⟨_, List.mem_map.2 ⟨((⟨r / 128, by omega⟩ : Fin 8), (⟨x / 128, by omega⟩ : Fin 2)), ?_, rfl⟩, ?_⟩
    · generalize (⟨r / 128, by omega⟩ : Fin 8) = n
      generalize (⟨x / 128, by omega⟩ : Fin 2) = h
      revert n h
      decide
    · refine ((rectTile (r / 128) (x / 128)).mem_set).2 fun a => ?_
      fin_cases a
      · exact ⟨0, Nat.one_pos, rfl⟩
      · refine ⟨(r : ℕ) % 128, Nat.mod_lt _ (by decide), ?_⟩
        show (r : ℕ) = 128 * ((r : ℕ) / 128 % 8) + 1 * ((r : ℕ) % 128)
        omega
      · refine ⟨(x : ℕ) % 128, Nat.mod_lt _ (by decide), ?_⟩
        show (x : ℕ) = 128 * ((x : ℕ) / 128 % 2) + 1 * ((x : ℕ) % 128)
        omega

end Cert.RetRun

end
-- ==== Proof.RetStepA.lean ====
/-
  The stores of a first tile: the state starts at zero. Every store found in a run of the body is the
  chunk's output, or the head's state, as `stepOut` and `stepState` give them.
-/
module
public import proofs.«01_k».proof.Proof.RetStep

@[expose] public section
namespace Cert.RetentionStep
open Idealize.ShloMosaic
open Cert.KernelIdeal Cert.KernelIdeal.Gen
variable {F : FTy → Type} [FloatOps F]

namespace CaseA

/-- The loads as the run spells them: read through the point's buffers. -/
noncomputable def raw (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) : Loads F where
  q n h := View.readAt (Elt F) arg3.view (rectTile n h).toLoadRect (harg3.unread x0)
  k n h := View.readAt (Elt F) arg4.view (rectTile n h).toLoadRect (harg4.unread x1)
  v n h := View.readAt (Elt F) arg5.view (rectTile n h).toLoadRect (harg5.unread x2)
  gate n h := View.readAt (Elt F) arg6.view (rectTile n h).toLoadRect (harg6.unread x3)
  cos n := View.readAt (Elt F) arg7.view (rectRows n).toLoadRect (harg7.unread x4)
  sin n := View.readAt (Elt F) arg8.view (rectRows n).toLoadRect (harg8.unread x5)
  dmat h := View.readAt (Elt F) arg9.view (rectHead h).toLoadRect (harg9.unread x6)
  qdec h := View.readAt (Elt F) arg10.view (rectHead h).toLoadRect (harg10.unread x7)
  kdec h := View.readAt (Elt F) arg11.view (rectHead h).toLoadRect (harg11.unread x8)
  cdec h := View.readAt (Elt F) arg12.view (rectRow h).toLoadRect (harg12.unread x9)
  gain h := View.readAt (Elt F) arg13.view (rectChan h).toLoadRect (harg13.unread x10)
  bias h := View.readAt (Elt F) arg14.view (rectChan h).toLoadRect (harg14.unread x11)

theorem raw_eq (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) : raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = loads x0 x1 x2 x3 x4 x5 x6 x7 x8 x9 x10 x11 := by
  unfold raw loads
  congr 1 <;> (repeat (funext _)) <;> exact Memref.IsWhole.readAt_unread _ _ _ _

/-- The states a first tile starts with: zero. -/
noncomputable def start (h : ℕ) : Vec F S1x128x128 .f32 := View.ld (k0_pay2 (F := F)) (rectHead h)

theorem state_0_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v31 c arg16 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 0 := by
  unfold kernelRun0_A.sl.v31 kernelRun0_A.sl.HS0_1
  simp (disch := decide) only [↓ View.readCov_skip, ↓ View.readCov_cons_toLoadRect, ↓ View.readCov_fill]
  rfl

theorem state_0_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v119 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 0 := by
  unfold kernelRun0_A.sl.v119 kernelRun0_A.sl.HS0_2 kernelRun0_A.sl.HS0_1
  simp (disch := decide) only [↓ View.readCov_skip, ↓ View.readCov_cons_toLoadRect, ↓ View.readCov_fill]
  rfl

theorem state_1_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v211 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 1 := by
  unfold kernelRun0_A.sl.v211 kernelRun0_A.sl.HS0_3 kernelRun0_A.sl.HS0_2 kernelRun0_A.sl.HS0_1
  simp (disch := decide) only [↓ View.readCov_skip, ↓ View.readCov_cons_toLoadRect, ↓ View.readCov_fill]
  rw [stateAt, ← state_0_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_1_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v299 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 1 := by
  unfold kernelRun0_A.sl.v299 kernelRun0_A.sl.HS0_4 kernelRun0_A.sl.HS0_3 kernelRun0_A.sl.HS0_2
  simp (disch := decide) only [↓ View.readCov_skip, ↓ View.readCov_cons_toLoadRect, ↓ View.readCov_fill]
  rw [stateAt, ← state_0_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_2_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v391 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 2 := by
  unfold kernelRun0_A.sl.v391 kernelRun0_A.sl.HS0_5 kernelRun0_A.sl.HS0_4 kernelRun0_A.sl.HS0_3
  simp (disch := decide) only [↓ View.readCov_skip, ↓ View.readCov_cons_toLoadRect, ↓ View.readCov_fill]
  rw [stateAt, ← state_1_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_2_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v479 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 2 := by
  unfold kernelRun0_A.sl.v479 kernelRun0_A.sl.HS0_6 kernelRun0_A.sl.HS0_5 kernelRun0_A.sl.HS0_4
  simp (disch := decide) only [↓ View.readCov_skip, ↓ View.readCov_cons_toLoadRect, ↓ View.readCov_fill]
  rw [stateAt, ← state_1_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_3_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v571 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 3 := by
  unfold kernelRun0_A.sl.v571 kernelRun0_A.sl.HS0_7 kernelRun0_A.sl.HS0_6 kernelRun0_A.sl.HS0_5
  simp (disch := decide) only [↓ View.readCov_skip, ↓ View.readCov_cons_toLoadRect, ↓ View.readCov_fill]
  rw [stateAt, ← state_2_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_3_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v659 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 3 := by
  unfold kernelRun0_A.sl.v659 kernelRun0_A.sl.HS0_8 kernelRun0_A.sl.HS0_7 kernelRun0_A.sl.HS0_6
  simp (disch := decide) only [↓ View.readCov_skip, ↓ View.readCov_cons_toLoadRect, ↓ View.readCov_fill]
  rw [stateAt, ← state_2_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_4_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v751 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 4 := by
  unfold kernelRun0_A.sl.v751 kernelRun0_A.sl.HS0_9 kernelRun0_A.sl.HS0_8 kernelRun0_A.sl.HS0_7
  simp (disch := decide) only [↓ View.readCov_skip, ↓ View.readCov_cons_toLoadRect, ↓ View.readCov_fill]
  rw [stateAt, ← state_3_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_4_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v839 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 4 := by
  unfold kernelRun0_A.sl.v839 kernelRun0_A.sl.HS0_10 kernelRun0_A.sl.HS0_9 kernelRun0_A.sl.HS0_8
  simp (disch := decide) only [↓ View.readCov_skip, ↓ View.readCov_cons_toLoadRect, ↓ View.readCov_fill]
  rw [stateAt, ← state_3_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_5_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v931 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 5 := by
  unfold kernelRun0_A.sl.v931 kernelRun0_A.sl.HS0_11 kernelRun0_A.sl.HS0_10 kernelRun0_A.sl.HS0_9
  simp (disch := decide) only [↓ View.readCov_skip, ↓ View.readCov_cons_toLoadRect, ↓ View.readCov_fill]
  rw [stateAt, ← state_4_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_5_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v1019 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 5 := by
  unfold kernelRun0_A.sl.v1019 kernelRun0_A.sl.HS0_12 kernelRun0_A.sl.HS0_11 kernelRun0_A.sl.HS0_10
  simp (disch := decide) only [↓ View.readCov_skip, ↓ View.readCov_cons_toLoadRect, ↓ View.readCov_fill]
  rw [stateAt, ← state_4_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_6_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v1111 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 6 := by
  unfold kernelRun0_A.sl.v1111 kernelRun0_A.sl.HS0_13 kernelRun0_A.sl.HS0_12 kernelRun0_A.sl.HS0_11
  simp (disch := decide) only [↓ View.readCov_skip, ↓ View.readCov_cons_toLoadRect, ↓ View.readCov_fill]
  rw [stateAt, ← state_5_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_6_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v1199 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 6 := by
  unfold kernelRun0_A.sl.v1199 kernelRun0_A.sl.HS0_14 kernelRun0_A.sl.HS0_13 kernelRun0_A.sl.HS0_12
  simp (disch := decide) only [↓ View.readCov_skip, ↓ View.readCov_cons_toLoadRect, ↓ View.readCov_fill]
  rw [stateAt, ← state_5_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_7_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v1291 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 7 := by
  unfold kernelRun0_A.sl.v1291 kernelRun0_A.sl.HS0_15 kernelRun0_A.sl.HS0_14 kernelRun0_A.sl.HS0_13
  simp (disch := decide) only [↓ View.readCov_skip, ↓ View.readCov_cons_toLoadRect, ↓ View.readCov_fill]
  rw [stateAt, ← state_6_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

theorem state_7_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A.sl.v1379 c arg4 harg4 arg5 harg5 arg7 harg7 arg8 harg8 arg11 harg11 arg12 harg12 arg16 x1 x2 x4 x5 x8 x9 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 7 := by
  unfold kernelRun0_A.sl.v1379 kernelRun0_A.sl.HS0_16 kernelRun0_A.sl.HS0_15 kernelRun0_A.sl.HS0_14
  simp (disch := decide) only [↓ View.readCov_skip, ↓ View.readCov_cons_toLoadRect, ↓ View.readCov_fill]
  rw [stateAt, ← state_6_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  rfl

set_option maxHeartbeats 4000000 in
theorem out_pieces (c : Dev nD) (i : grid0.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x256 .bf16) (harg15 : arg15.IsWhole) (arg16 : Memref sig .tc .vmem S2x128x128 .f32) (harg16 : arg16.IsWhole) (hc0 : cond0_0 i) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 = [⟨rectTile 7 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 7)⟩,
      ⟨rectTile 7 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 7)⟩,
      ⟨rectTile 6 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 6 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 6)⟩,
      ⟨rectTile 6 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 6 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 6)⟩,
      ⟨rectTile 5 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 5 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 5)⟩,
      ⟨rectTile 5 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 5 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 5)⟩,
      ⟨rectTile 4 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 4 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 4)⟩,
      ⟨rectTile 4 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 4 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 4)⟩,
      ⟨rectTile 3 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 3 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 3)⟩,
      ⟨rectTile 3 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 3 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 3)⟩,
      ⟨rectTile 2 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 2 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 2)⟩,
      ⟨rectTile 2 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 2 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 2)⟩,
      ⟨rectTile 1 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 1 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 1)⟩,
      ⟨rectTile 1 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 1 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 1)⟩,
      ⟨rectTile 0 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 0 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 0)⟩,
      ⟨rectTile 0 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 0 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 0)⟩] := by
  rw [← state_7_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_7_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_6_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_6_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_5_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_5_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_4_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_4_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_3_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_3_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_2_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_2_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_1_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_1_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_0_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_0_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  unfold kernelRun0_A
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))))))))))
  all_goals exact rfl

theorem state_pieces (c : Dev nD) (i : grid0.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x256 .bf16) (harg15 : arg15.IsWhole) (arg16 : Memref sig .tc .vmem S2x128x128 .f32) (harg16 : arg16.IsWhole) (hc0 : cond0_0 i) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) :
    ∃ rest, (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 = ⟨rectHead 1, stepState (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 1 7)⟩ :: ⟨rectHead 0, stepState (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start (F := F)) 0 7)⟩ :: rest := by
  rw [← state_7_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11, ← state_7_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11]
  unfold kernelRun0_A
  dsimp only
  exact ⟨_, rfl⟩

end CaseA
end Cert.RetentionStep
-- ==== Proof.RetStepB.lean ====
/-
  The stores of a later tile: the state starts at what the tile before left. Every store found in a run of the body is the
  chunk's output, or the head's state, as `stepOut` and `stepState` give them.
-/
module
public import proofs.«01_k».proof.Proof.RetStep

@[expose] public section
namespace Cert.RetentionStep
open Idealize.ShloMosaic
open Cert.KernelIdeal Cert.KernelIdeal.Gen
variable {F : FTy → Type} [FloatOps F]

namespace CaseB

/-- The loads as the run spells them: read through the point's buffers. -/
noncomputable def raw (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) : Loads F where
  q n h := View.readAt (Elt F) arg3.view (rectTile n h).toLoadRect (harg3.unread x0)
  k n h := View.readAt (Elt F) arg4.view (rectTile n h).toLoadRect (harg4.unread x1)
  v n h := View.readAt (Elt F) arg5.view (rectTile n h).toLoadRect (harg5.unread x2)
  gate n h := View.readAt (Elt F) arg6.view (rectTile n h).toLoadRect (harg6.unread x3)
  cos n := View.readAt (Elt F) arg7.view (rectRows n).toLoadRect (harg7.unread x4)
  sin n := View.readAt (Elt F) arg8.view (rectRows n).toLoadRect (harg8.unread x5)
  dmat h := View.readAt (Elt F) arg9.view (rectHead h).toLoadRect (harg9.unread x6)
  qdec h := View.readAt (Elt F) arg10.view (rectHead h).toLoadRect (harg10.unread x7)
  kdec h := View.readAt (Elt F) arg11.view (rectHead h).toLoadRect (harg11.unread x8)
  cdec h := View.readAt (Elt F) arg12.view (rectRow h).toLoadRect (harg12.unread x9)
  gain h := View.readAt (Elt F) arg13.view (rectChan h).toLoadRect (harg13.unread x10)
  bias h := View.readAt (Elt F) arg14.view (rectChan h).toLoadRect (harg14.unread x11)

theorem raw_eq (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) : raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = loads x0 x1 x2 x3 x4 x5 x6 x7 x8 x9 x10 x11 := by
  unfold raw loads
  congr 1 <;> (repeat (funext _)) <;> exact Memref.IsWhole.readAt_unread _ _ _ _

/-- The states the tile starts with: what the point before left. -/
noncomputable def start (arg16 : Memref sig .tc .vmem S2x128x128 .f32) (harg16 : arg16.IsWhole) (xs0 : Vec F S2x128x128 .f32) (h : ℕ) : Vec F S1x128x128 .f32 :=
  View.readAt (Elt F) arg16.view (rectHead h).toLoadRect (harg16.unread xs0)

theorem state_0_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v119 c arg16 harg16 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 0 := by
  rfl

theorem state_1_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v211 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 1 := by
  unfold kernelRun0_B.sl.v211 kernelRun0_B.sl.HS0_2
  simp (disch := decide) only [↓ View.readCov_skip, ↓ View.readCov_cons_toLoadRect, ↓ View.readCov_fill]
  rfl

theorem state_1_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v299 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 1 := by
  unfold kernelRun0_B.sl.v299 kernelRun0_B.sl.HS0_3 kernelRun0_B.sl.HS0_2
  simp (disch := decide) only [↓ View.readCov_skip, ↓ View.readCov_cons_toLoadRect, ↓ View.readCov_fill]
  rw [stateAt, ← state_0_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_2_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v391 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 2 := by
  unfold kernelRun0_B.sl.v391 kernelRun0_B.sl.HS0_4 kernelRun0_B.sl.HS0_3 kernelRun0_B.sl.HS0_2
  simp (disch := decide) only [↓ View.readCov_skip, ↓ View.readCov_cons_toLoadRect, ↓ View.readCov_fill]
  rw [stateAt, ← state_1_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_2_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v479 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 2 := by
  unfold kernelRun0_B.sl.v479 kernelRun0_B.sl.HS0_5 kernelRun0_B.sl.HS0_4 kernelRun0_B.sl.HS0_3
  simp (disch := decide) only [↓ View.readCov_skip, ↓ View.readCov_cons_toLoadRect, ↓ View.readCov_fill]
  rw [stateAt, ← state_1_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_3_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v571 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 3 := by
  unfold kernelRun0_B.sl.v571 kernelRun0_B.sl.HS0_6 kernelRun0_B.sl.HS0_5 kernelRun0_B.sl.HS0_4
  simp (disch := decide) only [↓ View.readCov_skip, ↓ View.readCov_cons_toLoadRect, ↓ View.readCov_fill]
  rw [stateAt, ← state_2_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_3_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v659 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 3 := by
  unfold kernelRun0_B.sl.v659 kernelRun0_B.sl.HS0_7 kernelRun0_B.sl.HS0_6 kernelRun0_B.sl.HS0_5
  simp (disch := decide) only [↓ View.readCov_skip, ↓ View.readCov_cons_toLoadRect, ↓ View.readCov_fill]
  rw [stateAt, ← state_2_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_4_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v751 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 4 := by
  unfold kernelRun0_B.sl.v751 kernelRun0_B.sl.HS0_8 kernelRun0_B.sl.HS0_7 kernelRun0_B.sl.HS0_6
  simp (disch := decide) only [↓ View.readCov_skip, ↓ View.readCov_cons_toLoadRect, ↓ View.readCov_fill]
  rw [stateAt, ← state_3_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_4_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v839 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 4 := by
  unfold kernelRun0_B.sl.v839 kernelRun0_B.sl.HS0_9 kernelRun0_B.sl.HS0_8 kernelRun0_B.sl.HS0_7
  simp (disch := decide) only [↓ View.readCov_skip, ↓ View.readCov_cons_toLoadRect, ↓ View.readCov_fill]
  rw [stateAt, ← state_3_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_5_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v931 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 5 := by
  unfold kernelRun0_B.sl.v931 kernelRun0_B.sl.HS0_10 kernelRun0_B.sl.HS0_9 kernelRun0_B.sl.HS0_8
  simp (disch := decide) only [↓ View.readCov_skip, ↓ View.readCov_cons_toLoadRect, ↓ View.readCov_fill]
  rw [stateAt, ← state_4_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_5_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v1019 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 5 := by
  unfold kernelRun0_B.sl.v1019 kernelRun0_B.sl.HS0_11 kernelRun0_B.sl.HS0_10 kernelRun0_B.sl.HS0_9
  simp (disch := decide) only [↓ View.readCov_skip, ↓ View.readCov_cons_toLoadRect, ↓ View.readCov_fill]
  rw [stateAt, ← state_4_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_6_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v1111 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 6 := by
  unfold kernelRun0_B.sl.v1111 kernelRun0_B.sl.HS0_12 kernelRun0_B.sl.HS0_11 kernelRun0_B.sl.HS0_10
  simp (disch := decide) only [↓ View.readCov_skip, ↓ View.readCov_cons_toLoadRect, ↓ View.readCov_fill]
  rw [stateAt, ← state_5_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_6_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v1199 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 6 := by
  unfold kernelRun0_B.sl.v1199 kernelRun0_B.sl.HS0_13 kernelRun0_B.sl.HS0_12 kernelRun0_B.sl.HS0_11
  simp (disch := decide) only [↓ View.readCov_skip, ↓ View.readCov_cons_toLoadRect, ↓ View.readCov_fill]
  rw [stateAt, ← state_5_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_7_0 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v1291 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 7 := by
  unfold kernelRun0_B.sl.v1291 kernelRun0_B.sl.HS0_14 kernelRun0_B.sl.HS0_13 kernelRun0_B.sl.HS0_12
  simp (disch := decide) only [↓ View.readCov_skip, ↓ View.readCov_cons_toLoadRect, ↓ View.readCov_fill]
  rw [stateAt, ← state_6_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

theorem state_7_1 (c : Dev nD) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg16 : Memref sig .tc .vmem S2x128x128 .f32) (harg16 : arg16.IsWhole) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B.sl.v1379 c arg4 harg4 arg5 harg5 arg7 harg7 arg8 harg8 arg11 harg11 arg12 harg12 arg16 harg16 x1 x2 x4 x5 x8 x9 xs0 : Vec F S1x128x128 .f32) = stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 7 := by
  unfold kernelRun0_B.sl.v1379 kernelRun0_B.sl.HS0_15 kernelRun0_B.sl.HS0_14 kernelRun0_B.sl.HS0_13
  simp (disch := decide) only [↓ View.readCov_skip, ↓ View.readCov_cons_toLoadRect, ↓ View.readCov_fill]
  rw [stateAt, ← state_6_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  rfl

set_option maxHeartbeats 4000000 in
theorem out_pieces (c : Dev nD) (i : grid0.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x256 .bf16) (harg15 : arg15.IsWhole) (arg16 : Memref sig .tc .vmem S2x128x128 .f32) (harg16 : arg16.IsWhole) (hc0 : ¬cond0_0 i) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).1 = [⟨rectTile 7 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 7)⟩,
      ⟨rectTile 7 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 7)⟩,
      ⟨rectTile 6 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 6 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 6)⟩,
      ⟨rectTile 6 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 6 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 6)⟩,
      ⟨rectTile 5 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 5 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 5)⟩,
      ⟨rectTile 5 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 5 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 5)⟩,
      ⟨rectTile 4 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 4 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 4)⟩,
      ⟨rectTile 4 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 4 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 4)⟩,
      ⟨rectTile 3 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 3 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 3)⟩,
      ⟨rectTile 3 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 3 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 3)⟩,
      ⟨rectTile 2 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 2 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 2)⟩,
      ⟨rectTile 2 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 2 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 2)⟩,
      ⟨rectTile 1 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 1 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 1)⟩,
      ⟨rectTile 1 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 1 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 1)⟩,
      ⟨rectTile 0 1, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 0 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 0)⟩,
      ⟨rectTile 0 0, stepOut (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 0 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 0)⟩] := by
  rw [← state_7_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_7_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_6_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_6_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_5_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_5_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_4_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_4_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_3_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_3_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_2_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_2_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_1_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_1_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_0_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  unfold kernelRun0_B
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))))))))))
  all_goals exact rfl

theorem state_pieces (c : Dev nD) (i : grid0.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x256 .bf16) (harg15 : arg15.IsWhole) (arg16 : Memref sig .tc .vmem S2x128x128 .f32) (harg16 : arg16.IsWhole) (hc0 : ¬cond0_0 i) (x0 : Vec F S1x1024x256 .bf16) (x1 : Vec F S1x1024x256 .bf16) (x2 : Vec F S1x1024x256 .bf16) (x3 : Vec F S1x1024x256 .bf16) (x4 : Vec F S1024x128 .f32) (x5 : Vec F S1024x128 .f32) (x6 : Vec F S2x128x128 .f32) (x7 : Vec F S2x128x128 .f32) (x8 : Vec F S2x128x128 .f32) (x9 : Vec F S2x1x128 .f32) (x10 : Vec F S1x256 .f32) (x11 : Vec F S1x256 .f32) (xs0 : Vec F S2x128x128 .f32) :
    ∃ rest, (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.1 = ⟨rectHead 1, stepState (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 1 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 1 7)⟩ :: ⟨rectHead 0, stepState (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) 7 0 (stateAt (raw arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (start arg16 harg16 xs0) 0 7)⟩ :: rest := by
  rw [← state_7_1 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0, ← state_7_0 c arg3 harg3 arg4 harg4 arg5 harg5 arg6 harg6 arg7 harg7 arg8 harg8 arg9 harg9 arg10 harg10 arg11 harg11 arg12 harg12 arg13 harg13 arg14 harg14 arg16 harg16 x0 x1 x2 x3 x4 x5 x6 x7 x8 x9 x10 x11 xs0]
  unfold kernelRun0_B
  dsimp only
  exact ⟨_, rfl⟩

end CaseB
end Cert.RetentionStep
-- ==== Proof.RetValue.lean ====
/-
  The retention's kernel computes the reference's result.
-/
module

public import proofs.«01_k».proof.Proof.RetRun
public import proofs.«01_k».proof.Proof.RetStepA
public import proofs.«01_k».proof.Proof.RetStepB

@[expose] public section

set_option maxRecDepth 16384

noncomputable section

namespace Cert.RetValue

open Cert.KernelIdeal Cert.KernelIdeal.Gen Cert.RetentionStep Cert.RetBlocks Cert.RetPlaced Cert.RetRun
open Cert.RetLoop (stateN states)
open Cert.RetRefValue (retention)
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD) (t : Fin cfg0.N)

/-- The state that a point starts from: zero at a sequence's first tile, else what the point before left. -/
def startOf (t : Fin cfg0.N) (h : ℕ) : Vec Ideal S1x128x128 .f32 :=
  if t.val % 16 = 0 then CaseA.start (F := Ideal) h
  else CaseB.start (F := Ideal) scM0_0 (Memref.isWhole_whole _) (outsAt0 m c (t.val - 1) (Nat.lt_of_le_of_lt (Nat.sub_le _ _) t.isLt)).2 h

theorem start_first (h0 : t.val % 16 = 0) : startOf m c t = CaseA.start (F := Ideal) := by
  funext h
  exact if_pos h0

theorem start_next (h0 : ¬t.val % 16 = 0) : startOf m c t
    = CaseB.start (F := Ideal) scM0_0 (Memref.isWhole_whole _) (outsAt0 m c (t.val - 1) (Nat.lt_of_le_of_lt (Nat.sub_le _ _) t.isLt)).2 := by
  funext h
  exact if_neg h0

set_option maxHeartbeats 4000000 in
theorem out_block : (outsAt0 m c t.val t.isLt).1 = View.canon (stores (loadsOf m c t) (startOf m c t)) := by
  by_cases h0 : t.val % 16 = 0
  · rw [start_first m c t h0, outsAt0_A m c t h0]
    dsimp only
    unfold out0_A_12
    rw [View.read_writes_junk_eq_canon, CaseA.out_pieces, CaseA.raw_eq]
    rfl
  · rw [start_next m c t h0, outsAt0_B m c t h0]
    dsimp only
    unfold out0_B_12
    rw [View.read_writes_junk_eq_canon, CaseB.out_pieces, CaseB.raw_eq]
    rfl

set_option maxHeartbeats 4000000 in
theorem out_state : ∃ rest, (outsAt0 m c t.val t.isLt).2
    = View.canon (⟨rectHead 1, stateAt (loadsOf m c t) (startOf m c t) 1 8⟩ :: ⟨rectHead 0, stateAt (loadsOf m c t) (startOf m c t) 0 8⟩ :: rest) := by
  by_cases h0 : t.val % 16 = 0
  · obtain ⟨rest, hr⟩ := CaseA.state_pieces (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) scM0_0 (Memref.isWhole_whole _) ((hcond0_0 t).mpr h0) (iblk m c 0 t) (iblk m c 1 t) (iblk m c 2 t)
      (iblk m c 3 t) (iblk m c 4 t) (iblk m c 5 t) (iblk m c 6 t) (iblk m c 7 t) (iblk m c 8 t) (iblk m c 9 t) (iblk m c 10 t) (iblk m c 11 t)
    refine ⟨rest, ?_⟩
    rw [start_first m c t h0, outsAt0_A m c t h0]
    dsimp only
    unfold sout0_A_0
    rw [View.read_writes_junk_eq_canon, hr, CaseA.raw_eq]
    rfl
  · obtain ⟨rest, hr⟩ := CaseB.state_pieces (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) scM0_0 (Memref.isWhole_whole _) (fun h => h0 ((hcond0_0 t).mp h)) (iblk m c 0 t) (iblk m c 1 t)
      (iblk m c 2 t) (iblk m c 3 t) (iblk m c 4 t) (iblk m c 5 t) (iblk m c 6 t) (iblk m c 7 t) (iblk m c 8 t) (iblk m c 9 t) (iblk m c 10 t)
      (iblk m c 11 t) (outsAt0 m c (t.val - 1) (Nat.lt_of_le_of_lt (Nat.sub_le _ _) t.isLt)).2
    refine ⟨rest, ?_⟩
    rw [start_next m c t h0, outsAt0_B m c t h0]
    dsimp only
    unfold sout0_B_0
    rw [View.read_writes_junk_eq_canon, hr, CaseB.raw_eq]
    rfl

theorem zero_start (h : Fin 2) (d e : Fin 128) : CaseA.start (F := Ideal) h (ix3 0 d e) = (0 : EReal) := by
  refine (head_at _ h d e).trans ?_
  pointwise [k0_pay2]

theorem next_start (xs : Vec Ideal S2x128x128 .f32) (h : Fin 2) (d e : Fin 128) :
    CaseB.start (F := Ideal) scM0_0 (Memref.isWhole_whole _) xs h (ix3 0 d e) = xs (ix3 h d e) :=
  (Memref.IsWhole.readAt_unread _ _ _ _).trans (congrArg xs (head_idx h d e))

/-- The scratch after a point holds the states after its last chunk, if the point starts from the states before its first. -/
theorem left_state (h0 : ∀ (h : Fin 2) d e, startOf m c t h (ix3 0 d e) = stateOf m c t (t.val % 16 * 8) h d e) (h : Fin 2) (d e : Fin 128) :
    (outsAt0 m c t.val t.isLt).2 (ix3 h d e) = stateOf m c t (t.val % 16 * 8 + 8) h d e := by
  obtain ⟨rest, hr⟩ := out_state m c t
  rw [hr]
  have hs := stateAt_eq m c t (startOf m c t) h (h0 h) 8 (Nat.le_refl 8) d e
  rw [← hs]
  fin_cases h
  · exact canon_low _ _ _ _ _
  · exact canon_high _ _ _ _

/-- Every point starts from the states before its first chunk. -/
theorem started : ∀ (n : ℕ) (hn : n < cfg0.N) (h : Fin 2) (d e : Fin 128),
    startOf m c ⟨n, hn⟩ h (ix3 0 d e) = stateOf m c ⟨n, hn⟩ (n % 16 * 8) h d e := by
  intro n
  induction n with
  | zero =>
    intro hn h d e
    rw [start_first m c ⟨0, hn⟩ rfl, zero_start]
    rfl
  | succ k ih =>
    intro hn h d e
    by_cases h0 : (k + 1) % 16 = 0
    · rw [start_first m c ⟨k + 1, hn⟩ h0, zero_start, h0]
      rfl
    · rw [start_next m c ⟨k + 1, hn⟩ h0, next_start]
      have hk : k < cfg0.N := Nat.lt_of_succ_lt hn
      refine (left_state m c ⟨k, hk⟩ (ih hk) h d e).trans ?_
      unfold stateOf
      rw [show seqOf ⟨k, hk⟩ = seqOf ⟨k + 1, hn⟩ from Fin.ext (show k / 64 = (k + 1) / 64 by omega),
        show headOf ⟨k, hk⟩ h = headOf ⟨k + 1, hn⟩ h from Fin.ext (show k / 16 % 4 * 2 + (h : ℕ) = (k + 1) / 16 % 4 * 2 + h by omega),
        show k % 16 * 8 + 8 = (k + 1) % 16 * 8 by omega]

/-- The result, from the argument arrays in `m`. -/
def value (c : Dev nD) : FVec Ideal S2x16384x1024 .bf16 :=
  retention (argQ m c) (argK m c) (argV m c) (argG m c) (argGain m c) (argBias m c)

/-- What a point leaves in its block of the result. -/
theorem block_value (r : Fin 1024) (x : Fin 256) :
    (outsAt0 m c t.val t.isLt).1 (ix3 0 r x) = value m c (ix3 (seqOf t) (posOf t r) (chanOf t x)) := by
  rw [out_block]
  exact canon_stores m c t (startOf m c t) (started m c t.val t.isLt) r x

/-- The result array after the run. -/
theorem final (c : Dev nD) : (dats m 0 c).arrAt 12 cfg0.N = value m c := by
  refine (dats m 0 c).arrAt_eq_of_covers 12 _ (by decide +kernel) fun t _ y => ?_
  blk_simp
  rw [after0_12]
  obtain ⟨r, x, rfl⟩ : ∃ (r : Fin 1024) (x : Fin 256), y = ix3 0 r x := ⟨y 1, y 2, by
    funext a
    fin_cases a
    · exact Fin.ext (by have h1 : (y 0 : ℕ) < 1 := (y 0).isLt; show (y 0 : ℕ) = 0; omega)
    · rfl
    · rfl⟩
  refine (block_value m c t r x).trans ?_
  blk_ext [idx t]

end Cert.RetValue

end
-- ==== Proof.FfnRun.lean ====
/-
  The body of the second feed-forward call, run on whole staging buffers, in the three cases its branches tell
  apart: the first block of a row of blocks (the input is narrowed into its scratch and the accumulator zeroed,
  then one block is added), a middle block (one block is added), and the last, partial block (its first 384
  columns are added and the normalised residual is stored).
-/
module

public import proofs.«01_k».proof.Proof.Gen.FfnIdeal.Frame
public import proofs.«01_k».proof.Proof.Gen.FfnIdeal.Skeleton
public import Idealize.ShloMosaic.Lib.Pipeline.Value

@[expose] public section

set_option maxRecDepth 16384

noncomputable section

namespace Cert.FfnProof

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The branch of the first block. -/
abbrev first (i : grid0.Coords) : Prop :=
  Scalar.cmpi .ne (Scalar.extui (Scalar.cmpi .eq (BitVec.ofNat 32 (i 1).val) 0#32)) 0#32 = 1#1
/-- The branch of a whole block. -/
abbrev whole (i : grid0.Coords) : Prop :=
  Scalar.cmpi .ne (Scalar.extui (Scalar.cmpi .slt (BitVec.ofNat 32 (i 1).val) 10#32)) 0#32 = 1#1
/-- The branch of the last block. -/
abbrev last (i : grid0.Coords) : Prop := k0_cond3 i = 1#1

/-- The leading 384 columns of a block of the gate and up weights. -/
abbrev cols : Rect S2048x512 := Rect.unit (s := S2048x512) ![0, 0] S2048x384.size inb_S2048x512_S2048x384_0_0
/-- The leading 384 rows of a block of the down weights. -/
abbrev rows : Rect S512x2048 := Rect.unit (s := S512x2048) ![0, 0] S384x2048.size inb_S512x2048_S384x2048_0_0

theorem origin : (![0, 0] : Fin 2 → Nat) = fun _ => 0 := by decide

/-- A list of stores whose last is of the whole buffer covers it. -/
theorem covered {s : Shape} {e : EltTy} {off : Fin s.rank → Nat} (h : off = fun _ => 0) (inb : ∀ a, off a + s.size a ≤ s.size a)
    (w : s.Idx → Elt F e) (L : List (View.Piece (Elt F) s e)) (y : s.Idx) :
    ∃ p ∈ ((⟨Rect.unit off s.size inb, w⟩ : View.Piece (Elt F) s e) :: L), y ∈ p.1.set :=
  ⟨_, List.mem_cons_self, View.mem_set_unit_zero h inb y⟩

/-- What such a list leaves. -/
theorem left {s : Shape} {e : EltTy} {sp : Space} (v : View sig .tc sp s e) (f : v.ty.Contents (Elt F)) {off : Fin s.rank → Nat} (h : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (covered h inb w L), View.canon_cons_unit_zero h]

set_option maxHeartbeats 1000000 in
/-- The body at the first block. -/
theorem run_first (c : Dev nD) (E : Set ℕ) (i : grid0.Coords)
    (arg2 : Memref sig .tc .vmem S512x2048 .f32) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S512x2048 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x2048 .f32) (harg8 : arg8.IsWhole)
    (arg9 : Memref sig .tc .vmem S512x2048 .bf16) (harg9 : arg9.IsWhole)
    (arg10 : Memref sig .tc .vmem S512x2048 .f32) (harg10 : arg10.IsWhole)
    (h1 : first i) (h2 : whole i) (h3 : ¬ last i)
    (x0 : Vec F S512x2048 .f32) (x1 x2 : Vec F S2048x512 .bf16) (x3 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare (k0_pay1 x0) ∗ owns (c : Thread nD τ) arg10 fullShare (k0_pay3 (k0_pay1 x0) x1 x2 k0_pay2 x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10) K := by
  simp only [cc0_ffn_ln_eq_skeleton]; unfold cc0_ffn_ln_skel
  simp only [k0_part1_eq_skeleton]
  unfold owns
  iintro ⟨⟨%f2, %hf2, H2⟩, ⟨%f3, %hf3, H3⟩, ⟨%f4, %hf4, H4⟩, ⟨%f5, %hf5, H5⟩, ⟨%d9, %f9, -, H9⟩, ⟨%d10, %f10, -, H10⟩, Hk⟩
  subst hf2 hf3 hf4 hf5
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists _; isplitr
    swap; · iexact H9
    ipureintro
    sl_unfold_words
    refine (left _ _ origin _ _ _).trans ?_
    simp only [View.readAt_eq_ld, View.ld_unit_zero (S := S512x2048) origin, View.ld_unit_zero (S := S2048x512) origin,
      View.ld_unit_zero (S := S1x2048) origin, View.readCov_unit_zero (S := S512x2048) _ origin, cols, rows]
  iexists _; isplitr
  swap; · iexact H10
  ipureintro
  sl_unfold_words
  refine (left _ _ origin _ _ _).trans ?_
  simp only [View.readAt_eq_ld, View.ld_unit_zero (S := S512x2048) origin, View.ld_unit_zero (S := S2048x512) origin,
      View.ld_unit_zero (S := S1x2048) origin, View.readCov_unit_zero (S := S512x2048) _ origin, cols, rows]

set_option maxHeartbeats 1000000 in
/-- The body at a middle block. -/
theorem run_middle (c : Dev nD) (E : Set ℕ) (i : grid0.Coords)
    (arg2 : Memref sig .tc .vmem S512x2048 .f32) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S512x2048 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x2048 .f32) (harg8 : arg8.IsWhole)
    (arg9 : Memref sig .tc .vmem S512x2048 .bf16) (harg9 : arg9.IsWhole)
    (arg10 : Memref sig .tc .vmem S512x2048 .f32) (harg10 : arg10.IsWhole)
    (h1 : ¬ first i) (h2 : whole i) (h3 : ¬ last i)
    (x1 x2 : Vec F S2048x512 .bf16) (x3 : Vec F S512x2048 .bf16) (xb : Vec F S512x2048 .bf16) (acc : Vec F S512x2048 .f32) (K : PUnit → sProp 𝕄) :
    iprop(owns (c : Thread nD τ) arg3 fullShare x1 ∗ owns (c : Thread nD τ) arg4 fullShare x2 ∗ owns (c : Thread nD τ) arg5 fullShare x3 ∗ owns (c : Thread nD τ) arg9 fullShare xb ∗ owns (c : Thread nD τ) arg10 fullShare acc
        ∗ (iprop(owns (c : Thread nD τ) arg3 fullShare x1 ∗ owns (c : Thread nD τ) arg4 fullShare x2 ∗ owns (c : Thread nD τ) arg5 fullShare x3 ∗ owns (c : Thread nD τ) arg9 fullShare xb ∗ owns (c : Thread nD τ) arg10 fullShare (k0_pay3 xb x1 x2 acc x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10) K := by
  simp only [cc0_ffn_ln_eq_skeleton]; unfold cc0_ffn_ln_skel
  simp only [k0_part1_eq_skeleton]
  unfold owns
  iintro ⟨⟨%f3, %hf3, H3⟩, ⟨%f4, %hf4, H4⟩, ⟨%f5, %hf5, H5⟩, ⟨%f9, %hf9, H9⟩, ⟨%f10, %hf10, H10⟩, Hk⟩
  subst hf3 hf4 hf5 hf9 hf10
  sl_exec (disch := first | sl_exact h1 | sl_exact h2 | sl_exact h3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists f9; isplitr; · ipureintro; rfl
    iexact H9
  iexists _; isplitr
  swap; · iexact H10
  ipureintro
  sl_unfold_words
  refine (left _ _ origin _ _ _).trans ?_
  simp only [View.readAt_eq_ld, View.ld_unit_zero (S := S512x2048) origin, View.ld_unit_zero (S := S2048x512) origin,
      View.ld_unit_zero (S := S1x2048) origin, View.readCov_unit_zero (S := S512x2048) _ origin, cols, rows]

set_option maxHeartbeats 1000000 in
/-- The body at the last block. -/
theorem run_last (c : Dev nD) (E : Set ℕ) (i : grid0.Coords)
    (arg2 : Memref sig .tc .vmem S512x2048 .f32) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S512x2048 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x2048 .f32) (harg8 : arg8.IsWhole)
    (arg9 : Memref sig .tc .vmem S512x2048 .bf16) (harg9 : arg9.IsWhole)
    (arg10 : Memref sig .tc .vmem S512x2048 .f32) (harg10 : arg10.IsWhole)
    (h1 : ¬ first i) (h2 : ¬ whole i) (h3 : last i)
    (x0 : Vec F S512x2048 .f32) (x1 x2 : Vec F S2048x512 .bf16) (x3 : Vec F S512x2048 .bf16) (g b : Vec F S1x2048 .f32) (xb : Vec F S512x2048 .bf16) (acc : Vec F S512x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare g ∗ owns (c : Thread nD τ) arg7 fullShare b ∗ (∃ d, owns (c : Thread nD τ) arg8 fullShare d) ∗ owns (c : Thread nD τ) arg9 fullShare xb ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare g ∗ owns (c : Thread nD τ) arg7 fullShare b ∗ owns (c : Thread nD τ) arg8 fullShare (k0_pay4 (k0_pay6 x0 (k0_pay5 xb (View.ld x1 cols) (View.ld x2 cols) acc (View.ld x3 rows))) g b) ∗ owns (c : Thread nD τ) arg9 fullShare xb ∗ owns (c : Thread nD τ) arg10 fullShare (k0_pay5 xb (View.ld x1 cols) (View.ld x2 cols) acc (View.ld x3 rows))) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10) K := by
  simp only [cc0_ffn_ln_eq_skeleton]; unfold cc0_ffn_ln_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf2 hf3 hf4 hf5 hf6 hf7 hf9 hf10
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (left _ _ origin _ _ _).trans ?_
    simp only [View.readAt_eq_ld, View.ld_unit_zero (S := S512x2048) origin, View.ld_unit_zero (S := S2048x512) origin,
      View.ld_unit_zero (S := S1x2048) origin, View.readCov_unit_zero (S := S512x2048) _ origin, cols, rows]
  isplitl [H9]
  · iexists f9; isplitr; · ipureintro; rfl
    iexact H9
  iexists _; isplitr
  swap; · iexact H10
  ipureintro
  sl_unfold_words
  refine (left _ _ origin _ _ _).trans ?_
  simp only [View.readAt_eq_ld, View.ld_unit_zero (S := S512x2048) origin, View.ld_unit_zero (S := S2048x512) origin,
      View.ld_unit_zero (S := S1x2048) origin, View.readCov_unit_zero (S := S512x2048) _ origin, cols, rows]

end Cert.FfnProof

end
-- ==== Proof.FfnFrame.lean ====
/-
  The second feed-forward call's run: what its two scratch buffers hold between grid points (the narrowed rows, and the
  sum over the blocks so far), the body's obligation at every point, and the launch. A weight block that overhangs
  its array is read only in its leading 384 columns or rows, so that the words past the array's end are never used.
-/
module

public import Idealize.ShloMosaic.Lib.Claim
public import proofs.«01_k».proof.Proof.FfnRun

@[expose] public section

set_option maxRecDepth 16384

noncomputable section

namespace Cert.FfnProof

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches at a point -/

theorem first_iff (t : Fin cfg0.N) : first (grid0.coords t) ↔ t.val % 11 = 0 := by
  have ht : t.val < 704 := Nat.lt_of_lt_of_eq t.isLt N_0
  have e1 : (grid0.coords t 1).val = t.val / 1 % 11 := Pipeline.Grid.coords_val t 1 (by decide) rfl
  simp only [first, e1]
  word_cmp

theorem whole_iff (t : Fin cfg0.N) : whole (grid0.coords t) ↔ t.val % 11 ≠ 10 := by
  have ht : t.val < 704 := Nat.lt_of_lt_of_eq t.isLt N_0
  have e1 : (grid0.coords t 1).val = t.val / 1 % 11 := Pipeline.Grid.coords_val t 1 (by decide) rfl
  simp only [whole, e1]
  word_cmp

theorem last_iff (t : Fin cfg0.N) : last (grid0.coords t) ↔ t.val % 11 = 10 := by
  have ht : t.val < 704 := Nat.lt_of_lt_of_eq t.isLt N_0
  have e1 : (grid0.coords t 1).val = t.val / 1 % 11 := Pipeline.Grid.coords_val t 1 (by decide) rfl
  simp only [last, k0_cond3, e1]
  word_cmp

/-! ## The weights' blocks -/

/-- How much of a block of the gate weights lies in the array, -/
theorem inside_1 : ∀ (t : Fin grid0.N) (a : Fin 2), win0_1.xsize (grid0.coords t) a = if t.val % 11 = 10 ∧ a = 1 then 384 else S2048x512.size a := by
  decide +kernel
/-- of the up weights, -/
theorem inside_2 : ∀ (t : Fin grid0.N) (a : Fin 2), win0_2.xsize (grid0.coords t) a = if t.val % 11 = 10 ∧ a = 1 then 384 else S2048x512.size a := by
  decide +kernel
/-- and of the down weights. -/
theorem inside_3 : ∀ (t : Fin grid0.N) (a : Fin 2), win0_3.xsize (grid0.coords t) a = if t.val % 11 = 10 ∧ a = 0 then 384 else S512x2048.size a := by
  decide +kernel

/-- A block that lies in its array is filled whole: what the buffer held before is gone. -/
theorem fill_whole (w : Window sig grid0) (i : grid0.Coords) {α : Type} (d d' : w.block.Idx → α) (g : (w.xblock i).Idx → α)
    (h : ∀ j, w.moved i j = true) : w.fill i d g = w.fill i d' g := by
  funext j; unfold Window.fill; rw [dif_pos (h j), dif_pos (h j)]

/-- A load of the part of a block that lies in its array reads nothing of what the buffer held before. -/
theorem ld_fill (w : Window sig grid0) (i : grid0.Coords) {e : EltTy} (d d' : w.block.Idx → Elt F e) (g : (w.xblock i).Idx → Elt F e)
    (R : Rect w.block) (h : ∀ j : R.shape.Idx, w.moved i (R.emb j) = true) :
    View.ld (Val := Elt F) (e' := e) (w.fill i d g) R = View.ld (Val := Elt F) (e' := e) (w.fill i d' g) R := by
  funext j; have hj : w.moved i (R.idx j) = true := h j
  unfold View.ld Window.fill; rw [dif_pos hj, dif_pos hj]

theorem moved_1 (t : Fin cfg0.N) (h : t.val % 11 ≠ 10) (j : S2048x512.Idx) : win0_1.moved (grid0.coords t) j = true :=
  (win0_1.moved_iff _ j).mpr fun a => by rw [inside_1 t a, if_neg (fun hh => h hh.1)]; exact (j a).isLt
theorem moved_2 (t : Fin cfg0.N) (h : t.val % 11 ≠ 10) (j : S2048x512.Idx) : win0_2.moved (grid0.coords t) j = true :=
  (win0_2.moved_iff _ j).mpr fun a => by rw [inside_2 t a, if_neg (fun hh => h hh.1)]; exact (j a).isLt
theorem moved_3 (t : Fin cfg0.N) (h : t.val % 11 ≠ 10) (j : S512x2048.Idx) : win0_3.moved (grid0.coords t) j = true :=
  (win0_3.moved_iff _ j).mpr fun a => by rw [inside_3 t a, if_neg (fun hh => h hh.1)]; exact (j a).isLt

theorem cols_lt (j : cols.shape.Idx) : (cols.emb j 0).val < 2048 ∧ (cols.emb j 1).val < 384 := by
  have h0 : (j 0).val < 2048 := (j 0).isLt
  have h1 : (j 1).val < 384 := (j 1).isLt
  rw [Rect.emb_apply, Rect.emb_apply]
  exact ⟨by show 0 + 1 * (j 0).val < 2048; omega, by show 0 + 1 * (j 1).val < 384; omega⟩
theorem rows_lt (j : rows.shape.Idx) : (rows.emb j 0).val < 384 ∧ (rows.emb j 1).val < 2048 := by
  have h0 : (j 0).val < 384 := (j 0).isLt
  have h1 : (j 1).val < 2048 := (j 1).isLt
  rw [Rect.emb_apply, Rect.emb_apply]
  exact ⟨by show 0 + 1 * (j 0).val < 384; omega, by show 0 + 1 * (j 1).val < 2048; omega⟩

theorem cols_1 (t : Fin cfg0.N) (j : cols.shape.Idx) : win0_1.moved (grid0.coords t) (cols.emb j) = true :=
  (win0_1.moved_iff _ _).mpr fun a => by
    rw [inside_1 t a]; obtain ⟨h0, h1⟩ := cols_lt j
    match a with
    | ⟨0, _⟩ => rw [if_neg (fun hh => absurd hh.2 (show ¬ (0 : Fin 2) = 1 by decide))]; exact h0
    | ⟨1, _⟩ => split; exact h1; exact Nat.lt_trans h1 (show 384 < 512 by decide)
theorem cols_2 (t : Fin cfg0.N) (j : cols.shape.Idx) : win0_2.moved (grid0.coords t) (cols.emb j) = true :=
  (win0_2.moved_iff _ _).mpr fun a => by
    rw [inside_2 t a]; obtain ⟨h0, h1⟩ := cols_lt j
    match a with
    | ⟨0, _⟩ => rw [if_neg (fun hh => absurd hh.2 (show ¬ (0 : Fin 2) = 1 by decide))]; exact h0
    | ⟨1, _⟩ => split; exact h1; exact Nat.lt_trans h1 (show 384 < 512 by decide)
theorem rows_3 (t : Fin cfg0.N) (j : rows.shape.Idx) : win0_3.moved (grid0.coords t) (rows.emb j) = true :=
  (win0_3.moved_iff _ _).mpr fun a => by
    rw [inside_3 t a]; obtain ⟨h0, h1⟩ := rows_lt j
    match a with
    | ⟨0, _⟩ => split; exact h0; exact Nat.lt_trans h0 (show 384 < 512 by decide)
    | ⟨1, _⟩ => rw [if_neg (fun hh => absurd hh.2 (show ¬ (1 : Fin 2) = 0 by decide))]; exact h1

/-- The gate weights' block at a point, zero past the array's end, -/
def gate (c : Dev nD) (t : Fin cfg0.N) : Vec F S2048x512 .bf16 :=
  win0_1.fill (grid0.coords t) (fun _ => Scalar.ofBits .bf16 0#16) (iblk m c 1 t)
/-- the up weights', -/
def up (c : Dev nD) (t : Fin cfg0.N) : Vec F S2048x512 .bf16 :=
  win0_2.fill (grid0.coords t) (fun _ => Scalar.ofBits .bf16 0#16) (iblk m c 2 t)
/-- and the down weights'. -/
def down (c : Dev nD) (t : Fin cfg0.N) : Vec F S512x2048 .bf16 :=
  win0_3.fill (grid0.coords t) (fun _ => Scalar.ofBits .bf16 0#16) (iblk m c 3 t)

/-! ## The scratch buffers between points -/

/-- The narrowed rows and the sum so far, after the first block of a row of blocks, -/
def begun (c : Dev nD) (t : Fin cfg0.N) : Vec F S512x2048 .bf16 × Vec F S512x2048 .f32 :=
  (k0_pay1 (iblk m c 0 t), k0_pay3 (k0_pay1 (iblk m c 0 t)) (gate m c t) (up m c t) k0_pay2 (down m c t))
/-- and after a later one, from what they held before it. -/
def added (c : Dev nD) (t : Fin cfg0.N) (p : Vec F S512x2048 .bf16 × Vec F S512x2048 .f32) : Vec F S512x2048 .bf16 × Vec F S512x2048 .f32 :=
  (p.1, if t.val % 11 = 10 then k0_pay5 p.1 (View.ld (gate m c t) cols) (View.ld (up m c t) cols) p.2 (View.ld (down m c t) rows)
    else k0_pay3 p.1 (gate m c t) (up m c t) p.2 (down m c t))

/-- What they hold after point `n`. -/
def state (c : Dev nD) : (n : ℕ) → n < cfg0.N → Vec F S512x2048 .bf16 × Vec F S512x2048 .f32
  | 0, h => begun m c ⟨0, h⟩
  | n + 1, h => if (n + 1) % 11 = 0 then begun m c ⟨n + 1, h⟩ else added m c ⟨n + 1, h⟩ (state c n (Nat.lt_of_succ_lt h))

theorem state_first (c : Dev nD) (t : Fin cfg0.N) (h : t.val % 11 = 0) : state m c t.val t.isLt = begun m c t := by
  obtain ⟨n, hn⟩ := t
  cases n with
  | zero => rfl
  | succ n => exact if_pos h

theorem state_later (c : Dev nD) (t : Fin cfg0.N) (h : t.val % 11 ≠ 0) :
    state m c t.val t.isLt = added m c t (state m c (t.val - 1) (by have := t.isLt; omega)) := by
  obtain ⟨n, hn⟩ := t
  cases n with
  | zero => exact absurd (Nat.zero_mod 11) h
  | succ n => exact if_neg h

/-- The first result's rows, from what the accumulator holds after the last block. -/
def result (c : Dev nD) (t : Fin cfg0.N) : Vec F S512x2048 .f32 :=
  k0_pay4 (k0_pay6 (iblk m c 0 t) (state m c t.val t.isLt).2) (iblk m c 4 t) (iblk m c 5 t)

/-- The narrowed rows' scratch, -/
abbrev narrow : Memref sig .tc .vmem S512x2048 .bf16 := Memref.whole cc0_scratch0
/-- and the accumulator. -/
abbrev accum : Memref sig .tc .vmem S512x2048 .f32 := Memref.whole cc0_scratch1

theorem scratch_eq (c : Dev nD) :
    (Pipeline.ΦA spec0 c : sProp 𝕄)
      = iprop(iprop((∃ d, owns (c : Thread nD τ) narrow fullShare d) ∗ (∃ d, owns (c : Thread nD τ) accum fullShare d)) ∗ (∃ r, prngReg c r)) := by
  unfold Pipeline.ΦA; rw [scopedRest0_eq]; simp only [narrow, accum, owns_whole]; try rfl

/-- The invariant before point `n`: the scratch buffers at anything before the first point, then at `state`. -/
def inv (c : Dev nD) : (n : ℕ) → n ≤ cfg0.N → sProp 𝕄
  | 0, _ => Pipeline.ΦA spec0 c
  | n + 1, h => iprop(iprop(owns (c : Thread nD τ) narrow fullShare (state m c n h).1 ∗ owns (c : Thread nD τ) accum fullShare (state m c n h).2) ∗ (∃ r, prngReg c r))

theorem inv_zero (c : Dev nD) (n : ℕ) (h : n ≤ cfg0.N) (hz : n = 0) : inv m c n h = Pipeline.ΦA spec0 c := by subst hz; rfl
theorem inv_pos (c : Dev nD) (n : ℕ) (h : n ≤ cfg0.N) (hz : n ≠ 0) :
    inv m c n h = iprop(iprop(owns (c : Thread nD τ) narrow fullShare (state m c (n - 1) (by omega)).1 ∗ owns (c : Thread nD τ) accum fullShare (state m c (n - 1) (by omega)).2) ∗ (∃ r, prngReg c r)) := by
  cases n with
  | zero => exact absurd rfl hz
  | succ n => rfl

/-- The invariant gives the scratch buffers back at anything. -/
theorem inv_any (c : Dev nD) (n : ℕ) (h : n ≤ cfg0.N) : inv m c n h ⊢ Pipeline.ΦA spec0 c := by
  by_cases hz : n = 0
  · rw [inv_zero m c n h hz]
  · rw [inv_pos m c n h hz, scratch_eq]
    iintro ⟨⟨H0, H1⟩, Hg⟩
    isplitl [H0 H1]
    · isplitl [H0]
      · iexists _; iexact H0
      iexists _; iexact H1
    iexact Hg

/-! ## The pipeline's data -/

/-- The arrays as the region finds them; after the body each input's buffer at its block and each result's at its rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => gate m c t
    | ⟨2, _⟩ => up m c t
    | ⟨3, _⟩ => down m c t
    | ⟨4, _⟩ => iblk m c 4 t
    | ⟨5, _⟩ => iblk m c 5 t
    | ⟨6, _⟩ => result m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = result m c t := by dsimp only [dats]

theorem before_0 (c : Dev nD) (t : Fin cfg0.N) (d) : (dats m 0 c).before 0 t d = iblk m c 0 t :=
  before0_0_of m (dats m 0 c) (A_eq m c 0) (after_0 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- A weight window is fetched at every point: its buffer holds the block, and past the array's end anything. -/
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl

/-- The body's table at a point is the body on that point's staging buffers. -/
theorem defs_row (t : Fin cfg0.N) : defs₀ (F := F) .tc cfg0.body (cfg0.bodyArgs t (cfg0.slots t)) = bodyAt0 t := by
  unfold defs₀; rw [Defs.onTc_tc]

/-! ## What the body leaves, window by window -/

theorem idle_6 (t : Fin cfg0.N) (h : t.val % 11 ≠ 10) : cfg0.idle 6 (cfg0.grid.coords t) = true := by
  have h3 : ¬ last (grid0.coords t) := fun hh => h ((last_iff t).mp hh)
  show (!(k0_cond3 (grid0.coords t) == 1#1)) = true
  simpa using h3
theorem busy_6 (t : Fin cfg0.N) (h : t.val % 11 = 10) : cfg0.idle 6 (cfg0.grid.coords t) = false := by
  have h3 : last (grid0.coords t) := (last_iff t).mpr h
  show (!(k0_cond3 (grid0.coords t) == 1#1)) = false
  simpa using h3
theorem unflushed_6 (t : Fin cfg0.N) (h : t.val % 11 ≠ 10) : (cfg0.win 6).flush t = false := by
  have := mt (flush0_6 t).mp h
  simpa using this
/-- Where the last block's branch is not taken the result's buffer is handed back as found, -/
theorem leaves_6_idle (c : Dev nD) (t : Fin cfg0.N) (h : t.val % 11 ≠ 10) :
    (dats m 0 c).leaves 6 t = iprop(∃ d, owns (c : Thread nD τ) (st0_6 t) fullShare ((dats m 0 c).before 6 t d)) :=
  (dats m 0 c).leaves_idle 6 t (idle_6 t h) (unflushed_6 t h)
/-- and where it is, at the rows it stores. -/
theorem leaves_6_busy (c : Dev nD) (t : Fin cfg0.N) (h : t.val % 11 = 10) :
    (dats m 0 c).leaves 6 t = owns (c : Thread nD τ) (st0_6 t) fullShare (result m c t) := by
  unfold Dat.leaves; rw [busy_6 t h, after_6]
theorem leaves_0 (c : Dev nD) (t : Fin cfg0.N) : (dats m 0 c).leaves 0 t = owns (c : Thread nD τ) (st0_0 t) fullShare (iblk m c 0 t) := by
  rw [← after_0]
theorem leaves_4 (c : Dev nD) (t : Fin cfg0.N) : (dats m 0 c).leaves 4 t = owns (c : Thread nD τ) (st0_4 t) fullShare (iblk m c 4 t) := by
  rw [← after_4]
theorem leaves_5 (c : Dev nD) (t : Fin cfg0.N) : (dats m 0 c).leaves 5 t = owns (c : Thread nD τ) (st0_5 t) fullShare (iblk m c 5 t) := by
  rw [← after_5]
theorem leaves_1 (c : Dev nD) (t : Fin cfg0.N) :
    (dats m 0 c).leaves 1 t = iprop(∃ d, owns (c : Thread nD τ) (st0_1 t) fullShare (win0_1.fill (grid0.coords t) d (iblk m c 1 t))) := by
  have h : win0_1.cut (grid0.coords t) (gate m c t) = iblk m c 1 t := win0_1.cut_fill _ _ _
  conv_rhs => rw [← h]
  rfl
theorem leaves_2 (c : Dev nD) (t : Fin cfg0.N) :
    (dats m 0 c).leaves 2 t = iprop(∃ d, owns (c : Thread nD τ) (st0_2 t) fullShare (win0_2.fill (grid0.coords t) d (iblk m c 2 t))) := by
  have h : win0_2.cut (grid0.coords t) (up m c t) = iblk m c 2 t := win0_2.cut_fill _ _ _
  conv_rhs => rw [← h]
  rfl
theorem leaves_3 (c : Dev nD) (t : Fin cfg0.N) :
    (dats m 0 c).leaves 3 t = iprop(∃ d, owns (c : Thread nD τ) (st0_3 t) fullShare (win0_3.fill (grid0.coords t) d (iblk m c 3 t))) := by
  have h : win0_3.cut (grid0.coords t) (down m c t) = iblk m c 3 t := win0_3.cut_fill _ _ _
  conv_rhs => rw [← h]
  rfl

/-! ## The body at a point -/

/-- At the first block the scratch buffers may hold anything. -/
theorem body_first (c : Dev nD) (t : Fin cfg0.N) (h0 : t.val % 11 = 0) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t)) := by
  have h : t.val % 11 ≠ 10 := by omega
  rw [show (dats m 0 c).owesAt () t.succ = (dats m 0 c).owesAt () t.castSucc from rfl, show (dats m 0 c).Φ t.succ = iprop(iprop(owns (c : Thread nD τ) narrow fullShare (state m c t.val t.isLt).1 ∗ owns (c : Thread nD τ) accum fullShare (state m c t.val t.isLt).2) ∗ (∃ r, prngReg c r)) from rfl, state_first m c t h0, leaves_0, leaves_1, leaves_2, leaves_3, leaves_4, leaves_5, leaves_6_idle m c t h]
  rw [show (dats m 0 c).Φ t.castSucc = inv m c t.val (Nat.le_of_lt t.isLt) from Pipeline.Dat.Φ_castSucc (inv m c) t]
  refine (BIClass.sep_mono (inv_any m c t.val _) .rfl).trans ?_
  rw [scratch_eq]
  iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5]
  have e : begun m c t = (k0_pay1 (iblk m c 0 t), k0_pay3 (k0_pay1 (iblk m c 0 t)) (win0_1.fill (grid0.coords t) d1 (iblk m c 1 t)) (win0_2.fill (grid0.coords t) d2 (iblk m c 2 t)) k0_pay2 (win0_3.fill (grid0.coords t) d3 (iblk m c 3 t))) := by
    have e1 : gate m c t = win0_1.fill (grid0.coords t) d1 (iblk m c 1 t) := fill_whole _ _ _ _ _ (moved_1 t h)
    have e2 : up m c t = win0_2.fill (grid0.coords t) d2 (iblk m c 2 t) := fill_whole _ _ _ _ _ (moved_2 t h)
    have e3 : down m c t = win0_3.fill (grid0.coords t) d3 (iblk m c 3 t) := fill_whole _ _ _ _ _ (moved_3 t h)
    unfold begun; rw [e1, e2, e3]
  rw [e]
  unfold bodyAt0
  iapply (run_first c Set.univ (grid0.coords t) _ _ _ _ _ _ _ _ _ _ _ _ _ _ _ _ _ _ ((first_iff t).mpr h0) ((whole_iff t).mpr h) (fun hh => h ((last_iff t).mp hh))
    (iblk m c 0 t) (win0_1.fill (grid0.coords t) d1 (iblk m c 1 t)) (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [HN]; · iexact HN
  isplitl [HA]; · iexact HA
  iintro ⟨H0, H1, H2, H3, HN, HA⟩
  isplitl [HN HA Hg]
  · isplitl [HN HA]
    · isplitl [HN]
      · iexact HN
      iexact HA
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexact H4
  isplitl [H5]; · iexact H5
  iexists d6; iexact H6

/-- At a later one they hold what the point before left. -/
theorem body_middle (c : Dev nD) (t : Fin cfg0.N) (h0 : t.val % 11 ≠ 0) (h : t.val % 11 ≠ 10) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t)) := by
  have hz : t.val ≠ 0 := fun e => h0 (by rw [e])
  rw [show (dats m 0 c).owesAt () t.succ = (dats m 0 c).owesAt () t.castSucc from rfl, show (dats m 0 c).Φ t.succ = iprop(iprop(owns (c : Thread nD τ) narrow fullShare (state m c t.val t.isLt).1 ∗ owns (c : Thread nD τ) accum fullShare (state m c t.val t.isLt).2) ∗ (∃ r, prngReg c r)) from rfl, state_later m c t h0, leaves_0, leaves_1, leaves_2, leaves_3, leaves_4, leaves_5, leaves_6_idle m c t h]
  rw [show (dats m 0 c).Φ t.castSucc = inv m c t.val (Nat.le_of_lt t.isLt) from Pipeline.Dat.Φ_castSucc (inv m c) t, inv_pos m c _ _ hz]
  generalize state m c (t.val - 1) _ = p
  iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5]
  have e : added m c t p = (p.1, k0_pay3 p.1 (win0_1.fill (grid0.coords t) d1 (iblk m c 1 t)) (win0_2.fill (grid0.coords t) d2 (iblk m c 2 t)) p.2 (win0_3.fill (grid0.coords t) d3 (iblk m c 3 t))) := by
    have e1 : gate m c t = win0_1.fill (grid0.coords t) d1 (iblk m c 1 t) := fill_whole _ _ _ _ _ (moved_1 t h)
    have e2 : up m c t = win0_2.fill (grid0.coords t) d2 (iblk m c 2 t) := fill_whole _ _ _ _ _ (moved_2 t h)
    have e3 : down m c t = win0_3.fill (grid0.coords t) d3 (iblk m c 3 t) := fill_whole _ _ _ _ _ (moved_3 t h)
    unfold added; rw [if_neg h, e1, e2, e3]
  rw [e]
  unfold bodyAt0
  iapply (run_middle c Set.univ (grid0.coords t) _ _ _ _ _ _ _ _ _ _ _ _ _ _ _ _ _ _ (fun hh => h0 ((first_iff t).mp hh)) ((whole_iff t).mpr h) (fun hh => h ((last_iff t).mp hh))
    (win0_1.fill (grid0.coords t) d1 (iblk m c 1 t)) (win0_2.fill (grid0.coords t) d2 (iblk m c 2 t)) (win0_3.fill (grid0.coords t) d3 (iblk m c 3 t)) p.1 p.2 _)
  isplitl [H1]; · iexact H1
  isplitl [H2]; · iexact H2
  isplitl [H3]; · iexact H3
  isplitl [HN]; · iexact HN
  isplitl [HA]; · iexact HA
  iintro ⟨H1, H2, H3, HN, HA⟩
  isplitl [HN HA Hg]
  · isplitl [HN HA]
    · isplitl [HN]
      · iexact HN
      iexact HA
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexact H4
  isplitl [H5]; · iexact H5
  iexists d6; iexact H6

/-- At the last one too, and the results are stored. -/
theorem body_last (c : Dev nD) (t : Fin cfg0.N) (h : t.val % 11 = 10) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t)) := by
  have h0 : t.val % 11 ≠ 0 := by omega
  have hz : t.val ≠ 0 := fun e => h0 (by rw [e])
  rw [show (dats m 0 c).owesAt () t.succ = (dats m 0 c).owesAt () t.castSucc from rfl, show (dats m 0 c).Φ t.succ = iprop(iprop(owns (c : Thread nD τ) narrow fullShare (state m c t.val t.isLt).1 ∗ owns (c : Thread nD τ) accum fullShare (state m c t.val t.isLt).2) ∗ (∃ r, prngReg c r)) from rfl, leaves_0, leaves_1, leaves_2, leaves_3, leaves_4, leaves_5, leaves_6_busy m c t h]
  unfold result
  rw [state_later m c t h0]
  rw [show (dats m 0 c).Φ t.castSucc = inv m c t.val (Nat.le_of_lt t.isLt) from Pipeline.Dat.Φ_castSucc (inv m c) t, inv_pos m c _ _ hz]
  generalize state m c (t.val - 1) _ = p
  iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5]
  have e : added m c t p = (p.1, k0_pay5 p.1 (View.ld (win0_1.fill (grid0.coords t) d1 (iblk m c 1 t)) cols) (View.ld (win0_2.fill (grid0.coords t) d2 (iblk m c 2 t)) cols) p.2
      (View.ld (win0_3.fill (grid0.coords t) d3 (iblk m c 3 t)) rows)) := by
    have e1 : View.ld (gate m c t) cols = View.ld (win0_1.fill (grid0.coords t) d1 (iblk m c 1 t)) cols := ld_fill win0_1 _ _ _ _ cols (cols_1 t)
    have e2 : View.ld (up m c t) cols = View.ld (win0_2.fill (grid0.coords t) d2 (iblk m c 2 t)) cols := ld_fill win0_2 _ _ _ _ cols (cols_2 t)
    have e3 : View.ld (down m c t) rows = View.ld (win0_3.fill (grid0.coords t) d3 (iblk m c 3 t)) rows := ld_fill win0_3 _ _ _ _ rows (rows_3 t)
    unfold added; rw [if_pos h, e1, e2, e3]
  rw [e]
  unfold bodyAt0
  iapply (run_last c Set.univ (grid0.coords t) _ _ _ _ _ _ _ _ _ _ _ _ _ _ _ _ _ _ (fun hh => h0 ((first_iff t).mp hh)) (fun hh => (whole_iff t).mp hh h) ((last_iff t).mpr h)
    (iblk m c 0 t) (win0_1.fill (grid0.coords t) d1 (iblk m c 1 t)) (win0_2.fill (grid0.coords t) d2 (iblk m c 2 t)) (win0_3.fill (grid0.coords t) d3 (iblk m c 3 t)) (iblk m c 4 t) (iblk m c 5 t) p.1 p.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HN]; · iexact HN
  isplitl [HA]; · iexact HA
  iintro ⟨H0, H1, H2, H3, H4, H5, H6, HN, HA⟩
  isplitl [HN HA Hg]
  · isplitl [HN HA]
    · isplitl [HN]
      · iexact HN
      iexact HA
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexact H4
  isplitl [H5]; · iexact H5
  iexact H6

theorem body_obligation (c : Dev nD) : BodyObligationLoose (dats (F := F) m 0 c) (defs₀ (F := F)) Variants.none () Set.univ := fun t => by
  rw [bigSep_W0, bigSep_W0, defs_row]
  by_cases h0 : t.val % 11 = 0
  · exact triple_restated (body_first m c t h0) rfl .rfl fun _ => .rfl
  by_cases h : t.val % 11 = 10
  · exact triple_restated (body_last m c t h) rfl .rfl fun _ => .rfl
  · exact triple_restated (body_middle m c t h0 h) rfl .rfl fun _ => .rfl

/-! ## The run -/

theorem inv_in (c : Dev nD) : Pipeline.ΦA spec0 c ⊢ (dats m 0 c).Φ 0 := by
  rw [show (dats m 0 c).Φ 0 = inv m c 0 (Nat.zero_le _) from rfl, inv_zero m c 0 _ rfl]
theorem inv_out (c : Dev nD) : (dats m 0 c).Φ (Fin.last cfg0.N) ⊢ Pipeline.ΦA spec0 c := by
  rw [show (dats m 0 c).Φ (Fin.last cfg0.N) = inv m c cfg0.N (Nat.le_refl _) from rfl]
  exact inv_any m c _ _

-- the launch theorem's implicit arguments are found by unifying its conclusion with this one
set_option backward.isDefEq.respectTransparency.types false in
/-- Every weakly fair execution terminates, with every array at what the pipeline's data says, the other buffers as
    the host lines leave them, and every semaphore at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none)
    (hA := A_eq m) (hin := inv_in m) (hout := inv_out m)

/-- The frame: the arguments end as launched, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

end Cert.FfnProof

end
-- ==== Proof.FfnValue.lean ====
/-
  The second feed-forward call's value: the sum its accumulator holds after the last block is the reference's product
  over all 5504 columns of the hidden layer, summed ten blocks of 512 and one of 384 at a time.
-/
module

public import proofs.«01_k».proof.Proof.FfnFrame
public import proofs.«01_k».proof.Proof.Gen.FfnReferenceIdeal.Run
public import Idealize.ShloMosaic.Lib.Pipeline.ValueKit
public import Idealize.ShloMosaic.Lib.Pointwise

@[expose] public section

set_option maxRecDepth 16384

noncomputable section

namespace Cert.FfnProof

open Idealize.ShloMosaic Idealize.ShloMosaic.TcCoe Idealize.SL.Sem
open Idealize.ShloMosaic.Pipeline (Dat)
open Cert.FfnIdeal Cert.FfnIdeal.Gen

/-! ## The reference -/

abbrev Tokens := FVec Ideal Cert.FfnReferenceIdeal.S2x16384x2048 .f32
abbrev Hidden := FVec Ideal Cert.FfnReferenceIdeal.S2x16384x5504 .f32
abbrev Widen := FVec Ideal Cert.FfnReferenceIdeal.S2048x5504 .f32
abbrev Narrow := FVec Ideal Cert.FfnReferenceIdeal.S5504x2048 .f32
abbrev RowVec := FVec Ideal Cert.FfnReferenceIdeal.S2048 .f32

/-- A number at every entry. -/
abbrev spread (b : BitVec 32) : Hidden := broadcastInDim Cert.FfnReferenceIdeal.S2x16384x5504 ![] Cert.FfnReferenceIdeal.Gen.bcast_S_S2x16384x5504 (constant Cert.FfnReferenceIdeal.S_ .f32 b)
abbrev spreadTokens (b : BitVec 32) : Tokens := broadcastInDim Cert.FfnReferenceIdeal.S2x16384x2048 ![] Cert.FfnReferenceIdeal.Gen.bcast_S_S2x16384x2048 (constant Cert.FfnReferenceIdeal.S_ .f32 b)
abbrev spreadCol (b : BitVec 32) : FVec Ideal Cert.FfnReferenceIdeal.S2x16384x1 .f32 := broadcastInDim Cert.FfnReferenceIdeal.S2x16384x1 ![] Cert.FfnReferenceIdeal.Gen.bcast_S_S2x16384x1 (constant Cert.FfnReferenceIdeal.S_ .f32 b)

/-- The product with a widening weight. -/
abbrev widened (x : Tokens) (w : Widen) : Hidden :=
  Host.dotGeneral Cert.FfnReferenceIdeal.dot_S2x16384x2048_S2048x5504_S2x16384x5504_2_0_01_1_n_n none x w

/-- The gated hidden layer. -/
abbrev hidden (x : Tokens) (wg wu : Widen) : Hidden :=
  mulf (mulf (widened x wg) (Host.divf (spread 0x3F800000#32) (addf (spread 0x3F800000#32) (Host.exp (Host.negf (widened x wg)))))) (widened x wu)

/-- The feed-forward product. -/
abbrev ffn (x : Tokens) (wg wu : Widen) (wd : Narrow) : Tokens :=
  Host.dotGeneral Cert.FfnReferenceIdeal.dot_S2x16384x5504_S5504x2048_S2x16384x2048_2_0_01_1_n_n none (hidden x wg wu) wd

/-- The residual times the square root of two, plus half the feed-forward product. -/
abbrev residual (x : Tokens) (wg wu : Widen) (wd : Narrow) : Tokens :=
  addf (mulf (spreadTokens 0x3FB504F3#32) x) (mulf (spreadTokens 0x3F000000#32) (ffn x wg wu wd))

/-- A column repeated along the rows. -/
abbrev along (v : FVec Ideal Cert.FfnReferenceIdeal.S2x16384x1 .f32) : Tokens :=
  broadcastInDim Cert.FfnReferenceIdeal.S2x16384x2048 ![0, 1, 2] Cert.FfnReferenceIdeal.Gen.bcast_S2x16384x1_S2x16384x2048_0_1_2 v

/-- Each row's mean, as a column. -/
abbrev rowMean (y : Tokens) : FVec Ideal Cert.FfnReferenceIdeal.S2x16384x1 .f32 :=
  Host.divf (broadcastInDim Cert.FfnReferenceIdeal.S2x16384x1 ![0, 1] Cert.FfnReferenceIdeal.Gen.bcast_S2x16384_S2x16384x1_0_1
      (Host.reduceAdd y (constant Cert.FfnReferenceIdeal.S_ .f32 0x00000000#32) Cert.FfnReferenceIdeal.Gen.reducesTo_S2x16384x2048_S2x16384_d2 Cert.FfnReferenceIdeal.Gen.h_S_))
    (spreadCol 0x45000000#32)

/-- Each row less its mean. -/
abbrev centred (y : Tokens) : Tokens := subf y (along (rowMean y))

/-- A row vector repeated down the rows. -/
abbrev down_rows (g : RowVec) : Tokens :=
  broadcastInDim Cert.FfnReferenceIdeal.S2x16384x2048 ![0, 1, 2] Cert.FfnReferenceIdeal.Gen.bcast_S1x1x2048_S2x16384x2048_0_1_2
    (broadcastInDim Cert.FfnReferenceIdeal.S1x1x2048 ![2] Cert.FfnReferenceIdeal.Gen.bcast_S2048_S1x1x2048_2 g)

/-- The layer norm over the rows of `y`. -/
abbrev layerNorm (y : Tokens) (g b : RowVec) : Tokens :=
  addf (mulf (mulf (centred y) (along (Host.rsqrt (addf (rowMean (mulf (centred y) (centred y))) (spreadCol 0x3727C5AC#32)))))
    (down_rows g)) (down_rows b)

/-- One product of the feed-forward sum at `p`, by the hidden layer's column. -/
def term (x : Tokens) (wg wu : Widen) (wd : Narrow) (p : Cert.FfnReferenceIdeal.S2x16384x2048.Idx) (k : Fin 5504) : EReal :=
  hidden x wg wu (ix3 (p 0) (p 1) k) * wd (ix2 k (p 2))

theorem term_eq (x : Tokens) (wg wu : Widen) (wd : Narrow) (p : Cert.FfnReferenceIdeal.S2x16384x2048.Idx) (k : Fin 5504) :
    term x wg wu wd p k
      = ((∑ d : Fin 2048, x (ix3 (p 0) (p 1) d) * wg (ix2 d k)) * Ideal.div 1 (1 + Ideal.exp (0 - ∑ d : Fin 2048, x (ix3 (p 0) (p 1) d) * wg (ix2 d k)))
          * ∑ d : Fin 2048, x (ix3 (p 0) (p 1) d) * wu (ix2 d k)) * wd (ix2 k (p 2)) := by
  unfold term
  pointwise [hidden, widened, spread]
  simp only [zero_sub]

theorem product_at (h : Hidden) (wd : Narrow) (p : Cert.FfnReferenceIdeal.S2x16384x2048.Idx) :
    Host.dotGeneral Cert.FfnReferenceIdeal.dot_S2x16384x5504_S5504x2048_S2x16384x2048_2_0_01_1_n_n none h wd p = ∑ k : Fin 5504, h (ix3 (p 0) (p 1) k) * wd (ix2 k (p 2)) := by
  pointwise

theorem ffn_eq (x : Tokens) (wg wu : Widen) (wd : Narrow) (p : Cert.FfnReferenceIdeal.S2x16384x2048.Idx) :
    ffn x wg wu wd p = ∑ k : Fin 5504, term x wg wu wd p k := by
  exact product_at _ wd p

/-- The same by a natural number, zero past the last column. -/
def termAt (x : Tokens) (wg wu : Widen) (wd : Narrow) (p : Cert.FfnReferenceIdeal.S2x16384x2048.Idx) (k : ℕ) : EReal :=
  if h : k < 5504 then term x wg wu wd p ⟨k, h⟩ else 0
theorem termAt_lt (x : Tokens) (wg wu : Widen) (wd : Narrow) (p : Cert.FfnReferenceIdeal.S2x16384x2048.Idx) (k : Fin 5504) :
    termAt x wg wu wd p k.val = term x wg wu wd p k := dif_pos k.isLt

theorem ffn_range (x : Tokens) (wg wu : Widen) (wd : Narrow) (p : Cert.FfnReferenceIdeal.S2x16384x2048.Idx) :
    ffn x wg wu wd p = ∑ k ∈ Finset.range 5504, termAt x wg wu wd p k := by
  rw [ffn_eq, Finset.sum_range]
  exact Finset.sum_congr rfl fun k _ => (termAt_lt ..).symm

/-! ## The blocks -/

/-- Where each window's block lies at point `t`. -/
theorem idx : ∀ t : Fin cfg0.N,
    win0_0.index t = ![t.val / 11, 0] ∧ win0_1.index t = ![0, t.val % 11] ∧ win0_2.index t = ![0, t.val % 11] ∧ win0_3.index t = ![t.val % 11, 0]
      ∧ win0_4.index t = ![0, 0] ∧ win0_5.index t = ![0, 0] ∧ win0_6.index t = ![t.val / 11, 0] ∧ t.val / 11 < 64 :=
  (by decide +kernel : ∀ t : Fin grid0.N, _)

variable (m : (ℓ : Loc nD τ sig) → Buf (Elt Ideal) ℓ)

/-- The tokens, -/
abbrev tokens (c : Dev nD) : Tokens := m ((c : Thread nD τ).loc main_arg0)
/-- the gate weight, -/
abbrev wgate (c : Dev nD) : Widen := m ((c : Thread nD τ).loc main_arg1)
/-- the up weight, -/
abbrev wup (c : Dev nD) : Widen := m ((c : Thread nD τ).loc main_arg2)
/-- and the down weight. -/
abbrev wdown (c : Dev nD) : Narrow := m ((c : Thread nD τ).loc main_arg3)

/-- The token and column at index `y` of point `t`'s rows. -/
def place (t : Fin cfg0.N) (y : S512x2048.Idx) : Cert.FfnReferenceIdeal.S2x16384x2048.Idx :=
  ix3 ⟨(512 * (t.val / 11) + (y 0).val) / 16384, by
      have := (idx t).2.2.2.2.2.2.2; have : (y 0).val < 512 := (y 0).isLt; omega⟩
    ⟨(512 * (t.val / 11) + (y 0).val) % 16384, Nat.mod_lt _ (by decide)⟩ (y 1)

theorem place_prev (t : Fin cfg0.N) (h : t.val % 11 ≠ 0) (hp : t.val - 1 < cfg0.N) (y : S512x2048.Idx) :
    place ⟨t.val - 1, hp⟩ y = place t y := by
  have e : (t.val - 1) / 11 = t.val / 11 := by omega
  unfold place
  simp only [e]

/-- The batches' rows one below the other. -/
abbrev stacked (X : Tokens) : FVec Ideal S32768x2048 .f32 := shapeCast S32768x2048 X shapeCasts_S2x16384x2048_S32768x2048

theorem stacked_at (X : Tokens) (r : Fin 32768) (d : Fin 2048) :
    stacked X (ix2 r d) = X (ix3 ⟨r.val / 16384, by have := r.isLt; omega⟩ ⟨r.val % 16384, Nat.mod_lt _ (by decide)⟩ d) := by
  pointwise [stacked]

/-- The rows' block at a point. -/
theorem tokens_at (c : Dev nD) (t : Fin cfg0.N) (y : S512x2048.Idx) : iblk m c 0 t y = tokens m c (place t y) := by
  refine Eq.trans ?_ (stacked_at (tokens m c) ⟨512 * (t.val / 11) + (y 0).val, by
    have := (idx t).2.2.2.2.2.2.2; have : (y 0).val < 512 := (y 0).isLt; omega⟩ (y 1))
  blk_point [iblk, V, idx t]

/-- A column of the hidden layer, from the point's block and the column in it. -/
def colOf (t : Fin cfg0.N) (h : t.val % 11 ≠ 10) (q : Fin 512) : Fin 5504 := ⟨512 * (t.val % 11) + q.val, by have := q.isLt; omega⟩
/-- The same in the last block. -/
def colLast (q : Fin 384) : Fin 5504 := ⟨5120 + q.val, by have := q.isLt; omega⟩

theorem gate_moved (c : Dev nD) (t : Fin cfg0.N) (j : S2048x512.Idx) (h : win0_1.moved (grid0.coords t) j = true) (p : Cert.FfnReferenceIdeal.S2048x5504.Idx)
    (h0 : (p 0).val = (j 0).val) (h1 : (p 1).val = 512 * (t.val % 11) + (j 1).val) :
    gate m c t j = wgate m c p := by
  unfold gate Pipeline.Window.fill
  rw [dif_pos h]
  have hp : p = ix2 (p 0) (p 1) := by funext a; match a with | ⟨0, _⟩ => rfl | ⟨1, _⟩ => rfl
  rw [hp]
  blk_point [iblk, V, idx t]
theorem gate_whole (c : Dev nD) (t : Fin cfg0.N) (h : t.val % 11 ≠ 10) (d : Fin 2048) (q : Fin 512) :
    gate m c t (ix2 d q) = wgate m c (ix2 d (colOf t h q)) :=
  gate_moved m c t _ (moved_1 t h _) _ rfl rfl
theorem gate_last (c : Dev nD) (t : Fin cfg0.N) (h : t.val % 11 = 10) (d : Fin 2048) (q : Fin 384) :
    View.ld (gate m c t) cols (ix2 d q) = wgate m c (ix2 d (colLast q)) :=
  gate_moved m c t _ (cols_1 t (ix2 d q)) _ (by show d.val = 0 + 1 * d.val; omega) (by show 5120 + q.val = 512 * (t.val % 11) + (0 + 1 * q.val); omega)

theorem up_moved (c : Dev nD) (t : Fin cfg0.N) (j : S2048x512.Idx) (h : win0_2.moved (grid0.coords t) j = true) (p : Cert.FfnReferenceIdeal.S2048x5504.Idx)
    (h0 : (p 0).val = (j 0).val) (h1 : (p 1).val = 512 * (t.val % 11) + (j 1).val) :
    up m c t j = wup m c p := by
  unfold up Pipeline.Window.fill
  rw [dif_pos h]
  have hp : p = ix2 (p 0) (p 1) := by funext a; match a with | ⟨0, _⟩ => rfl | ⟨1, _⟩ => rfl
  rw [hp]
  blk_point [iblk, V, idx t]
theorem up_whole (c : Dev nD) (t : Fin cfg0.N) (h : t.val % 11 ≠ 10) (d : Fin 2048) (q : Fin 512) :
    up m c t (ix2 d q) = wup m c (ix2 d (colOf t h q)) :=
  up_moved m c t _ (moved_2 t h _) _ rfl rfl
theorem up_last (c : Dev nD) (t : Fin cfg0.N) (h : t.val % 11 = 10) (d : Fin 2048) (q : Fin 384) :
    View.ld (up m c t) cols (ix2 d q) = wup m c (ix2 d (colLast q)) :=
  up_moved m c t _ (cols_2 t (ix2 d q)) _ (by show d.val = 0 + 1 * d.val; omega) (by show 5120 + q.val = 512 * (t.val % 11) + (0 + 1 * q.val); omega)

theorem down_moved (c : Dev nD) (t : Fin cfg0.N) (j : S512x2048.Idx) (h : win0_3.moved (grid0.coords t) j = true) (p : Cert.FfnReferenceIdeal.S5504x2048.Idx)
    (h0 : (p 0).val = 512 * (t.val % 11) + (j 0).val) (h1 : (p 1).val = (j 1).val) :
    down m c t j = wdown m c p := by
  unfold down Pipeline.Window.fill
  rw [dif_pos h]
  have hp : p = ix2 (p 0) (p 1) := by funext a; match a with | ⟨0, _⟩ => rfl | ⟨1, _⟩ => rfl
  rw [hp]
  blk_point [iblk, V, idx t]
theorem down_whole (c : Dev nD) (t : Fin cfg0.N) (h : t.val % 11 ≠ 10) (d : Fin 2048) (q : Fin 512) :
    down m c t (ix2 q d) = wdown m c (ix2 (colOf t h q) d) :=
  down_moved m c t _ (moved_3 t h _) _ rfl rfl
theorem down_last (c : Dev nD) (t : Fin cfg0.N) (h : t.val % 11 = 10) (d : Fin 2048) (q : Fin 384) :
    View.ld (down m c t) rows (ix2 q d) = wdown m c (ix2 (colLast q) d) :=
  down_moved m c t _ (rows_3 t (ix2 q d)) _ (by show 5120 + q.val = 512 * (t.val % 11) + (0 + 1 * q.val); omega) (by show d.val = 0 + 1 * d.val; omega)

/-! ## The accumulator -/

/-- One product at a point's row `a` and column `b`. -/
theorem term_place (x : Tokens) (wg wu : Widen) (wd : Narrow) (t : Fin cfg0.N) (a : Fin 512) (b : Fin 2048) (k : Fin 5504) :
    term x wg wu wd (place t (ix2 a b)) k
      = ((∑ d : Fin 2048, x (place t (ix2 a d)) * wg (ix2 d k)) * Ideal.div 1 (1 + Ideal.exp (0 - ∑ d : Fin 2048, x (place t (ix2 a d)) * wg (ix2 d k)))
          * ∑ d : Fin 2048, x (place t (ix2 a d)) * wu (ix2 d k)) * wd (ix2 k b) :=
  term_eq ..

theorem add_whole (c : Dev nD) (t : Fin cfg0.N) (h : t.val % 11 ≠ 10) (xb : Vec Ideal S512x2048 .bf16) (hx : ∀ y, xb y = tokens m c (place t y))
    (acc : Vec Ideal S512x2048 .f32) (a : Fin 512) (b : Fin 2048) :
    k0_pay3 xb (gate m c t) (up m c t) acc (down m c t) (ix2 a b)
      = acc (ix2 a b) + ∑ q : Fin 512, term (tokens m c) (wgate m c) (wup m c) (wdown m c) (place t (ix2 a b)) (colOf t h q) := by
  simp only [term_place]
  pointwise [k0_pay3]
  simp only [hx, gate_whole m c t h, up_whole m c t h, down_whole m c t h]

theorem add_last (c : Dev nD) (t : Fin cfg0.N) (h : t.val % 11 = 10) (xb : Vec Ideal S512x2048 .bf16) (hx : ∀ y, xb y = tokens m c (place t y))
    (acc : Vec Ideal S512x2048 .f32) (a : Fin 512) (b : Fin 2048) :
    k0_pay5 xb (View.ld (gate m c t) cols) (View.ld (up m c t) cols) acc (View.ld (down m c t) rows) (ix2 a b)
      = acc (ix2 a b) + ∑ q : Fin 384, term (tokens m c) (wgate m c) (wup m c) (wdown m c) (place t (ix2 a b)) (colLast q) := by
  simp only [term_place, ← gate_last m c t h, ← up_last m c t h, ← down_last m c t h]
  generalize View.ld (gate m c t) cols = g
  generalize View.ld (up m c t) cols = u
  generalize View.ld (down m c t) rows = d
  pointwise [k0_pay5]
  simp only [hx]

theorem sum_whole (x : Tokens) (wg wu : Widen) (wd : Narrow) (p : Cert.FfnReferenceIdeal.S2x16384x2048.Idx) (t : Fin cfg0.N) (h : t.val % 11 ≠ 10) :
    ∑ q : Fin 512, term x wg wu wd p (colOf t h q) = ∑ k ∈ Finset.range 512, termAt x wg wu wd p (512 * (t.val % 11) + k) := by
  rw [Finset.sum_range]
  exact Finset.sum_congr rfl fun q _ => (termAt_lt x wg wu wd p (colOf t h q)).symm
theorem sum_last (x : Tokens) (wg wu : Widen) (wd : Narrow) (p : Cert.FfnReferenceIdeal.S2x16384x2048.Idx) :
    ∑ q : Fin 384, term x wg wu wd p (colLast q) = ∑ k ∈ Finset.range 384, termAt x wg wu wd p (5120 + k) := by
  rw [Finset.sum_range]
  exact Finset.sum_congr rfl fun q _ => (termAt_lt x wg wu wd p (colLast q)).symm

theorem narrow_at (x : Vec Ideal S512x2048 .f32) (y : S512x2048.Idx) : k0_pay1 x y = x y := by
  pointwise [k0_pay1]
theorem zero_at (y : S512x2048.Idx) : k0_pay2 (F := Ideal) y = 0 := by
  pointwise [k0_pay2]

/-- How many of the hidden layer's columns the accumulator holds after point `n`. -/
def held (n : ℕ) : ℕ := min (512 * (n % 11 + 1)) 5504

theorem begun_rows (c : Dev nD) (t : Fin cfg0.N) (y : S512x2048.Idx) : k0_pay1 (F := Ideal) (iblk m c 0 t) y = tokens m c (place t y) :=
  (narrow_at _ y).trans (tokens_at m c t y)
theorem begun_sum (c : Dev nD) (t : Fin cfg0.N) (h : t.val % 11 = 0) (h' : t.val % 11 ≠ 10) (a : Fin 512) (b : Fin 2048) :
    k0_pay3 (k0_pay1 (F := Ideal) (iblk m c 0 t)) (gate m c t) (up m c t) (k0_pay2 (F := Ideal)) (down m c t) (ix2 a b)
      = ∑ k ∈ Finset.range (held t.val), termAt (tokens m c) (wgate m c) (wup m c) (wdown m c) (place t (ix2 a b)) k := by
  have e : held t.val = 512 := by unfold held; rw [h]; rfl
  refine (add_whole m c t h' _ (begun_rows m c t) _ a b).trans ?_
  rw [zero_at, zero_add, sum_whole, e]
  refine Finset.sum_congr rfl fun k _ => congrArg _ ?_
  omega
theorem begun_fst (c : Dev nD) (t : Fin cfg0.N) (h : t.val % 11 = 0) : (state m c t.val t.isLt).1 = k0_pay1 (F := Ideal) (iblk m c 0 t) := by
  rw [state_first m c t h, begun]
theorem begun_snd (c : Dev nD) (t : Fin cfg0.N) (h : t.val % 11 = 0) : (state m c t.val t.isLt).2
      = k0_pay3 (k0_pay1 (F := Ideal) (iblk m c 0 t)) (gate m c t) (up m c t) (k0_pay2 (F := Ideal)) (down m c t) := by
  rw [state_first m c t h, begun]
theorem state_begun (c : Dev nD) (t : Fin cfg0.N) (h : t.val % 11 = 0) :
    (∀ y, (state m c t.val t.isLt).1 y = tokens m c (place t y))
      ∧ ∀ a b, (state m c t.val t.isLt).2 (ix2 a b)
          = ∑ k ∈ Finset.range (held t.val), termAt (tokens m c) (wgate m c) (wup m c) (wdown m c) (place t (ix2 a b)) k := by
  have h' : t.val % 11 ≠ 10 := by omega
  refine ⟨fun y => ?_, fun a b => ?_⟩
  · rw [begun_fst m c t h]; exact begun_rows m c t y
  · rw [begun_snd m c t h]; exact begun_sum m c t h h' a b

/-- After every point the first scratch buffer holds the point's rows, and the accumulator the sum over the columns so far. -/
theorem state_eq (c : Dev nD) : ∀ (n : ℕ) (hn : n < cfg0.N),
    (∀ y, (state m c n hn).1 y = tokens m c (place ⟨n, hn⟩ y))
      ∧ ∀ a b, (state m c n hn).2 (ix2 a b)
          = ∑ k ∈ Finset.range (held n), termAt (tokens m c) (wgate m c) (wup m c) (wdown m c) (place ⟨n, hn⟩ (ix2 a b)) k := by
  intro n
  induction n with
  | zero =>
    intro hn
    exact state_begun m c ⟨0, hn⟩ (Nat.zero_mod 11)
  | succ n ih =>
    intro hn
    by_cases h0 : (n + 1) % 11 = 0
    · exact state_begun m c ⟨n + 1, hn⟩ h0
    obtain ⟨ih1, ih2⟩ := ih (Nat.lt_of_succ_lt hn)
    have hp : ∀ y, place ⟨n, Nat.lt_of_succ_lt hn⟩ y = place ⟨n + 1, hn⟩ y := fun y => place_prev ⟨n + 1, hn⟩ h0 _ y
    have e : state m c (n + 1) hn = added m c ⟨n + 1, hn⟩ (state m c n (Nat.lt_of_succ_lt hn)) := state_later m c ⟨n + 1, hn⟩ h0
    have x1 : ∀ y, (state m c n (Nat.lt_of_succ_lt hn)).1 y = tokens m c (place ⟨n + 1, hn⟩ y) := fun y => by rw [ih1, hp]
    have e0 : n % 11 + 1 = (n + 1) % 11 := by omega
    rw [e]
    refine ⟨x1, fun a b => ?_⟩
    unfold added
    by_cases h : (n + 1) % 11 = 10
    · rw [if_pos h]
      dsimp only
      rw [add_last m c ⟨n + 1, hn⟩ h _ x1, ih2, sum_last, hp]
      have e1 : held n = 5120 := by unfold held; rw [e0, h]; rfl
      have e2 : held (n + 1) = 5120 + 384 := by unfold held; rw [h]; rfl
      rw [e1, e2, Finset.sum_range_add]
    · rw [if_neg h]
      dsimp only
      rw [add_whole m c ⟨n + 1, hn⟩ h _ x1, ih2, sum_whole, hp]
      have e1 : held n = 512 * ((n + 1) % 11) := by unfold held; rw [e0]; omega
      have e2 : held (n + 1) = 512 * ((n + 1) % 11) + 512 := by unfold held; omega
      rw [e1, e2, Finset.sum_range_add]

/-! ## The rows stored -/

theorem residual_point (xb acc : Vec Ideal S512x2048 .f32) (x z : Tokens) (y : S512x2048.Idx) (p : Cert.FfnReferenceIdeal.S2x16384x2048.Idx)
    (hx : xb y = x p) (hz : acc y = z p) :
    k0_pay6 xb acc y = addf (mulf (spreadTokens 0x3FB504F3#32) x) (mulf (spreadTokens 0x3F000000#32) z) p := by
  pointwise [k0_pay6, spreadTokens]
  rw [hx, hz]

theorem norm_point (t : Fin cfg0.N) (z : Vec Ideal S512x2048 .f32) (Y : Tokens) (hz : ∀ y, z y = Y (place t y))
    (g4 b5 : Vec Ideal S1x2048 .f32) (g b : RowVec) (hg : ∀ j : Fin 2048, g4 (ix2 0 j) = g (ix1 j)) (hb : ∀ j : Fin 2048, b5 (ix2 0 j) = b (ix1 j))
    (i : Fin 512) (j : Fin 2048) :
    k0_pay4 z g4 b5 (ix2 i j) = layerNorm Y g b (place t (ix2 i j)) := by
  pointwise [k0_pay4, layerNorm, down_rows, centred, rowMean, along, spreadCol]
  simp only [hz, hg, hb]
  rfl

theorem scale_at (c : Dev nD) (t : Fin cfg0.N) (j : Fin 2048) : iblk m c 4 t (ix2 0 j) = m ((c : Thread nD τ).loc main_arg4) (ix1 j) := by
  refine Eq.trans (b := shapeCast S1x2048 (m ((c : Thread nD τ).loc main_arg4)) shapeCasts_S2048_S1x2048 (ix2 0 j)) ?_ (by pointwise)
  blk_point [iblk, V, idx t]
theorem shift_at (c : Dev nD) (t : Fin cfg0.N) (j : Fin 2048) : iblk m c 5 t (ix2 0 j) = m ((c : Thread nD τ).loc main_arg5) (ix1 j) := by
  refine Eq.trans (b := shapeCast S1x2048 (m ((c : Thread nD τ).loc main_arg5)) shapeCasts_S2048_S1x2048 (ix2 0 j)) ?_ (by pointwise)
  blk_point [iblk, V, idx t]

/-- The layer norm's result, from the argument arrays in `m`. -/
abbrev normed (c : Dev nD) : Tokens :=
  layerNorm (residual (tokens m c) (wgate m c) (wup m c) (wdown m c)) (m ((c : Thread nD τ).loc main_arg4)) (m ((c : Thread nD τ).loc main_arg5))

/-- What enters the layer norm, after the last block. -/
theorem residual_last (c : Dev nD) (t : Fin cfg0.N) (h : t.val % 11 = 10) (y : S512x2048.Idx) :
    k0_pay6 (iblk m c 0 t) (state m c t.val t.isLt).2 y = residual (tokens m c) (wgate m c) (wup m c) (wdown m c) (place t y) := by
  refine residual_point _ _ _ _ y (place t y) (tokens_at m c t y) ?_
  have e : held t.val = 5504 := by unfold held; rw [h]; rfl
  have hy : y = ix2 (y 0) (y 1) := by funext a; match a with | ⟨0, _⟩ => rfl | ⟨1, _⟩ => rfl
  rw [ffn_range, hy, ← e]
  exact (state_eq m c t.val t.isLt).2 _ _

theorem result_last (c : Dev nD) (t : Fin cfg0.N) (h : t.val % 11 = 10) (a : Fin 512) (b : Fin 2048) :
    result m c t (ix2 a b) = normed m c (place t (ix2 a b)) := by
  unfold result
  exact norm_point t _ _ (residual_last m c t h) _ _ _ _ (scale_at m c t) (shift_at m c t) a b

/-- A stacked array at a point's row. -/
theorem stacked_place (X : Tokens) (t : Fin cfg0.N) (y : S512x2048.Idx) (p : S32768x2048.Idx)
    (h0 : (p 0).val = 512 * (t.val / 11) + (y 0).val) (h1 : (p 1).val = (y 1).val) : stacked X p = X (place t y) := by
  have hp : p = ix2 (p 0) (p 1) := by funext a; match a with | ⟨0, _⟩ => rfl | ⟨1, _⟩ => rfl
  refine (congrArg (stacked X) hp).trans ((stacked_at X (p 0) (p 1)).trans (congrArg X ?_))
  unfold place
  funext a
  match a with
  | ⟨0, _⟩ => exact Fin.ext (congrArg (· / 16384) h0)
  | ⟨1, _⟩ => exact Fin.ext (congrArg (· % 16384) h0)
  | ⟨2, _⟩ => exact Fin.ext h1

/-- What the last block's point stores at index `y` of its rows is the reference's entry there. -/
theorem stored (c : Dev nD) (t : Fin cfg0.N) (h : t.val % 11 = 10) (y : S512x2048.Idx) :
    result m c t y = stacked (normed m c) ((win0_6.blk t).view.emb y) := by
  obtain ⟨i, hi⟩ : ∃ i : S32768x2048.Idx, i = (win0_6.blk t).view.emb y := ⟨_, rfl⟩
  have h0 : (i 0 : ℕ) = 512 * (t.val / 11) + (y 0).val := by rw [hi]; blk_simp [idx t]; try omega
  have h1 : (i 1 : ℕ) = (y 1).val := by rw [hi]; blk_simp [idx t]
  rw [← hi]
  have hy : y = ix2 (y 0) (y 1) := by funext a; match a with | ⟨0, _⟩ => rfl | ⟨1, _⟩ => rfl
  refine Eq.trans ?_ (stacked_place (normed m c) t y i h0 h1).symm
  rw [hy]
  exact result_last m c t h _ _

/-- The result array after the region. -/
theorem final (c : Dev nD) : (dats m 0 c).arrAt 6 cfg0.N = stacked (normed m c) := by
  refine (dats m 0 c).arrAt_eq_of_covers 6 _ (by decide +kernel) fun t hf y => ?_
  have h := (flush0_6 t).mp hf
  blk_simp
  rw [after_6]
  exact stored m c t h y

theorem unstack (X : Tokens) : shapeCast S2x16384x2048 (stacked X) shapeCasts_S32768x2048_S2x16384x2048 = X := by
  unfold stacked
  exact shapeCast_shapeCast ..

/-- The host's reshape after the region gives the result. -/
theorem tail_eq (c : Dev nD) : Pipeline.afterTail₀ cfgs (dats m) 0 (V0 m) [hostOps1] c main_v7 = normed m c := by
  unfold Pipeline.afterTail₀
  have e : (Pipeline.withArrays (cfgs 0).spec c (V0 m c) (fun w => (dats m 0 c).arrAt w (cfgs 0).N)) (Proc.devRef .tc main_v6) = stacked (normed m c) :=
    (Pipeline.withArrays_arr (cfgs 0).spec launch0.win.arr_inj c (V0 m c) (fun w => (dats m 0 c).arrAt w (cfgs 0).N) 6).trans (final m c)
  generalize Pipeline.withArrays (cfgs 0).spec c (V0 m c) (fun w => (dats m 0 c).arrAt w (cfgs 0).N) = V at e ⊢
  simp only [hostOps1, List.flatten_cons, List.flatten_nil, List.append_nil]
  after_results
  rw [e]
  exact unstack _

/-- The run's result, and the arguments as launched. -/
theorem result_run (ρ : Dev nD → PrngReg) : θ_run defs (onTc (τ := τ) (main (F := Ideal))) ⟨m, fun _ => 0, ρ⟩ (fun r => ∀ c : Dev nD,
      r.2.mem ((c.tc : Thread nD τ).loc main_v7) = normed m c) :=
  (θ_run defs _ _).mono (fun _ h c =>
    ((h.1 c).2 main_v7 (Pipeline.mem_restRefs_of main_v7 (by decide) (by decide))).trans (tail_eq m c)) (run_main m ρ)

end Cert.FfnProof

end
-- ==== Proof.FfnFirstRun.lean ====
/-
  The body of the first feed-forward call, run on whole staging buffers, in the three cases its branches tell
  apart: the first block of a row of blocks (the input is narrowed into its scratch and the accumulator zeroed,
  then one block is added), a middle block (one block is added), and the last, partial block (its first 384
  columns are added and the normalised residual is stored).
-/
module

public import proofs.«01_k».proof.Proof.Gen.FfnFirstIdeal.Frame
public import proofs.«01_k».proof.Proof.Gen.FfnFirstIdeal.Skeleton
public import Idealize.ShloMosaic.Lib.Pipeline.Value

@[expose] public section

set_option maxRecDepth 16384

noncomputable section

namespace Cert.FfnFirstProof

open Cert.FfnFirstIdeal Cert.FfnFirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The branch of the first block. -/
abbrev first (i : grid0.Coords) : Prop :=
  Scalar.cmpi .ne (Scalar.extui (Scalar.cmpi .eq (BitVec.ofNat 32 (i 1).val) 0#32)) 0#32 = 1#1
/-- The branch of a whole block. -/
abbrev whole (i : grid0.Coords) : Prop :=
  Scalar.cmpi .ne (Scalar.extui (Scalar.cmpi .slt (BitVec.ofNat 32 (i 1).val) 10#32)) 0#32 = 1#1
/-- The branch of the last block. -/
abbrev last (i : grid0.Coords) : Prop := k0_cond3 i = 1#1

/-- The leading 384 columns of a block of the gate and up weights. -/
abbrev cols : Rect S2048x512 := Rect.unit (s := S2048x512) ![0, 0] S2048x384.size inb_S2048x512_S2048x384_0_0
/-- The leading 384 rows of a block of the down weights. -/
abbrev rows : Rect S512x2048 := Rect.unit (s := S512x2048) ![0, 0] S384x2048.size inb_S512x2048_S384x2048_0_0

theorem origin : (![0, 0] : Fin 2 → Nat) = fun _ => 0 := by decide

/-- A list of stores whose last is of the whole buffer covers it. -/
theorem covered {s : Shape} {e : EltTy} {off : Fin s.rank → Nat} (h : off = fun _ => 0) (inb : ∀ a, off a + s.size a ≤ s.size a)
    (w : s.Idx → Elt F e) (L : List (View.Piece (Elt F) s e)) (y : s.Idx) :
    ∃ p ∈ ((⟨Rect.unit off s.size inb, w⟩ : View.Piece (Elt F) s e) :: L), y ∈ p.1.set :=
  ⟨_, List.mem_cons_self, View.mem_set_unit_zero h inb y⟩

/-- What such a list leaves. -/
theorem left {s : Shape} {e : EltTy} {sp : Space} (v : View sig .tc sp s e) (f : v.ty.Contents (Elt F)) {off : Fin s.rank → Nat} (h : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (covered h inb w L), View.canon_cons_unit_zero h]

set_option maxHeartbeats 1000000 in
/-- The body at the first block. -/
theorem run_first (c : Dev nD) (E : Set ℕ) (i : grid0.Coords)
    (arg2 : Memref sig .tc .vmem S512x2048 .f32) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S512x2048 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x2048 .f32) (harg8 : arg8.IsWhole)
    (arg9 : Memref sig .tc .vmem S512x2048 .bf16) (harg9 : arg9.IsWhole)
    (arg10 : Memref sig .tc .vmem S512x2048 .bf16) (harg10 : arg10.IsWhole)
    (arg11 : Memref sig .tc .vmem S512x2048 .f32) (harg11 : arg11.IsWhole)
    (h1 : first i) (h2 : whole i) (h3 : ¬ last i)
    (x0 : Vec F S512x2048 .f32) (x1 x2 : Vec F S2048x512 .bf16) (x3 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg10 fullShare (k0_pay1 x0) ∗ owns (c : Thread nD τ) arg11 fullShare (k0_pay3 (k0_pay1 x0) x1 x2 k0_pay2 x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
  simp only [cc0_ffn_ln_eq_skeleton]; unfold cc0_ffn_ln_skel
  simp only [k0_part1_eq_skeleton]
  unfold owns
  iintro ⟨⟨%f2, %hf2, H2⟩, ⟨%f3, %hf3, H3⟩, ⟨%f4, %hf4, H4⟩, ⟨%f5, %hf5, H5⟩, ⟨%d10, %f10, -, H10⟩, ⟨%d11, %f11, -, H11⟩, Hk⟩
  subst hf2 hf3 hf4 hf5
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    sl_unfold_words
    refine (left _ _ origin _ _ _).trans ?_
    simp only [View.readAt_eq_ld, View.ld_unit_zero (S := S512x2048) origin, View.ld_unit_zero (S := S2048x512) origin,
      View.ld_unit_zero (S := S1x2048) origin, View.readCov_unit_zero (S := S512x2048) _ origin, cols, rows]
  iexists _; isplitr
  swap; · iexact H11
  ipureintro
  sl_unfold_words
  refine (left _ _ origin _ _ _).trans ?_
  simp only [View.readAt_eq_ld, View.ld_unit_zero (S := S512x2048) origin, View.ld_unit_zero (S := S2048x512) origin,
      View.ld_unit_zero (S := S1x2048) origin, View.readCov_unit_zero (S := S512x2048) _ origin, cols, rows]

set_option maxHeartbeats 1000000 in
/-- The body at a middle block. -/
theorem run_middle (c : Dev nD) (E : Set ℕ) (i : grid0.Coords)
    (arg2 : Memref sig .tc .vmem S512x2048 .f32) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S512x2048 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x2048 .f32) (harg8 : arg8.IsWhole)
    (arg9 : Memref sig .tc .vmem S512x2048 .bf16) (harg9 : arg9.IsWhole)
    (arg10 : Memref sig .tc .vmem S512x2048 .bf16) (harg10 : arg10.IsWhole)
    (arg11 : Memref sig .tc .vmem S512x2048 .f32) (harg11 : arg11.IsWhole)
    (h1 : ¬ first i) (h2 : whole i) (h3 : ¬ last i)
    (x1 x2 : Vec F S2048x512 .bf16) (x3 : Vec F S512x2048 .bf16) (xb : Vec F S512x2048 .bf16) (acc : Vec F S512x2048 .f32) (K : PUnit → sProp 𝕄) :
    iprop(owns (c : Thread nD τ) arg3 fullShare x1 ∗ owns (c : Thread nD τ) arg4 fullShare x2 ∗ owns (c : Thread nD τ) arg5 fullShare x3 ∗ owns (c : Thread nD τ) arg10 fullShare xb ∗ owns (c : Thread nD τ) arg11 fullShare acc
        ∗ (iprop(owns (c : Thread nD τ) arg3 fullShare x1 ∗ owns (c : Thread nD τ) arg4 fullShare x2 ∗ owns (c : Thread nD τ) arg5 fullShare x3 ∗ owns (c : Thread nD τ) arg10 fullShare xb ∗ owns (c : Thread nD τ) arg11 fullShare (k0_pay3 xb x1 x2 acc x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
  simp only [cc0_ffn_ln_eq_skeleton]; unfold cc0_ffn_ln_skel
  simp only [k0_part1_eq_skeleton]
  unfold owns
  iintro ⟨⟨%f3, %hf3, H3⟩, ⟨%f4, %hf4, H4⟩, ⟨%f5, %hf5, H5⟩, ⟨%f10, %hf10, H10⟩, ⟨%f11, %hf11, H11⟩, Hk⟩
  subst hf3 hf4 hf5 hf10 hf11
  sl_exec (disch := first | sl_exact h1 | sl_exact h2 | sl_exact h3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists f10; isplitr; · ipureintro; rfl
    iexact H10
  iexists _; isplitr
  swap; · iexact H11
  ipureintro
  sl_unfold_words
  refine (left _ _ origin _ _ _).trans ?_
  simp only [View.readAt_eq_ld, View.ld_unit_zero (S := S512x2048) origin, View.ld_unit_zero (S := S2048x512) origin,
      View.ld_unit_zero (S := S1x2048) origin, View.readCov_unit_zero (S := S512x2048) _ origin, cols, rows]

set_option maxHeartbeats 1000000 in
/-- The body at the last block. -/
theorem run_last (c : Dev nD) (E : Set ℕ) (i : grid0.Coords)
    (arg2 : Memref sig .tc .vmem S512x2048 .f32) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S512x2048 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x2048 .f32) (harg8 : arg8.IsWhole)
    (arg9 : Memref sig .tc .vmem S512x2048 .bf16) (harg9 : arg9.IsWhole)
    (arg10 : Memref sig .tc .vmem S512x2048 .bf16) (harg10 : arg10.IsWhole)
    (arg11 : Memref sig .tc .vmem S512x2048 .f32) (harg11 : arg11.IsWhole)
    (h1 : ¬ first i) (h2 : ¬ whole i) (h3 : last i)
    (x0 : Vec F S512x2048 .f32) (x1 x2 : Vec F S2048x512 .bf16) (x3 : Vec F S512x2048 .bf16) (g b : Vec F S1x2048 .f32) (xb : Vec F S512x2048 .bf16) (acc : Vec F S512x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare g ∗ owns (c : Thread nD τ) arg7 fullShare b ∗ (∃ d, owns (c : Thread nD τ) arg8 fullShare d) ∗ (∃ d, owns (c : Thread nD τ) arg9 fullShare d) ∗ owns (c : Thread nD τ) arg10 fullShare xb ∗ owns (c : Thread nD τ) arg11 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare g ∗ owns (c : Thread nD τ) arg7 fullShare b ∗ owns (c : Thread nD τ) arg8 fullShare (k0_pay4 (k0_pay7 x0 (k0_pay6 xb (View.ld x1 cols) (View.ld x2 cols) acc (View.ld x3 rows))) g b) ∗ owns (c : Thread nD τ) arg9 fullShare (k0_pay5 (k0_pay7 x0 (k0_pay6 xb (View.ld x1 cols) (View.ld x2 cols) acc (View.ld x3 rows))) g b) ∗ owns (c : Thread nD τ) arg10 fullShare xb ∗ owns (c : Thread nD τ) arg11 fullShare (k0_pay6 xb (View.ld x1 cols) (View.ld x2 cols) acc (View.ld x3 rows))) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
  simp only [cc0_ffn_ln_eq_skeleton]; unfold cc0_ffn_ln_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  subst hf2 hf3 hf4 hf5 hf6 hf7 hf10 hf11
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (left _ _ origin _ _ _).trans ?_
    simp only [View.readAt_eq_ld, View.ld_unit_zero (S := S512x2048) origin, View.ld_unit_zero (S := S2048x512) origin,
      View.ld_unit_zero (S := S1x2048) origin, View.readCov_unit_zero (S := S512x2048) _ origin, cols, rows]
  isplitl [H9]
  · iexists _; isplitr
    swap; · iexact H9
    ipureintro
    sl_unfold_words
    refine (left _ _ origin _ _ _).trans ?_
    simp only [View.readAt_eq_ld, View.ld_unit_zero (S := S512x2048) origin, View.ld_unit_zero (S := S2048x512) origin,
      View.ld_unit_zero (S := S1x2048) origin, View.readCov_unit_zero (S := S512x2048) _ origin, cols, rows]
  isplitl [H10]
  · iexists f10; isplitr; · ipureintro; rfl
    iexact H10
  iexists _; isplitr
  swap; · iexact H11
  ipureintro
  sl_unfold_words
  refine (left _ _ origin _ _ _).trans ?_
  simp only [View.readAt_eq_ld, View.ld_unit_zero (S := S512x2048) origin, View.ld_unit_zero (S := S2048x512) origin,
      View.ld_unit_zero (S := S1x2048) origin, View.readCov_unit_zero (S := S512x2048) _ origin, cols, rows]

end Cert.FfnFirstProof

end
-- ==== Proof.FfnFirstFrame.lean ====
/-
  The first feed-forward call's run: what its two scratch buffers hold between grid points (the narrowed rows, and the
  sum over the blocks so far), the body's obligation at every point, and the launch. A weight block that overhangs
  its array is read only in its leading 384 columns or rows, so that the words past the array's end are never used.
-/
module

public import Idealize.ShloMosaic.Lib.Claim
public import proofs.«01_k».proof.Proof.FfnFirstRun

@[expose] public section

set_option maxRecDepth 16384

noncomputable section

namespace Cert.FfnFirstProof

open Cert.FfnFirstIdeal Cert.FfnFirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches at a point -/

theorem first_iff (t : Fin cfg0.N) : first (grid0.coords t) ↔ t.val % 11 = 0 := by
  have ht : t.val < 704 := Nat.lt_of_lt_of_eq t.isLt N_0
  have e1 : (grid0.coords t 1).val = t.val / 1 % 11 := Pipeline.Grid.coords_val t 1 (by decide) rfl
  simp only [first, e1]
  word_cmp

theorem whole_iff (t : Fin cfg0.N) : whole (grid0.coords t) ↔ t.val % 11 ≠ 10 := by
  have ht : t.val < 704 := Nat.lt_of_lt_of_eq t.isLt N_0
  have e1 : (grid0.coords t 1).val = t.val / 1 % 11 := Pipeline.Grid.coords_val t 1 (by decide) rfl
  simp only [whole, e1]
  word_cmp

theorem last_iff (t : Fin cfg0.N) : last (grid0.coords t) ↔ t.val % 11 = 10 := by
  have ht : t.val < 704 := Nat.lt_of_lt_of_eq t.isLt N_0
  have e1 : (grid0.coords t 1).val = t.val / 1 % 11 := Pipeline.Grid.coords_val t 1 (by decide) rfl
  simp only [last, k0_cond3, e1]
  word_cmp

/-! ## The weights' blocks -/

/-- How much of a block of the gate weights lies in the array, -/
theorem inside_1 : ∀ (t : Fin grid0.N) (a : Fin 2), win0_1.xsize (grid0.coords t) a = if t.val % 11 = 10 ∧ a = 1 then 384 else S2048x512.size a := by
  decide +kernel
/-- of the up weights, -/
theorem inside_2 : ∀ (t : Fin grid0.N) (a : Fin 2), win0_2.xsize (grid0.coords t) a = if t.val % 11 = 10 ∧ a = 1 then 384 else S2048x512.size a := by
  decide +kernel
/-- and of the down weights. -/
theorem inside_3 : ∀ (t : Fin grid0.N) (a : Fin 2), win0_3.xsize (grid0.coords t) a = if t.val % 11 = 10 ∧ a = 0 then 384 else S512x2048.size a := by
  decide +kernel

/-- A block that lies in its array is filled whole: what the buffer held before is gone. -/
theorem fill_whole (w : Window sig grid0) (i : grid0.Coords) {α : Type} (d d' : w.block.Idx → α) (g : (w.xblock i).Idx → α)
    (h : ∀ j, w.moved i j = true) : w.fill i d g = w.fill i d' g := by
  funext j; unfold Window.fill; rw [dif_pos (h j), dif_pos (h j)]

/-- A load of the part of a block that lies in its array reads nothing of what the buffer held before. -/
theorem ld_fill (w : Window sig grid0) (i : grid0.Coords) {e : EltTy} (d d' : w.block.Idx → Elt F e) (g : (w.xblock i).Idx → Elt F e)
    (R : Rect w.block) (h : ∀ j : R.shape.Idx, w.moved i (R.emb j) = true) :
    View.ld (Val := Elt F) (e' := e) (w.fill i d g) R = View.ld (Val := Elt F) (e' := e) (w.fill i d' g) R := by
  funext j; have hj : w.moved i (R.idx j) = true := h j
  unfold View.ld Window.fill; rw [dif_pos hj, dif_pos hj]

theorem moved_1 (t : Fin cfg0.N) (h : t.val % 11 ≠ 10) (j : S2048x512.Idx) : win0_1.moved (grid0.coords t) j = true :=
  (win0_1.moved_iff _ j).mpr fun a => by rw [inside_1 t a, if_neg (fun hh => h hh.1)]; exact (j a).isLt
theorem moved_2 (t : Fin cfg0.N) (h : t.val % 11 ≠ 10) (j : S2048x512.Idx) : win0_2.moved (grid0.coords t) j = true :=
  (win0_2.moved_iff _ j).mpr fun a => by rw [inside_2 t a, if_neg (fun hh => h hh.1)]; exact (j a).isLt
theorem moved_3 (t : Fin cfg0.N) (h : t.val % 11 ≠ 10) (j : S512x2048.Idx) : win0_3.moved (grid0.coords t) j = true :=
  (win0_3.moved_iff _ j).mpr fun a => by rw [inside_3 t a, if_neg (fun hh => h hh.1)]; exact (j a).isLt

theorem cols_lt (j : cols.shape.Idx) : (cols.emb j 0).val < 2048 ∧ (cols.emb j 1).val < 384 := by
  have h0 : (j 0).val < 2048 := (j 0).isLt
  have h1 : (j 1).val < 384 := (j 1).isLt
  rw [Rect.emb_apply, Rect.emb_apply]
  exact ⟨by show 0 + 1 * (j 0).val < 2048; omega, by show 0 + 1 * (j 1).val < 384; omega⟩
theorem rows_lt (j : rows.shape.Idx) : (rows.emb j 0).val < 384 ∧ (rows.emb j 1).val < 2048 := by
  have h0 : (j 0).val < 384 := (j 0).isLt
  have h1 : (j 1).val < 2048 := (j 1).isLt
  rw [Rect.emb_apply, Rect.emb_apply]
  exact ⟨by show 0 + 1 * (j 0).val < 384; omega, by show 0 + 1 * (j 1).val < 2048; omega⟩

theorem cols_1 (t : Fin cfg0.N) (j : cols.shape.Idx) : win0_1.moved (grid0.coords t) (cols.emb j) = true :=
  (win0_1.moved_iff _ _).mpr fun a => by
    rw [inside_1 t a]; obtain ⟨h0, h1⟩ := cols_lt j
    match a with
    | ⟨0, _⟩ => rw [if_neg (fun hh => absurd hh.2 (show ¬ (0 : Fin 2) = 1 by decide))]; exact h0
    | ⟨1, _⟩ => split; exact h1; exact Nat.lt_trans h1 (show 384 < 512 by decide)
theorem cols_2 (t : Fin cfg0.N) (j : cols.shape.Idx) : win0_2.moved (grid0.coords t) (cols.emb j) = true :=
  (win0_2.moved_iff _ _).mpr fun a => by
    rw [inside_2 t a]; obtain ⟨h0, h1⟩ := cols_lt j
    match a with
    | ⟨0, _⟩ => rw [if_neg (fun hh => absurd hh.2 (show ¬ (0 : Fin 2) = 1 by decide))]; exact h0
    | ⟨1, _⟩ => split; exact h1; exact Nat.lt_trans h1 (show 384 < 512 by decide)
theorem rows_3 (t : Fin cfg0.N) (j : rows.shape.Idx) : win0_3.moved (grid0.coords t) (rows.emb j) = true :=
  (win0_3.moved_iff _ _).mpr fun a => by
    rw [inside_3 t a]; obtain ⟨h0, h1⟩ := rows_lt j
    match a with
    | ⟨0, _⟩ => split; exact h0; exact Nat.lt_trans h0 (show 384 < 512 by decide)
    | ⟨1, _⟩ => rw [if_neg (fun hh => absurd hh.2 (show ¬ (1 : Fin 2) = 0 by decide))]; exact h1

/-- The gate weights' block at a point, zero past the array's end, -/
def gate (c : Dev nD) (t : Fin cfg0.N) : Vec F S2048x512 .bf16 :=
  win0_1.fill (grid0.coords t) (fun _ => Scalar.ofBits .bf16 0#16) (iblk m c 1 t)
/-- the up weights', -/
def up (c : Dev nD) (t : Fin cfg0.N) : Vec F S2048x512 .bf16 :=
  win0_2.fill (grid0.coords t) (fun _ => Scalar.ofBits .bf16 0#16) (iblk m c 2 t)
/-- and the down weights'. -/
def down (c : Dev nD) (t : Fin cfg0.N) : Vec F S512x2048 .bf16 :=
  win0_3.fill (grid0.coords t) (fun _ => Scalar.ofBits .bf16 0#16) (iblk m c 3 t)

/-! ## The scratch buffers between points -/

/-- The narrowed rows and the sum so far, after the first block of a row of blocks, -/
def begun (c : Dev nD) (t : Fin cfg0.N) : Vec F S512x2048 .bf16 × Vec F S512x2048 .f32 :=
  (k0_pay1 (iblk m c 0 t), k0_pay3 (k0_pay1 (iblk m c 0 t)) (gate m c t) (up m c t) k0_pay2 (down m c t))
/-- and after a later one, from what they held before it. -/
def added (c : Dev nD) (t : Fin cfg0.N) (p : Vec F S512x2048 .bf16 × Vec F S512x2048 .f32) : Vec F S512x2048 .bf16 × Vec F S512x2048 .f32 :=
  (p.1, if t.val % 11 = 10 then k0_pay6 p.1 (View.ld (gate m c t) cols) (View.ld (up m c t) cols) p.2 (View.ld (down m c t) rows)
    else k0_pay3 p.1 (gate m c t) (up m c t) p.2 (down m c t))

/-- What they hold after point `n`. -/
def state (c : Dev nD) : (n : ℕ) → n < cfg0.N → Vec F S512x2048 .bf16 × Vec F S512x2048 .f32
  | 0, h => begun m c ⟨0, h⟩
  | n + 1, h => if (n + 1) % 11 = 0 then begun m c ⟨n + 1, h⟩ else added m c ⟨n + 1, h⟩ (state c n (Nat.lt_of_succ_lt h))

theorem state_first (c : Dev nD) (t : Fin cfg0.N) (h : t.val % 11 = 0) : state m c t.val t.isLt = begun m c t := by
  obtain ⟨n, hn⟩ := t
  cases n with
  | zero => rfl
  | succ n => exact if_pos h

theorem state_later (c : Dev nD) (t : Fin cfg0.N) (h : t.val % 11 ≠ 0) :
    state m c t.val t.isLt = added m c t (state m c (t.val - 1) (by have := t.isLt; omega)) := by
  obtain ⟨n, hn⟩ := t
  cases n with
  | zero => exact absurd (Nat.zero_mod 11) h
  | succ n => exact if_neg h

/-- The first result's rows, from what the accumulator holds after the last block. -/
def result (c : Dev nD) (t : Fin cfg0.N) : Vec F S512x2048 .f32 :=
  k0_pay4 (k0_pay7 (iblk m c 0 t) (state m c t.val t.isLt).2) (iblk m c 4 t) (iblk m c 5 t)
/-- The second result's rows: the same, narrowed. -/
def narrowed (c : Dev nD) (t : Fin cfg0.N) : Vec F S512x2048 .bf16 :=
  k0_pay5 (k0_pay7 (iblk m c 0 t) (state m c t.val t.isLt).2) (iblk m c 4 t) (iblk m c 5 t)

/-- The narrowed rows' scratch, -/
abbrev narrow : Memref sig .tc .vmem S512x2048 .bf16 := Memref.whole cc0_scratch0
/-- and the accumulator. -/
abbrev accum : Memref sig .tc .vmem S512x2048 .f32 := Memref.whole cc0_scratch1

theorem scratch_eq (c : Dev nD) :
    (Pipeline.ΦA spec0 c : sProp 𝕄)
      = iprop(iprop((∃ d, owns (c : Thread nD τ) narrow fullShare d) ∗ (∃ d, owns (c : Thread nD τ) accum fullShare d)) ∗ (∃ r, prngReg c r)) := by
  unfold Pipeline.ΦA; rw [scopedRest0_eq]; simp only [narrow, accum, owns_whole]; try rfl

/-- The invariant before point `n`: the scratch buffers at anything before the first point, then at `state`. -/
def inv (c : Dev nD) : (n : ℕ) → n ≤ cfg0.N → sProp 𝕄
  | 0, _ => Pipeline.ΦA spec0 c
  | n + 1, h => iprop(iprop(owns (c : Thread nD τ) narrow fullShare (state m c n h).1 ∗ owns (c : Thread nD τ) accum fullShare (state m c n h).2) ∗ (∃ r, prngReg c r))

theorem inv_zero (c : Dev nD) (n : ℕ) (h : n ≤ cfg0.N) (hz : n = 0) : inv m c n h = Pipeline.ΦA spec0 c := by subst hz; rfl
theorem inv_pos (c : Dev nD) (n : ℕ) (h : n ≤ cfg0.N) (hz : n ≠ 0) :
    inv m c n h = iprop(iprop(owns (c : Thread nD τ) narrow fullShare (state m c (n - 1) (by omega)).1 ∗ owns (c : Thread nD τ) accum fullShare (state m c (n - 1) (by omega)).2) ∗ (∃ r, prngReg c r)) := by
  cases n with
  | zero => exact absurd rfl hz
  | succ n => rfl

/-- The invariant gives the scratch buffers back at anything. -/
theorem inv_any (c : Dev nD) (n : ℕ) (h : n ≤ cfg0.N) : inv m c n h ⊢ Pipeline.ΦA spec0 c := by
  by_cases hz : n = 0
  · rw [inv_zero m c n h hz]
  · rw [inv_pos m c n h hz, scratch_eq]
    iintro ⟨⟨H0, H1⟩, Hg⟩
    isplitl [H0 H1]
    · isplitl [H0]
      · iexists _; iexact H0
      iexists _; iexact H1
    iexact Hg

/-! ## The pipeline's data -/

/-- The arrays as the region finds them; after the body each input's buffer at its block and each result's at its rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => gate m c t
    | ⟨2, _⟩ => up m c t
    | ⟨3, _⟩ => down m c t
    | ⟨4, _⟩ => iblk m c 4 t
    | ⟨5, _⟩ => iblk m c 5 t
    | ⟨6, _⟩ => result m c t
    | ⟨7, _⟩ => narrowed m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = result m c t := by dsimp only [dats]
theorem after_7 (c : Dev nD) (t : Fin cfg0.N) : (dats m 0 c).after 7 t = narrowed m c t := by dsimp only [dats]

theorem before_0 (c : Dev nD) (t : Fin cfg0.N) (d) : (dats m 0 c).before 0 t d = iblk m c 0 t :=
  before0_0_of m (dats m 0 c) (A_eq m c 0) (after_0 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- A weight window is fetched at every point: its buffer holds the block, and past the array's end anything. -/
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl

/-- The body's table at a point is the body on that point's staging buffers. -/
theorem defs_row (t : Fin cfg0.N) : defs₀ (F := F) .tc cfg0.body (cfg0.bodyArgs t (cfg0.slots t)) = bodyAt0 t := by
  unfold defs₀; rw [Defs.onTc_tc]

/-! ## What the body leaves, window by window -/

theorem idle_6 (t : Fin cfg0.N) (h : t.val % 11 ≠ 10) : cfg0.idle 6 (cfg0.grid.coords t) = true := by
  have h3 : ¬ last (grid0.coords t) := fun hh => h ((last_iff t).mp hh)
  show (!(k0_cond3 (grid0.coords t) == 1#1)) = true
  simpa using h3
theorem busy_6 (t : Fin cfg0.N) (h : t.val % 11 = 10) : cfg0.idle 6 (cfg0.grid.coords t) = false := by
  have h3 : last (grid0.coords t) := (last_iff t).mpr h
  show (!(k0_cond3 (grid0.coords t) == 1#1)) = false
  simpa using h3
theorem unflushed_6 (t : Fin cfg0.N) (h : t.val % 11 ≠ 10) : (cfg0.win 6).flush t = false := by
  have := mt (flush0_6 t).mp h
  simpa using this
/-- Where the last block's branch is not taken the result's buffer is handed back as found, -/
theorem leaves_6_idle (c : Dev nD) (t : Fin cfg0.N) (h : t.val % 11 ≠ 10) :
    (dats m 0 c).leaves 6 t = iprop(∃ d, owns (c : Thread nD τ) (st0_6 t) fullShare ((dats m 0 c).before 6 t d)) :=
  (dats m 0 c).leaves_idle 6 t (idle_6 t h) (unflushed_6 t h)
/-- and where it is, at the rows it stores. -/
theorem leaves_6_busy (c : Dev nD) (t : Fin cfg0.N) (h : t.val % 11 = 10) :
    (dats m 0 c).leaves 6 t = owns (c : Thread nD τ) (st0_6 t) fullShare (result m c t) := by
  unfold Dat.leaves; rw [busy_6 t h, after_6]
theorem idle_7 (t : Fin cfg0.N) (h : t.val % 11 ≠ 10) : cfg0.idle 7 (cfg0.grid.coords t) = true := by
  have h3 : ¬ last (grid0.coords t) := fun hh => h ((last_iff t).mp hh)
  show (!(k0_cond3 (grid0.coords t) == 1#1)) = true
  simpa using h3
theorem busy_7 (t : Fin cfg0.N) (h : t.val % 11 = 10) : cfg0.idle 7 (cfg0.grid.coords t) = false := by
  have h3 : last (grid0.coords t) := (last_iff t).mpr h
  show (!(k0_cond3 (grid0.coords t) == 1#1)) = false
  simpa using h3
theorem unflushed_7 (t : Fin cfg0.N) (h : t.val % 11 ≠ 10) : (cfg0.win 7).flush t = false := by
  have := mt (flush0_7 t).mp h
  simpa using this
/-- Where the last block's branch is not taken the result's buffer is handed back as found, -/
theorem leaves_7_idle (c : Dev nD) (t : Fin cfg0.N) (h : t.val % 11 ≠ 10) :
    (dats m 0 c).leaves 7 t = iprop(∃ d, owns (c : Thread nD τ) (st0_7 t) fullShare ((dats m 0 c).before 7 t d)) :=
  (dats m 0 c).leaves_idle 7 t (idle_7 t h) (unflushed_7 t h)
/-- and where it is, at the rows it stores. -/
theorem leaves_7_busy (c : Dev nD) (t : Fin cfg0.N) (h : t.val % 11 = 10) :
    (dats m 0 c).leaves 7 t = owns (c : Thread nD τ) (st0_7 t) fullShare (narrowed m c t) := by
  unfold Dat.leaves; rw [busy_7 t h, after_7]
theorem leaves_0 (c : Dev nD) (t : Fin cfg0.N) : (dats m 0 c).leaves 0 t = owns (c : Thread nD τ) (st0_0 t) fullShare (iblk m c 0 t) := by
  rw [← after_0]
theorem leaves_4 (c : Dev nD) (t : Fin cfg0.N) : (dats m 0 c).leaves 4 t = owns (c : Thread nD τ) (st0_4 t) fullShare (iblk m c 4 t) := by
  rw [← after_4]
theorem leaves_5 (c : Dev nD) (t : Fin cfg0.N) : (dats m 0 c).leaves 5 t = owns (c : Thread nD τ) (st0_5 t) fullShare (iblk m c 5 t) := by
  rw [← after_5]
theorem leaves_1 (c : Dev nD) (t : Fin cfg0.N) :
    (dats m 0 c).leaves 1 t = iprop(∃ d, owns (c : Thread nD τ) (st0_1 t) fullShare (win0_1.fill (grid0.coords t) d (iblk m c 1 t))) := by
  have h : win0_1.cut (grid0.coords t) (gate m c t) = iblk m c 1 t := win0_1.cut_fill _ _ _
  conv_rhs => rw [← h]
  rfl
theorem leaves_2 (c : Dev nD) (t : Fin cfg0.N) :
    (dats m 0 c).leaves 2 t = iprop(∃ d, owns (c : Thread nD τ) (st0_2 t) fullShare (win0_2.fill (grid0.coords t) d (iblk m c 2 t))) := by
  have h : win0_2.cut (grid0.coords t) (up m c t) = iblk m c 2 t := win0_2.cut_fill _ _ _
  conv_rhs => rw [← h]
  rfl
theorem leaves_3 (c : Dev nD) (t : Fin cfg0.N) :
    (dats m 0 c).leaves 3 t = iprop(∃ d, owns (c : Thread nD τ) (st0_3 t) fullShare (win0_3.fill (grid0.coords t) d (iblk m c 3 t))) := by
  have h : win0_3.cut (grid0.coords t) (down m c t) = iblk m c 3 t := win0_3.cut_fill _ _ _
  conv_rhs => rw [← h]
  rfl

/-! ## The body at a point -/

/-- At the first block the scratch buffers may hold anything. -/
theorem body_first (c : Dev nD) (t : Fin cfg0.N) (h0 : t.val % 11 = 0) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
      ⊢ wp frame (wpE (defs₀ (F := F)) Variants.none c none) Set.univ (bodyAt0 t) (fun _ =>
          iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t)) := by
  have h : t.val % 11 ≠ 10 := by omega
  rw [show (dats m 0 c).owesAt () t.succ = (dats m 0 c).owesAt () t.castSucc from rfl, show (dats m 0 c).Φ t.succ = iprop(iprop(owns (c : Thread nD τ) narrow fullShare (state m c t.val t.isLt).1 ∗ owns (c : Thread nD τ) accum fullShare (state m c t.val t.isLt).2) ∗ (∃ r, prngReg c r)) from rfl, state_first m c t h0, leaves_0, leaves_1, leaves_2, leaves_3, leaves_4, leaves_5, leaves_6_idle m c t h, leaves_7_idle m c t h]
  rw [show (dats m 0 c).Φ t.castSucc = inv m c t.val (Nat.le_of_lt t.isLt) from Pipeline.Dat.Φ_castSucc (inv m c) t]
  refine (BIClass.sep_mono (inv_any m c t.val _) .rfl).trans ?_
  rw [scratch_eq]
  iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4, before_5 m c t d5]
  have e : begun m c t = (k0_pay1 (iblk m c 0 t), k0_pay3 (k0_pay1 (iblk m c 0 t)) (win0_1.fill (grid0.coords t) d1 (iblk m c 1 t)) (win0_2.fill (grid0.coords t) d2 (iblk m c 2 t)) k0_pay2 (win0_3.fill (grid0.coords t) d3 (iblk m c 3 t))) := by
    have e1 : gate m c t = win0_1.fill (grid0.coords t) d1 (iblk m c 1 t) := fill_whole _ _ _ _ _ (moved_1 t h)
    have e2 : up m c t = win0_2.fill (grid0.coords t) d2 (iblk m c 2 t) := fill_whole _ _ _ _ _ (moved_2 t h)
    have e3 : down m c t = win0_3.fill (grid0.coords t) d3 (iblk m c 3 t) := fill_whole _ _ _ _ _ (moved_3 t h)
    unfold begun; rw [e1, e2, e3]
  rw [e]
  unfold bodyAt0
  iapply (run_first c Set.univ (grid0.coords t) _ _ _ _ _ _ _ _ _ _ _ _ _ _ _ _ _ _ _ _ ((first_iff t).mpr h0) ((whole_iff t).mpr h) (fun hh => h ((last_iff t).mp hh))
    (iblk m c 0 t) (win0_1.fill (grid0.coords t) d1 (iblk m c 1 t)) (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [HN]; · iexact HN
  isplitl [HA]; · iexact HA
  iintro ⟨H0, H1, H2, H3, HN, HA⟩
  isplitl [HN HA Hg]
  · isplitl [HN HA]
    · isplitl [HN]
      · iexact HN
      iexact HA
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexact H4
  isplitl [H5]; · iexact H5
  isplitl [H6]; · iexists d6; iexact H6
  iexists d7; iexact H7

/-- At a later one they hold what the point before left. -/
theorem body_middle (c : Dev nD) (t : Fin cfg0.N) (h0 : t.val % 11 ≠ 0) (h : t.val % 11 ≠ 10) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
      ⊢ wp frame (wpE (defs₀ (F := F)) Variants.none c none) Set.univ (bodyAt0 t) (fun _ =>
          iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t)) := by
  have hz : t.val ≠ 0 := fun e => h0 (by rw [e])
  rw [show (dats m 0 c).owesAt () t.succ = (dats m 0 c).owesAt () t.castSucc from rfl, show (dats m 0 c).Φ t.succ = iprop(iprop(owns (c : Thread nD τ) narrow fullShare (state m c t.val t.isLt).1 ∗ owns (c : Thread nD τ) accum fullShare (state m c t.val t.isLt).2) ∗ (∃ r, prngReg c r)) from rfl, state_later m c t h0, leaves_0, leaves_1, leaves_2, leaves_3, leaves_4, leaves_5, leaves_6_idle m c t h, leaves_7_idle m c t h]
  rw [show (dats m 0 c).Φ t.castSucc = inv m c t.val (Nat.le_of_lt t.isLt) from Pipeline.Dat.Φ_castSucc (inv m c) t, inv_pos m c _ _ hz]
  generalize state m c (t.val - 1) _ = p
  iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4, before_5 m c t d5]
  have e : added m c t p = (p.1, k0_pay3 p.1 (win0_1.fill (grid0.coords t) d1 (iblk m c 1 t)) (win0_2.fill (grid0.coords t) d2 (iblk m c 2 t)) p.2 (win0_3.fill (grid0.coords t) d3 (iblk m c 3 t))) := by
    have e1 : gate m c t = win0_1.fill (grid0.coords t) d1 (iblk m c 1 t) := fill_whole _ _ _ _ _ (moved_1 t h)
    have e2 : up m c t = win0_2.fill (grid0.coords t) d2 (iblk m c 2 t) := fill_whole _ _ _ _ _ (moved_2 t h)
    have e3 : down m c t = win0_3.fill (grid0.coords t) d3 (iblk m c 3 t) := fill_whole _ _ _ _ _ (moved_3 t h)
    unfold added; rw [if_neg h, e1, e2, e3]
  rw [e]
  unfold bodyAt0
  iapply (run_middle c Set.univ (grid0.coords t) _ _ _ _ _ _ _ _ _ _ _ _ _ _ _ _ _ _ _ _ (fun hh => h0 ((first_iff t).mp hh)) ((whole_iff t).mpr h) (fun hh => h ((last_iff t).mp hh))
    (win0_1.fill (grid0.coords t) d1 (iblk m c 1 t)) (win0_2.fill (grid0.coords t) d2 (iblk m c 2 t)) (win0_3.fill (grid0.coords t) d3 (iblk m c 3 t)) p.1 p.2 _)
  isplitl [H1]; · iexact H1
  isplitl [H2]; · iexact H2
  isplitl [H3]; · iexact H3
  isplitl [HN]; · iexact HN
  isplitl [HA]; · iexact HA
  iintro ⟨H1, H2, H3, HN, HA⟩
  isplitl [HN HA Hg]
  · isplitl [HN HA]
    · isplitl [HN]
      · iexact HN
      iexact HA
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexact H4
  isplitl [H5]; · iexact H5
  isplitl [H6]; · iexists d6; iexact H6
  iexists d7; iexact H7

/-- At the last one too, and the results are stored. -/
theorem body_last (c : Dev nD) (t : Fin cfg0.N) (h : t.val % 11 = 10) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
      ⊢ wp frame (wpE (defs₀ (F := F)) Variants.none c none) Set.univ (bodyAt0 t) (fun _ =>
          iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t)) := by
  have h0 : t.val % 11 ≠ 0 := by omega
  have hz : t.val ≠ 0 := fun e => h0 (by rw [e])
  rw [show (dats m 0 c).owesAt () t.succ = (dats m 0 c).owesAt () t.castSucc from rfl, show (dats m 0 c).Φ t.succ = iprop(iprop(owns (c : Thread nD τ) narrow fullShare (state m c t.val t.isLt).1 ∗ owns (c : Thread nD τ) accum fullShare (state m c t.val t.isLt).2) ∗ (∃ r, prngReg c r)) from rfl, leaves_0, leaves_1, leaves_2, leaves_3, leaves_4, leaves_5, leaves_6_busy m c t h, leaves_7_busy m c t h]
  unfold result narrowed
  rw [state_later m c t h0]
  rw [show (dats m 0 c).Φ t.castSucc = inv m c t.val (Nat.le_of_lt t.isLt) from Pipeline.Dat.Φ_castSucc (inv m c) t, inv_pos m c _ _ hz]
  generalize state m c (t.val - 1) _ = p
  iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4, before_5 m c t d5]
  have e : added m c t p = (p.1, k0_pay6 p.1 (View.ld (win0_1.fill (grid0.coords t) d1 (iblk m c 1 t)) cols) (View.ld (win0_2.fill (grid0.coords t) d2 (iblk m c 2 t)) cols) p.2
      (View.ld (win0_3.fill (grid0.coords t) d3 (iblk m c 3 t)) rows)) := by
    have e1 : View.ld (gate m c t) cols = View.ld (win0_1.fill (grid0.coords t) d1 (iblk m c 1 t)) cols := ld_fill win0_1 _ _ _ _ cols (cols_1 t)
    have e2 : View.ld (up m c t) cols = View.ld (win0_2.fill (grid0.coords t) d2 (iblk m c 2 t)) cols := ld_fill win0_2 _ _ _ _ cols (cols_2 t)
    have e3 : View.ld (down m c t) rows = View.ld (win0_3.fill (grid0.coords t) d3 (iblk m c 3 t)) rows := ld_fill win0_3 _ _ _ _ rows (rows_3 t)
    unfold added; rw [if_pos h, e1, e2, e3]
  rw [e]
  unfold bodyAt0
  iapply (run_last c Set.univ (grid0.coords t) _ _ _ _ _ _ _ _ _ _ _ _ _ _ _ _ _ _ _ _ (fun hh => h0 ((first_iff t).mp hh)) (fun hh => (whole_iff t).mp hh h) ((last_iff t).mpr h)
    (iblk m c 0 t) (win0_1.fill (grid0.coords t) d1 (iblk m c 1 t)) (win0_2.fill (grid0.coords t) d2 (iblk m c 2 t)) (win0_3.fill (grid0.coords t) d3 (iblk m c 3 t)) (iblk m c 4 t) (iblk m c 5 t) p.1 p.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HN]; · iexact HN
  isplitl [HA]; · iexact HA
  iintro ⟨H0, H1, H2, H3, H4, H5, H6, H7, HN, HA⟩
  isplitl [HN HA Hg]
  · isplitl [HN HA]
    · isplitl [HN]
      · iexact HN
      iexact HA
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexact H4
  isplitl [H5]; · iexact H5
  isplitl [H6]; · iexact H6
  iexact H7

theorem body_obligation (c : Dev nD) : BodyObligationLoose (dats (F := F) m 0 c) (defs₀ (F := F)) Variants.none () Set.univ := fun t => by
  rw [bigSep_W0, bigSep_W0, defs_row]
  by_cases h0 : t.val % 11 = 0
  · exact triple_restated (body_first m c t h0) rfl .rfl fun _ => .rfl
  by_cases h : t.val % 11 = 10
  · exact triple_restated (body_last m c t h) rfl .rfl fun _ => .rfl
  · exact triple_restated (body_middle m c t h0 h) rfl .rfl fun _ => .rfl

/-! ## The run -/

theorem inv_in (c : Dev nD) : Pipeline.ΦA spec0 c ⊢ (dats m 0 c).Φ 0 := by
  rw [show (dats m 0 c).Φ 0 = inv m c 0 (Nat.zero_le _) from rfl, inv_zero m c 0 _ rfl]
theorem inv_out (c : Dev nD) : (dats m 0 c).Φ (Fin.last cfg0.N) ⊢ Pipeline.ΦA spec0 c := by
  rw [show (dats m 0 c).Φ (Fin.last cfg0.N) = inv m c cfg0.N (Nat.le_refl _) from rfl]
  exact inv_any m c _ _

-- the launch theorem's implicit arguments are found by unifying its conclusion with this one
set_option backward.isDefEq.respectTransparency.types false in
/-- Every weakly fair execution terminates, with every array at what the pipeline's data says, the other buffers as
    the host lines leave them, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none)
    (hA := A_eq m) (hin := inv_in m) (hout := inv_out m)

/-- The frame: the arguments end as launched, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

end Cert.FfnFirstProof

end
-- ==== Proof.Words.lean ====
/- The programs on machine words and on extended reals have one text: what is defined of one is defined of the other.
   A frame proved for any kind of float of one of the two is thereby the frame of the other. -/
module

public import proofs.«01_k».proof.Defs
public import proofs.«01_k».proof.Proof.Gen.Ffn
public import proofs.«01_k».proof.Proof.Gen.FfnFirst
public import proofs.«01_k».proof.Proof.FfnFrame
public import proofs.«01_k».proof.Proof.FfnFirstFrame

@[expose] public section

set_option maxRecDepth 16384

noncomputable section

namespace Cert.Words

open Idealize.ShloMosaic Idealize.SL.Sem

theorem ffn_bodies : (@Cert.Ffn.defs₀ Bits _ _) = Cert.FfnIdeal.defs₀ := by
  refine congrArg Defs.onTc (funext fun l => ?_)
  match l with
  | ⟨0, _⟩ =>
    refine funext fun a => ?_
    match a with
    | (t, s) => exact rfl

theorem ffn_defs : (@Cert.Ffn.defs Bits _ _) = Cert.FfnIdeal.defs := congrArg (Pipeline.defs Cert.FfnIdeal.pcfgs) ffn_bodies

theorem first_bodies : (@Cert.FfnFirst.defs₀ Bits _ _) = Cert.FfnFirstIdeal.defs₀ := by
  refine congrArg Defs.onTc (funext fun l => ?_)
  match l with
  | ⟨0, _⟩ =>
    refine funext fun a => ?_
    match a with
    | (t, s) => exact rfl

theorem first_defs : (@Cert.FfnFirst.defs Bits _ _) = Cert.FfnFirstIdeal.defs := congrArg (Pipeline.defs Cert.FfnFirstIdeal.pcfgs) first_bodies

/-- The second feed-forward call on machine words. -/
theorem frame_ffn : Cert.quiescent_Ffn := by
  intro m g _
  rw [ffn_defs]
  exact Cert.FfnProof.frame_run (F := Bits) m g

/-- The first feed-forward call on machine words. -/
theorem frame_first : Cert.quiescent_FfnFirst := by
  intro m g _
  rw [first_defs]
  exact Cert.FfnFirstProof.frame_run (F := Bits) m g

end Cert.Words

end
-- ==== Proof.FfnFirstValue.lean ====
/-
  The first feed-forward call's value: the sum its accumulator holds after the last block is the reference's product
  over all 5504 columns of the hidden layer, summed ten blocks of 512 and one of 384 at a time.
-/
module

public import proofs.«01_k».proof.Proof.FfnFirstFrame
public import proofs.«01_k».proof.Proof.Gen.FfnFirstReferenceIdeal.Run
public import Idealize.ShloMosaic.Lib.Pipeline.ValueKit
public import Idealize.ShloMosaic.Lib.Pointwise

@[expose] public section

set_option maxRecDepth 16384

noncomputable section

namespace Cert.FfnFirstProof

open Idealize.ShloMosaic Idealize.ShloMosaic.TcCoe Idealize.SL.Sem
open Idealize.ShloMosaic.Pipeline (Dat)
open Cert.FfnFirstIdeal Cert.FfnFirstIdeal.Gen

/-! ## The reference -/

abbrev Tokens := FVec Ideal Cert.FfnFirstReferenceIdeal.S2x16384x2048 .f32
abbrev Hidden := FVec Ideal Cert.FfnFirstReferenceIdeal.S2x16384x5504 .f32
abbrev Widen := FVec Ideal Cert.FfnFirstReferenceIdeal.S2048x5504 .f32
abbrev Narrow := FVec Ideal Cert.FfnFirstReferenceIdeal.S5504x2048 .f32
abbrev RowVec := FVec Ideal Cert.FfnFirstReferenceIdeal.S2048 .f32

/-- A number at every entry. -/
abbrev spread (b : BitVec 32) : Hidden := broadcastInDim Cert.FfnFirstReferenceIdeal.S2x16384x5504 ![] Cert.FfnFirstReferenceIdeal.Gen.bcast_S_S2x16384x5504 (constant Cert.FfnFirstReferenceIdeal.S_ .f32 b)
abbrev spreadTokens (b : BitVec 32) : Tokens := broadcastInDim Cert.FfnFirstReferenceIdeal.S2x16384x2048 ![] Cert.FfnFirstReferenceIdeal.Gen.bcast_S_S2x16384x2048 (constant Cert.FfnFirstReferenceIdeal.S_ .f32 b)
abbrev spreadCol (b : BitVec 32) : FVec Ideal Cert.FfnFirstReferenceIdeal.S2x16384x1 .f32 := broadcastInDim Cert.FfnFirstReferenceIdeal.S2x16384x1 ![] Cert.FfnFirstReferenceIdeal.Gen.bcast_S_S2x16384x1 (constant Cert.FfnFirstReferenceIdeal.S_ .f32 b)

/-- The product with a widening weight. -/
abbrev widened (x : Tokens) (w : Widen) : Hidden :=
  Host.dotGeneral Cert.FfnFirstReferenceIdeal.dot_S2x16384x2048_S2048x5504_S2x16384x5504_2_0_01_1_n_n none x w

/-- The gated hidden layer. -/
abbrev hidden (x : Tokens) (wg wu : Widen) : Hidden :=
  mulf (mulf (widened x wg) (Host.divf (spread 0x3F800000#32) (addf (spread 0x3F800000#32) (Host.exp (Host.negf (widened x wg)))))) (widened x wu)

/-- The feed-forward product. -/
abbrev ffn (x : Tokens) (wg wu : Widen) (wd : Narrow) : Tokens :=
  Host.dotGeneral Cert.FfnFirstReferenceIdeal.dot_S2x16384x5504_S5504x2048_S2x16384x2048_2_0_01_1_n_n none (hidden x wg wu) wd

/-- The residual times the square root of two, plus half the feed-forward product. -/
abbrev residual (x : Tokens) (wg wu : Widen) (wd : Narrow) : Tokens :=
  addf (mulf (spreadTokens 0x3FB504F3#32) x) (mulf (spreadTokens 0x3F000000#32) (ffn x wg wu wd))

/-- A column repeated along the rows. -/
abbrev along (v : FVec Ideal Cert.FfnFirstReferenceIdeal.S2x16384x1 .f32) : Tokens :=
  broadcastInDim Cert.FfnFirstReferenceIdeal.S2x16384x2048 ![0, 1, 2] Cert.FfnFirstReferenceIdeal.Gen.bcast_S2x16384x1_S2x16384x2048_0_1_2 v

/-- Each row's mean, as a column. -/
abbrev rowMean (y : Tokens) : FVec Ideal Cert.FfnFirstReferenceIdeal.S2x16384x1 .f32 :=
  Host.divf (broadcastInDim Cert.FfnFirstReferenceIdeal.S2x16384x1 ![0, 1] Cert.FfnFirstReferenceIdeal.Gen.bcast_S2x16384_S2x16384x1_0_1
      (Host.reduceAdd y (constant Cert.FfnFirstReferenceIdeal.S_ .f32 0x00000000#32) Cert.FfnFirstReferenceIdeal.Gen.reducesTo_S2x16384x2048_S2x16384_d2 Cert.FfnFirstReferenceIdeal.Gen.h_S_))
    (spreadCol 0x45000000#32)

/-- Each row less its mean. -/
abbrev centred (y : Tokens) : Tokens := subf y (along (rowMean y))

/-- A row vector repeated down the rows. -/
abbrev down_rows (g : RowVec) : Tokens :=
  broadcastInDim Cert.FfnFirstReferenceIdeal.S2x16384x2048 ![0, 1, 2] Cert.FfnFirstReferenceIdeal.Gen.bcast_S1x1x2048_S2x16384x2048_0_1_2
    (broadcastInDim Cert.FfnFirstReferenceIdeal.S1x1x2048 ![2] Cert.FfnFirstReferenceIdeal.Gen.bcast_S2048_S1x1x2048_2 g)

/-- The layer norm over the rows of `y`. -/
abbrev layerNorm (y : Tokens) (g b : RowVec) : Tokens :=
  addf (mulf (mulf (centred y) (along (Host.rsqrt (addf (rowMean (mulf (centred y) (centred y))) (spreadCol 0x3727C5AC#32)))))
    (down_rows g)) (down_rows b)

/-- One product of the feed-forward sum at `p`, by the hidden layer's column. -/
def term (x : Tokens) (wg wu : Widen) (wd : Narrow) (p : Cert.FfnFirstReferenceIdeal.S2x16384x2048.Idx) (k : Fin 5504) : EReal :=
  hidden x wg wu (ix3 (p 0) (p 1) k) * wd (ix2 k (p 2))

theorem term_eq (x : Tokens) (wg wu : Widen) (wd : Narrow) (p : Cert.FfnFirstReferenceIdeal.S2x16384x2048.Idx) (k : Fin 5504) :
    term x wg wu wd p k
      = ((∑ d : Fin 2048, x (ix3 (p 0) (p 1) d) * wg (ix2 d k)) * Ideal.div 1 (1 + Ideal.exp (0 - ∑ d : Fin 2048, x (ix3 (p 0) (p 1) d) * wg (ix2 d k)))
          * ∑ d : Fin 2048, x (ix3 (p 0) (p 1) d) * wu (ix2 d k)) * wd (ix2 k (p 2)) := by
  unfold term
  pointwise [hidden, widened, spread]
  simp only [zero_sub]

theorem product_at (h : Hidden) (wd : Narrow) (p : Cert.FfnFirstReferenceIdeal.S2x16384x2048.Idx) :
    Host.dotGeneral Cert.FfnFirstReferenceIdeal.dot_S2x16384x5504_S5504x2048_S2x16384x2048_2_0_01_1_n_n none h wd p = ∑ k : Fin 5504, h (ix3 (p 0) (p 1) k) * wd (ix2 k (p 2)) := by
  pointwise

theorem ffn_eq (x : Tokens) (wg wu : Widen) (wd : Narrow) (p : Cert.FfnFirstReferenceIdeal.S2x16384x2048.Idx) :
    ffn x wg wu wd p = ∑ k : Fin 5504, term x wg wu wd p k := by
  exact product_at _ wd p

/-- The same by a natural number, zero past the last column. -/
def termAt (x : Tokens) (wg wu : Widen) (wd : Narrow) (p : Cert.FfnFirstReferenceIdeal.S2x16384x2048.Idx) (k : ℕ) : EReal :=
  if h : k < 5504 then term x wg wu wd p ⟨k, h⟩ else 0
theorem termAt_lt (x : Tokens) (wg wu : Widen) (wd : Narrow) (p : Cert.FfnFirstReferenceIdeal.S2x16384x2048.Idx) (k : Fin 5504) :
    termAt x wg wu wd p k.val = term x wg wu wd p k := dif_pos k.isLt

theorem ffn_range (x : Tokens) (wg wu : Widen) (wd : Narrow) (p : Cert.FfnFirstReferenceIdeal.S2x16384x2048.Idx) :
    ffn x wg wu wd p = ∑ k ∈ Finset.range 5504, termAt x wg wu wd p k := by
  rw [ffn_eq, Finset.sum_range]
  exact Finset.sum_congr rfl fun k _ => (termAt_lt ..).symm

/-! ## The blocks -/

/-- Where each window's block lies at point `t`. -/
theorem idx : ∀ t : Fin cfg0.N,
    win0_0.index t = ![t.val / 11, 0] ∧ win0_1.index t = ![0, t.val % 11] ∧ win0_2.index t = ![0, t.val % 11] ∧ win0_3.index t = ![t.val % 11, 0]
      ∧ win0_4.index t = ![0, 0] ∧ win0_5.index t = ![0, 0] ∧ win0_6.index t = ![t.val / 11, 0] ∧ win0_7.index t = ![t.val / 11, 0] ∧ t.val / 11 < 64 :=
  (by decide +kernel : ∀ t : Fin grid0.N, _)

variable (m : (ℓ : Loc nD τ sig) → Buf (Elt Ideal) ℓ)

/-- The tokens, -/
abbrev tokens (c : Dev nD) : Tokens := m ((c : Thread nD τ).loc main_arg0)
/-- the gate weight, -/
abbrev wgate (c : Dev nD) : Widen := m ((c : Thread nD τ).loc main_arg1)
/-- the up weight, -/
abbrev wup (c : Dev nD) : Widen := m ((c : Thread nD τ).loc main_arg2)
/-- and the down weight. -/
abbrev wdown (c : Dev nD) : Narrow := m ((c : Thread nD τ).loc main_arg3)

/-- The token and column at index `y` of point `t`'s rows. -/
def place (t : Fin cfg0.N) (y : S512x2048.Idx) : Cert.FfnFirstReferenceIdeal.S2x16384x2048.Idx :=
  ix3 ⟨(512 * (t.val / 11) + (y 0).val) / 16384, by
      have := (idx t).2.2.2.2.2.2.2.2; have : (y 0).val < 512 := (y 0).isLt; omega⟩
    ⟨(512 * (t.val / 11) + (y 0).val) % 16384, Nat.mod_lt _ (by decide)⟩ (y 1)

theorem place_prev (t : Fin cfg0.N) (h : t.val % 11 ≠ 0) (hp : t.val - 1 < cfg0.N) (y : S512x2048.Idx) :
    place ⟨t.val - 1, hp⟩ y = place t y := by
  have e : (t.val - 1) / 11 = t.val / 11 := by omega
  unfold place
  simp only [e]

/-- The batches' rows one below the other. -/
abbrev stacked (X : Tokens) : FVec Ideal S32768x2048 .f32 := shapeCast S32768x2048 X shapeCasts_S2x16384x2048_S32768x2048

theorem stacked_at (X : Tokens) (r : Fin 32768) (d : Fin 2048) :
    stacked X (ix2 r d) = X (ix3 ⟨r.val / 16384, by have := r.isLt; omega⟩ ⟨r.val % 16384, Nat.mod_lt _ (by decide)⟩ d) := by
  pointwise [stacked]

/-- The rows' block at a point. -/
theorem tokens_at (c : Dev nD) (t : Fin cfg0.N) (y : S512x2048.Idx) : iblk m c 0 t y = tokens m c (place t y) := by
  refine Eq.trans ?_ (stacked_at (tokens m c) ⟨512 * (t.val / 11) + (y 0).val, by
    have := (idx t).2.2.2.2.2.2.2.2; have : (y 0).val < 512 := (y 0).isLt; omega⟩ (y 1))
  blk_point [iblk, V, idx t]

/-- A column of the hidden layer, from the point's block and the column in it. -/
def colOf (t : Fin cfg0.N) (h : t.val % 11 ≠ 10) (q : Fin 512) : Fin 5504 := ⟨512 * (t.val % 11) + q.val, by have := q.isLt; omega⟩
/-- The same in the last block. -/
def colLast (q : Fin 384) : Fin 5504 := ⟨5120 + q.val, by have := q.isLt; omega⟩

theorem gate_moved (c : Dev nD) (t : Fin cfg0.N) (j : S2048x512.Idx) (h : win0_1.moved (grid0.coords t) j = true) (p : Cert.FfnFirstReferenceIdeal.S2048x5504.Idx)
    (h0 : (p 0).val = (j 0).val) (h1 : (p 1).val = 512 * (t.val % 11) + (j 1).val) :
    gate m c t j = wgate m c p := by
  unfold gate Pipeline.Window.fill
  rw [dif_pos h]
  have hp : p = ix2 (p 0) (p 1) := by funext a; match a with | ⟨0, _⟩ => rfl | ⟨1, _⟩ => rfl
  rw [hp]
  blk_point [iblk, V, idx t]
theorem gate_whole (c : Dev nD) (t : Fin cfg0.N) (h : t.val % 11 ≠ 10) (d : Fin 2048) (q : Fin 512) :
    gate m c t (ix2 d q) = wgate m c (ix2 d (colOf t h q)) :=
  gate_moved m c t _ (moved_1 t h _) _ rfl rfl
theorem gate_last (c : Dev nD) (t : Fin cfg0.N) (h : t.val % 11 = 10) (d : Fin 2048) (q : Fin 384) :
    View.ld (gate m c t) cols (ix2 d q) = wgate m c (ix2 d (colLast q)) :=
  gate_moved m c t _ (cols_1 t (ix2 d q)) _ (by show d.val = 0 + 1 * d.val; omega) (by show 5120 + q.val = 512 * (t.val % 11) + (0 + 1 * q.val); omega)

theorem up_moved (c : Dev nD) (t : Fin cfg0.N) (j : S2048x512.Idx) (h : win0_2.moved (grid0.coords t) j = true) (p : Cert.FfnFirstReferenceIdeal.S2048x5504.Idx)
    (h0 : (p 0).val = (j 0).val) (h1 : (p 1).val = 512 * (t.val % 11) + (j 1).val) :
    up m c t j = wup m c p := by
  unfold up Pipeline.Window.fill
  rw [dif_pos h]
  have hp : p = ix2 (p 0) (p 1) := by funext a; match a with | ⟨0, _⟩ => rfl | ⟨1, _⟩ => rfl
  rw [hp]
  blk_point [iblk, V, idx t]
theorem up_whole (c : Dev nD) (t : Fin cfg0.N) (h : t.val % 11 ≠ 10) (d : Fin 2048) (q : Fin 512) :
    up m c t (ix2 d q) = wup m c (ix2 d (colOf t h q)) :=
  up_moved m c t _ (moved_2 t h _) _ rfl rfl
theorem up_last (c : Dev nD) (t : Fin cfg0.N) (h : t.val % 11 = 10) (d : Fin 2048) (q : Fin 384) :
    View.ld (up m c t) cols (ix2 d q) = wup m c (ix2 d (colLast q)) :=
  up_moved m c t _ (cols_2 t (ix2 d q)) _ (by show d.val = 0 + 1 * d.val; omega) (by show 5120 + q.val = 512 * (t.val % 11) + (0 + 1 * q.val); omega)

theorem down_moved (c : Dev nD) (t : Fin cfg0.N) (j : S512x2048.Idx) (h : win0_3.moved (grid0.coords t) j = true) (p : Cert.FfnFirstReferenceIdeal.S5504x2048.Idx)
    (h0 : (p 0).val = 512 * (t.val % 11) + (j 0).val) (h1 : (p 1).val = (j 1).val) :
    down m c t j = wdown m c p := by
  unfold down Pipeline.Window.fill
  rw [dif_pos h]
  have hp : p = ix2 (p 0) (p 1) := by funext a; match a with | ⟨0, _⟩ => rfl | ⟨1, _⟩ => rfl
  rw [hp]
  blk_point [iblk, V, idx t]
theorem down_whole (c : Dev nD) (t : Fin cfg0.N) (h : t.val % 11 ≠ 10) (d : Fin 2048) (q : Fin 512) :
    down m c t (ix2 q d) = wdown m c (ix2 (colOf t h q) d) :=
  down_moved m c t _ (moved_3 t h _) _ rfl rfl
theorem down_last (c : Dev nD) (t : Fin cfg0.N) (h : t.val % 11 = 10) (d : Fin 2048) (q : Fin 384) :
    View.ld (down m c t) rows (ix2 q d) = wdown m c (ix2 (colLast q) d) :=
  down_moved m c t _ (rows_3 t (ix2 q d)) _ (by show 5120 + q.val = 512 * (t.val % 11) + (0 + 1 * q.val); omega) (by show d.val = 0 + 1 * d.val; omega)

/-! ## The accumulator -/

/-- One product at a point's row `a` and column `b`. -/
theorem term_place (x : Tokens) (wg wu : Widen) (wd : Narrow) (t : Fin cfg0.N) (a : Fin 512) (b : Fin 2048) (k : Fin 5504) :
    term x wg wu wd (place t (ix2 a b)) k
      = ((∑ d : Fin 2048, x (place t (ix2 a d)) * wg (ix2 d k)) * Ideal.div 1 (1 + Ideal.exp (0 - ∑ d : Fin 2048, x (place t (ix2 a d)) * wg (ix2 d k)))
          * ∑ d : Fin 2048, x (place t (ix2 a d)) * wu (ix2 d k)) * wd (ix2 k b) :=
  term_eq ..

theorem add_whole (c : Dev nD) (t : Fin cfg0.N) (h : t.val % 11 ≠ 10) (xb : Vec Ideal S512x2048 .bf16) (hx : ∀ y, xb y = tokens m c (place t y))
    (acc : Vec Ideal S512x2048 .f32) (a : Fin 512) (b : Fin 2048) :
    k0_pay3 xb (gate m c t) (up m c t) acc (down m c t) (ix2 a b)
      = acc (ix2 a b) + ∑ q : Fin 512, term (tokens m c) (wgate m c) (wup m c) (wdown m c) (place t (ix2 a b)) (colOf t h q) := by
  simp only [term_place]
  pointwise [k0_pay3]
  simp only [hx, gate_whole m c t h, up_whole m c t h, down_whole m c t h]

theorem add_last (c : Dev nD) (t : Fin cfg0.N) (h : t.val % 11 = 10) (xb : Vec Ideal S512x2048 .bf16) (hx : ∀ y, xb y = tokens m c (place t y))
    (acc : Vec Ideal S512x2048 .f32) (a : Fin 512) (b : Fin 2048) :
    k0_pay6 xb (View.ld (gate m c t) cols) (View.ld (up m c t) cols) acc (View.ld (down m c t) rows) (ix2 a b)
      = acc (ix2 a b) + ∑ q : Fin 384, term (tokens m c) (wgate m c) (wup m c) (wdown m c) (place t (ix2 a b)) (colLast q) := by
  simp only [term_place, ← gate_last m c t h, ← up_last m c t h, ← down_last m c t h]
  generalize View.ld (gate m c t) cols = g
  generalize View.ld (up m c t) cols = u
  generalize View.ld (down m c t) rows = d
  pointwise [k0_pay6]
  simp only [hx]

theorem sum_whole (x : Tokens) (wg wu : Widen) (wd : Narrow) (p : Cert.FfnFirstReferenceIdeal.S2x16384x2048.Idx) (t : Fin cfg0.N) (h : t.val % 11 ≠ 10) :
    ∑ q : Fin 512, term x wg wu wd p (colOf t h q) = ∑ k ∈ Finset.range 512, termAt x wg wu wd p (512 * (t.val % 11) + k) := by
  rw [Finset.sum_range]
  exact Finset.sum_congr rfl fun q _ => (termAt_lt x wg wu wd p (colOf t h q)).symm
theorem sum_last (x : Tokens) (wg wu : Widen) (wd : Narrow) (p : Cert.FfnFirstReferenceIdeal.S2x16384x2048.Idx) :
    ∑ q : Fin 384, term x wg wu wd p (colLast q) = ∑ k ∈ Finset.range 384, termAt x wg wu wd p (5120 + k) := by
  rw [Finset.sum_range]
  exact Finset.sum_congr rfl fun q _ => (termAt_lt x wg wu wd p (colLast q)).symm

theorem narrow_at (x : Vec Ideal S512x2048 .f32) (y : S512x2048.Idx) : k0_pay1 x y = x y := by
  pointwise [k0_pay1]
theorem zero_at (y : S512x2048.Idx) : k0_pay2 (F := Ideal) y = 0 := by
  pointwise [k0_pay2]

/-- How many of the hidden layer's columns the accumulator holds after point `n`. -/
def held (n : ℕ) : ℕ := min (512 * (n % 11 + 1)) 5504

theorem begun_rows (c : Dev nD) (t : Fin cfg0.N) (y : S512x2048.Idx) : k0_pay1 (F := Ideal) (iblk m c 0 t) y = tokens m c (place t y) :=
  (narrow_at _ y).trans (tokens_at m c t y)
theorem begun_sum (c : Dev nD) (t : Fin cfg0.N) (h : t.val % 11 = 0) (h' : t.val % 11 ≠ 10) (a : Fin 512) (b : Fin 2048) :
    k0_pay3 (k0_pay1 (F := Ideal) (iblk m c 0 t)) (gate m c t) (up m c t) (k0_pay2 (F := Ideal)) (down m c t) (ix2 a b)
      = ∑ k ∈ Finset.range (held t.val), termAt (tokens m c) (wgate m c) (wup m c) (wdown m c) (place t (ix2 a b)) k := by
  have e : held t.val = 512 := by unfold held; rw [h]; rfl
  refine (add_whole m c t h' _ (begun_rows m c t) _ a b).trans ?_
  rw [zero_at, zero_add, sum_whole, e]
  refine Finset.sum_congr rfl fun k _ => congrArg _ ?_
  omega
theorem begun_fst (c : Dev nD) (t : Fin cfg0.N) (h : t.val % 11 = 0) : (state m c t.val t.isLt).1 = k0_pay1 (F := Ideal) (iblk m c 0 t) := by
  rw [state_first m c t h, begun]
theorem begun_snd (c : Dev nD) (t : Fin cfg0.N) (h : t.val % 11 = 0) : (state m c t.val t.isLt).2
      = k0_pay3 (k0_pay1 (F := Ideal) (iblk m c 0 t)) (gate m c t) (up m c t) (k0_pay2 (F := Ideal)) (down m c t) := by
  rw [state_first m c t h, begun]
theorem state_begun (c : Dev nD) (t : Fin cfg0.N) (h : t.val % 11 = 0) :
    (∀ y, (state m c t.val t.isLt).1 y = tokens m c (place t y))
      ∧ ∀ a b, (state m c t.val t.isLt).2 (ix2 a b)
          = ∑ k ∈ Finset.range (held t.val), termAt (tokens m c) (wgate m c) (wup m c) (wdown m c) (place t (ix2 a b)) k := by
  have h' : t.val % 11 ≠ 10 := by omega
  refine ⟨fun y => ?_, fun a b => ?_⟩
  · rw [begun_fst m c t h]; exact begun_rows m c t y
  · rw [begun_snd m c t h]; exact begun_sum m c t h h' a b

/-- After every point the first scratch buffer holds the point's rows, and the accumulator the sum over the columns so far. -/
theorem state_eq (c : Dev nD) : ∀ (n : ℕ) (hn : n < cfg0.N),
    (∀ y, (state m c n hn).1 y = tokens m c (place ⟨n, hn⟩ y))
      ∧ ∀ a b, (state m c n hn).2 (ix2 a b)
          = ∑ k ∈ Finset.range (held n), termAt (tokens m c) (wgate m c) (wup m c) (wdown m c) (place ⟨n, hn⟩ (ix2 a b)) k := by
  intro n
  induction n with
  | zero =>
    intro hn
    exact state_begun m c ⟨0, hn⟩ (Nat.zero_mod 11)
  | succ n ih =>
    intro hn
    by_cases h0 : (n + 1) % 11 = 0
    · exact state_begun m c ⟨n + 1, hn⟩ h0
    obtain ⟨ih1, ih2⟩ := ih (Nat.lt_of_succ_lt hn)
    have hp : ∀ y, place ⟨n, Nat.lt_of_succ_lt hn⟩ y = place ⟨n + 1, hn⟩ y := fun y => place_prev ⟨n + 1, hn⟩ h0 _ y
    have e : state m c (n + 1) hn = added m c ⟨n + 1, hn⟩ (state m c n (Nat.lt_of_succ_lt hn)) := state_later m c ⟨n + 1, hn⟩ h0
    have x1 : ∀ y, (state m c n (Nat.lt_of_succ_lt hn)).1 y = tokens m c (place ⟨n + 1, hn⟩ y) := fun y => by rw [ih1, hp]
    have e0 : n % 11 + 1 = (n + 1) % 11 := by omega
    rw [e]
    refine ⟨x1, fun a b => ?_⟩
    unfold added
    by_cases h : (n + 1) % 11 = 10
    · rw [if_pos h]
      dsimp only
      rw [add_last m c ⟨n + 1, hn⟩ h _ x1, ih2, sum_last, hp]
      have e1 : held n = 5120 := by unfold held; rw [e0, h]; rfl
      have e2 : held (n + 1) = 5120 + 384 := by unfold held; rw [h]; rfl
      rw [e1, e2, Finset.sum_range_add]
    · rw [if_neg h]
      dsimp only
      rw [add_whole m c ⟨n + 1, hn⟩ h _ x1, ih2, sum_whole, hp]
      have e1 : held n = 512 * ((n + 1) % 11) := by unfold held; rw [e0]; omega
      have e2 : held (n + 1) = 512 * ((n + 1) % 11) + 512 := by unfold held; omega
      rw [e1, e2, Finset.sum_range_add]

/-! ## The rows stored -/

theorem residual_point (xb acc : Vec Ideal S512x2048 .f32) (x z : Tokens) (y : S512x2048.Idx) (p : Cert.FfnFirstReferenceIdeal.S2x16384x2048.Idx)
    (hx : xb y = x p) (hz : acc y = z p) :
    k0_pay7 xb acc y = addf (mulf (spreadTokens 0x3FB504F3#32) x) (mulf (spreadTokens 0x3F000000#32) z) p := by
  pointwise [k0_pay7, spreadTokens]
  rw [hx, hz]

theorem norm_point (t : Fin cfg0.N) (z : Vec Ideal S512x2048 .f32) (Y : Tokens) (hz : ∀ y, z y = Y (place t y))
    (g4 b5 : Vec Ideal S1x2048 .f32) (g b : RowVec) (hg : ∀ j : Fin 2048, g4 (ix2 0 j) = g (ix1 j)) (hb : ∀ j : Fin 2048, b5 (ix2 0 j) = b (ix1 j))
    (i : Fin 512) (j : Fin 2048) :
    k0_pay4 z g4 b5 (ix2 i j) = layerNorm Y g b (place t (ix2 i j)) := by
  pointwise [k0_pay4, layerNorm, down_rows, centred, rowMean, along, spreadCol]
  simp only [hz, hg, hb]
  rfl

theorem norm_point_narrow (t : Fin cfg0.N) (z : Vec Ideal S512x2048 .f32) (Y : Tokens) (hz : ∀ y, z y = Y (place t y))
    (g4 b5 : Vec Ideal S1x2048 .f32) (g b : RowVec) (hg : ∀ j : Fin 2048, g4 (ix2 0 j) = g (ix1 j)) (hb : ∀ j : Fin 2048, b5 (ix2 0 j) = b (ix1 j))
    (i : Fin 512) (j : Fin 2048) :
    k0_pay5 z g4 b5 (ix2 i j) = layerNorm Y g b (place t (ix2 i j)) := by
  pointwise [k0_pay5, k0_pay4, layerNorm, down_rows, centred, rowMean, along, spreadCol]
  simp only [hz, hg, hb]
  rfl

theorem scale_at (c : Dev nD) (t : Fin cfg0.N) (j : Fin 2048) : iblk m c 4 t (ix2 0 j) = m ((c : Thread nD τ).loc main_arg4) (ix1 j) := by
  refine Eq.trans (b := shapeCast S1x2048 (m ((c : Thread nD τ).loc main_arg4)) shapeCasts_S2048_S1x2048 (ix2 0 j)) ?_ (by pointwise)
  blk_point [iblk, V, idx t]
theorem shift_at (c : Dev nD) (t : Fin cfg0.N) (j : Fin 2048) : iblk m c 5 t (ix2 0 j) = m ((c : Thread nD τ).loc main_arg5) (ix1 j) := by
  refine Eq.trans (b := shapeCast S1x2048 (m ((c : Thread nD τ).loc main_arg5)) shapeCasts_S2048_S1x2048 (ix2 0 j)) ?_ (by pointwise)
  blk_point [iblk, V, idx t]

/-- The layer norm's result, from the argument arrays in `m`. -/
abbrev normed (c : Dev nD) : Tokens :=
  layerNorm (residual (tokens m c) (wgate m c) (wup m c) (wdown m c)) (m ((c : Thread nD τ).loc main_arg4)) (m ((c : Thread nD τ).loc main_arg5))

/-- What enters the layer norm, after the last block. -/
theorem residual_last (c : Dev nD) (t : Fin cfg0.N) (h : t.val % 11 = 10) (y : S512x2048.Idx) :
    k0_pay7 (iblk m c 0 t) (state m c t.val t.isLt).2 y = residual (tokens m c) (wgate m c) (wup m c) (wdown m c) (place t y) := by
  refine residual_point _ _ _ _ y (place t y) (tokens_at m c t y) ?_
  have e : held t.val = 5504 := by unfold held; rw [h]; rfl
  have hy : y = ix2 (y 0) (y 1) := by funext a; match a with | ⟨0, _⟩ => rfl | ⟨1, _⟩ => rfl
  rw [ffn_range, hy, ← e]
  exact (state_eq m c t.val t.isLt).2 _ _

theorem result_last (c : Dev nD) (t : Fin cfg0.N) (h : t.val % 11 = 10) (a : Fin 512) (b : Fin 2048) :
    result m c t (ix2 a b) = normed m c (place t (ix2 a b)) := by
  unfold result
  exact norm_point t _ _ (residual_last m c t h) _ _ _ _ (scale_at m c t) (shift_at m c t) a b

theorem narrowed_last (c : Dev nD) (t : Fin cfg0.N) (h : t.val % 11 = 10) (a : Fin 512) (b : Fin 2048) :
    narrowed m c t (ix2 a b) = normed m c (place t (ix2 a b)) := by
  unfold narrowed
  exact norm_point_narrow t _ _ (residual_last m c t h) _ _ _ _ (scale_at m c t) (shift_at m c t) a b

/-- A stacked array at a point's row. -/
theorem stacked_place (X : Tokens) (t : Fin cfg0.N) (y : S512x2048.Idx) (p : S32768x2048.Idx)
    (h0 : (p 0).val = 512 * (t.val / 11) + (y 0).val) (h1 : (p 1).val = (y 1).val) : stacked X p = X (place t y) := by
  have hp : p = ix2 (p 0) (p 1) := by funext a; match a with | ⟨0, _⟩ => rfl | ⟨1, _⟩ => rfl
  refine (congrArg (stacked X) hp).trans ((stacked_at X (p 0) (p 1)).trans (congrArg X ?_))
  unfold place
  funext a
  match a with
  | ⟨0, _⟩ => exact Fin.ext (congrArg (· / 16384) h0)
  | ⟨1, _⟩ => exact Fin.ext (congrArg (· % 16384) h0)
  | ⟨2, _⟩ => exact Fin.ext h1

/-- What the last block's point stores at index `y` of its rows is the reference's entry there. -/
theorem stored (c : Dev nD) (t : Fin cfg0.N) (h : t.val % 11 = 10) (y : S512x2048.Idx) :
    result m c t y = stacked (normed m c) ((win0_6.blk t).view.emb y) := by
  obtain ⟨i, hi⟩ : ∃ i : S32768x2048.Idx, i = (win0_6.blk t).view.emb y := ⟨_, rfl⟩
  have h0 : (i 0 : ℕ) = 512 * (t.val / 11) + (y 0).val := by rw [hi]; blk_simp [idx t]; try omega
  have h1 : (i 1 : ℕ) = (y 1).val := by rw [hi]; blk_simp [idx t]
  rw [← hi]
  have hy : y = ix2 (y 0) (y 1) := by funext a; match a with | ⟨0, _⟩ => rfl | ⟨1, _⟩ => rfl
  refine Eq.trans ?_ (stacked_place (normed m c) t y i h0 h1).symm
  rw [hy]
  exact result_last m c t h _ _

/-- The result array after the region. -/
theorem final (c : Dev nD) : (dats m 0 c).arrAt 6 cfg0.N = stacked (normed m c) := by
  refine (dats m 0 c).arrAt_eq_of_covers 6 _ (by decide +kernel) fun t hf y => ?_
  have h := (flush0_6 t).mp hf
  blk_simp
  rw [after_6]
  exact stored m c t h y

/-- The same rows, narrowed. -/
abbrev narrowly (X : Tokens) : FVec Ideal S32768x2048 .bf16 := truncf .bf16 (stacked X) bitsLt_bf16_f32

/-- What the last block's point stores narrowed at index `y` of its rows is the reference's entry there. -/
theorem stored_narrowed (c : Dev nD) (t : Fin cfg0.N) (h : t.val % 11 = 10) (y : S512x2048.Idx) :
    narrowed m c t y = narrowly (normed m c) ((win0_7.blk t).view.emb y) := by
  obtain ⟨i, hi⟩ : ∃ i : S32768x2048.Idx, i = (win0_7.blk t).view.emb y := ⟨_, rfl⟩
  have h0 : (i 0 : ℕ) = 512 * (t.val / 11) + (y 0).val := by rw [hi]; blk_simp [idx t]; try omega
  have h1 : (i 1 : ℕ) = (y 1).val := by rw [hi]; blk_simp [idx t]
  rw [← hi]
  have hy : y = ix2 (y 0) (y 1) := by funext a; match a with | ⟨0, _⟩ => rfl | ⟨1, _⟩ => rfl
  refine Eq.trans ?_ (stacked_place (normed m c) t y i h0 h1).symm
  rw [hy]
  exact narrowed_last m c t h _ _

/-- The narrowed result array after the region. -/
theorem final_narrowed (c : Dev nD) : (dats m 0 c).arrAt 7 cfg0.N = narrowly (normed m c) := by
  refine (dats m 0 c).arrAt_eq_of_covers 7 _ (by decide +kernel) fun t hf y => ?_
  have h := (flush0_7 t).mp hf
  blk_simp
  rw [after_7]
  exact stored_narrowed m c t h y

/-- The run's results. -/
theorem results_run (ρ : Dev nD → PrngReg) : θ_run defs (onTc (τ := τ) (main (F := Ideal))) ⟨m, fun _ => 0, ρ⟩ (fun r => ∀ c : Dev nD,
      r.2.mem ((c.tc : Thread nD τ).loc main_v6_0) = stacked (normed m c) ∧ r.2.mem ((c.tc : Thread nD τ).loc main_v6_1) = narrowly (normed m c)) :=
  (θ_run defs _ _).mono (fun _ h c => by
    exact ⟨((h.1 c).1 6).trans (final m c), ((h.1 c).1 7).trans (final_narrowed m c)⟩) (run_main m ρ)

end Cert.FfnFirstProof

end
-- ==== Proof.MergeValue.lean ====
/- The gated merge of the two mixers: the kernel's result array is the reference's term of the same arguments.
   The kernel cuts the rows in 32 blocks of 1024 and the columns in 4 blocks of 512; each block's entry is the reference's entry at the place the block has in the array. -/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise

@[expose] public section

set_option maxRecDepth 16384

noncomputable section

namespace Cert.MergeProof

open Idealize.ShloMosaic Idealize.ShloMosaic.TcCoe Idealize.SL.Sem
open Idealize.ShloMosaic.Pipeline (Dat)
open Cert.MergeIdeal Cert.MergeIdeal.Gen

/-- The two gates side by side, as the reference computes them: the logistic function of `h · w`. -/
abbrev gates (h : FVec Ideal Cert.MergeReferenceIdeal.S32768x2048 .f32) (w : FVec Ideal Cert.MergeReferenceIdeal.S2048x4096 .f32) :
    FVec Ideal Cert.MergeReferenceIdeal.S32768x4096 .f32 :=
  Host.divf (broadcastInDim Cert.MergeReferenceIdeal.S32768x4096 ![] Cert.MergeReferenceIdeal.Gen.bcast_S_S32768x4096 (constant Cert.MergeReferenceIdeal.S_ .f32 0x3F800000#32))
    (addf (broadcastInDim Cert.MergeReferenceIdeal.S32768x4096 ![] Cert.MergeReferenceIdeal.Gen.bcast_S_S32768x4096 (constant Cert.MergeReferenceIdeal.S_ .f32 0x3F800000#32))
      (Host.exp (Host.negf (Host.dotGeneral Cert.MergeReferenceIdeal.dot_S32768x2048_S2048x4096_S32768x4096_1_0_0_1_n_n none h w))))

/-- The reference's merge: each mixer's output through its own projection, times its gate, added and rounded. -/
abbrev merged (h : FVec Ideal Cert.MergeReferenceIdeal.S32768x2048 .f32) (oa ob : FVec Ideal Cert.MergeReferenceIdeal.S32768x1024 .f32)
    (w : FVec Ideal Cert.MergeReferenceIdeal.S2048x4096 .f32) (wa wb : FVec Ideal Cert.MergeReferenceIdeal.S1024x2048 .f32) :
    FVec Ideal Cert.MergeReferenceIdeal.S32768x2048 .bf16 :=
  truncf .bf16 (addf
    (mulf (extractStridedSlice Cert.MergeReferenceIdeal.S32768x2048 ![0, 0] (gates h w) Cert.MergeReferenceIdeal.Gen.slices_S32768x4096_S32768x2048_0_0)
      (Host.dotGeneral Cert.MergeReferenceIdeal.dot_S32768x1024_S1024x2048_S32768x2048_1_0_0_1_n_n none oa wa))
    (mulf (extractStridedSlice Cert.MergeReferenceIdeal.S32768x2048 ![0, 2048] (gates h w) Cert.MergeReferenceIdeal.Gen.slices_S32768x4096_S32768x2048_0_2048)
      (Host.dotGeneral Cert.MergeReferenceIdeal.dot_S32768x1024_S1024x2048_S32768x2048_1_0_0_1_n_n none ob wb)))
    Cert.MergeReferenceIdeal.Gen.bitsLt_bf16_f32

/-- Where each window's block lies at point `t`. -/
theorem idx : ∀ t : Fin cfg0.N,
    win0_0.index t = ![t.val / 4, 0] ∧ win0_1.index t = ![t.val / 4, 0] ∧ win0_2.index t = ![t.val / 4, 0]
      ∧ win0_3.index t = ![0, t.val % 4] ∧ win0_4.index t = ![0, t.val % 4] ∧ win0_5.index t = ![0, t.val % 4]
      ∧ win0_6.index t = ![0, t.val % 4] ∧ win0_7.index t = ![t.val / 4, t.val % 4] ∧ t.val / 4 < 32 :=
  (by decide +kernel : ∀ t : Fin grid0.N, _)

variable (m : (ℓ : Loc nD τ sig) → Buf (Elt Ideal) ℓ)

/-- What the body stores at index `y` of point `t`'s block is the reference's entry there. -/
theorem point (c : Dev nD) (t : Fin cfg0.N) (y : S1024x512.Idx) :
    k0_pay1 (k0_pay3 (iblk m c 0 t) (iblk m c 3 t) (iblk m c 1 t) (iblk m c 5 t))
        (k0_pay4 (iblk m c 0 t) (iblk m c 4 t) (iblk m c 2 t) (iblk m c 6 t)) y
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 7).blk t).view.emb y) := by
  pointwise [k0_pay1, k0_pay2, k0_pay3, k0_pay4, merged, gates]
  simp only [zero_sub]
  blk_point [iblk, V, idx t]

/-- The result, from the argument arrays in `m`. -/
abbrev value (c : Dev nD) :=
  merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))

/-- The result array after the run. -/
theorem final (c : Dev nD) : (dats m 0 c).arrAt 7 cfg0.N
      = value m c := by
  refine (dats m 0 c).arrAt_eq_of_covers 7 _ (by decide +kernel) fun t _ y => ?_
  blk_simp
  rw [after0_7]
  frame_out
  exact point m c t y

end Cert.MergeProof

end
-- ==== Proof.ProjLnValue.lean ====
/- The output projection with its residual and layer norm: the kernel's result array is the reference's term of the same arguments.
   The kernel works on blocks of 512 whole rows. -/
module

public import proofs.«01_k».proof.Proof.Gen.ProjLnIdeal.Value
public import proofs.«01_k».proof.Proof.Gen.ProjLnReferenceIdeal.Run
public import Idealize.ShloMosaic.Lib.Pipeline.ValueKit
public import Idealize.ShloMosaic.Lib.Pointwise

@[expose] public section

set_option maxRecDepth 16384

noncomputable section

namespace Cert.ProjLnProof

open Idealize.ShloMosaic Idealize.ShloMosaic.TcCoe Idealize.SL.Sem
open Idealize.ShloMosaic.Pipeline (Dat)
open Cert.ProjLnIdeal Cert.ProjLnIdeal.Gen

/-- The residual times the square root of two, plus the projection of the merged mixers. -/
abbrev residual (h x : FVec Ideal Cert.ProjLnReferenceIdeal.S32768x2048 .f32) (w : FVec Ideal Cert.ProjLnReferenceIdeal.S2048x2048 .f32) :
    FVec Ideal Cert.ProjLnReferenceIdeal.S32768x2048 .f32 :=
  addf (mulf (broadcastInDim Cert.ProjLnReferenceIdeal.S32768x2048 ![] Cert.ProjLnReferenceIdeal.Gen.bcast_S_S32768x2048 (constant Cert.ProjLnReferenceIdeal.S_ .f32 0x3FB504F3#32)) h)
    (Host.dotGeneral Cert.ProjLnReferenceIdeal.dot_S32768x2048_S2048x2048_S32768x2048_1_0_0_1_n_n none x w)

/-- Each row's mean, as a column. -/
abbrev rowMean (y : FVec Ideal Cert.ProjLnReferenceIdeal.S32768x2048 .f32) : FVec Ideal Cert.ProjLnReferenceIdeal.S32768x1 .f32 :=
  Host.divf (broadcastInDim Cert.ProjLnReferenceIdeal.S32768x1 ![0] Cert.ProjLnReferenceIdeal.Gen.bcast_S32768_S32768x1_0
      (Host.reduceAdd y (constant Cert.ProjLnReferenceIdeal.S_ .f32 0x00000000#32) Cert.ProjLnReferenceIdeal.Gen.reducesTo_S32768x2048_S32768_d1 Cert.ProjLnReferenceIdeal.Gen.h_S_))
    (broadcastInDim Cert.ProjLnReferenceIdeal.S32768x1 ![] Cert.ProjLnReferenceIdeal.Gen.bcast_S_S32768x1 (constant Cert.ProjLnReferenceIdeal.S_ .f32 0x45000000#32))

/-- Each row less its mean. -/
abbrev centred (y : FVec Ideal Cert.ProjLnReferenceIdeal.S32768x2048 .f32) : FVec Ideal Cert.ProjLnReferenceIdeal.S32768x2048 .f32 :=
  subf y (broadcastInDim Cert.ProjLnReferenceIdeal.S32768x2048 ![0, 1] Cert.ProjLnReferenceIdeal.Gen.bcast_S32768x1_S32768x2048_0_1 (rowMean y))

/-- A row vector repeated down the rows. -/
abbrev rows (g : FVec Ideal Cert.ProjLnReferenceIdeal.S2048 .f32) : FVec Ideal Cert.ProjLnReferenceIdeal.S32768x2048 .f32 :=
  broadcastInDim Cert.ProjLnReferenceIdeal.S32768x2048 ![0, 1] Cert.ProjLnReferenceIdeal.Gen.bcast_S1x2048_S32768x2048_0_1
    (broadcastInDim Cert.ProjLnReferenceIdeal.S1x2048 ![1] Cert.ProjLnReferenceIdeal.Gen.bcast_S2048_S1x2048_1 g)

/-- The reference's layer norm over the rows of `y`. -/
abbrev layerNorm (y : FVec Ideal Cert.ProjLnReferenceIdeal.S32768x2048 .f32) (g b : FVec Ideal Cert.ProjLnReferenceIdeal.S2048 .f32) :
    FVec Ideal Cert.ProjLnReferenceIdeal.S32768x2048 .f32 :=
  addf (mulf (mulf (centred y)
      (broadcastInDim Cert.ProjLnReferenceIdeal.S32768x2048 ![0, 1] Cert.ProjLnReferenceIdeal.Gen.bcast_S32768x1_S32768x2048_0_1
        (Host.rsqrt (addf (rowMean (mulf (centred y) (centred y)))
          (broadcastInDim Cert.ProjLnReferenceIdeal.S32768x1 ![] Cert.ProjLnReferenceIdeal.Gen.bcast_S_S32768x1 (constant Cert.ProjLnReferenceIdeal.S_ .f32 0x3727C5AC#32))))))
      (rows g)) (rows b)

/-- Where each window's block lies at point `t`. -/
theorem idx : ∀ t : Fin cfg0.N,
    win0_0.index t = ![t.val, 0] ∧ win0_1.index t = ![t.val, 0] ∧ win0_2.index t = ![0, 0] ∧ win0_3.index t = ![0, 0]
      ∧ win0_4.index t = ![0, 0] ∧ win0_5.index t = ![t.val, 0] ∧ t.val < 64 :=
  (by decide +kernel : ∀ t : Fin grid0.N, _)

variable (m : (ℓ : Loc nD τ sig) → Buf (Elt Ideal) ℓ)

/-- What the body stores at index `y` of point `t`'s block is the reference's entry there. -/
theorem point (c : Dev nD) (t : Fin cfg0.N) (y : S512x2048.Idx) :
    k0_pay1 (iblk m c 0 t) (iblk m c 1 t) (iblk m c 2 t) (iblk m c 3 t) (iblk m c 4 t) y
      = layerNorm (residual (m ((c : Thread nD τ).loc main_arg0)) (m ((c : Thread nD τ).loc main_arg1)) (m ((c : Thread nD τ).loc main_arg2)))
          (m ((c : Thread nD τ).loc main_arg3)) (m ((c : Thread nD τ).loc main_arg4)) (((cfg0.win 5).blk t).view.emb y) := by
  pointwise [k0_pay1, layerNorm, rows, centred, rowMean, residual]
  blk_point [iblk, V, idx t]

/-- The result, from the argument arrays in `m`. -/
abbrev value (c : Dev nD) :=
  layerNorm (residual (m ((c : Thread nD τ).loc main_arg0)) (m ((c : Thread nD τ).loc main_arg1)) (m ((c : Thread nD τ).loc main_arg2)))
          (m ((c : Thread nD τ).loc main_arg3)) (m ((c : Thread nD τ).loc main_arg4))

/-- The result array after the run. -/
theorem final (c : Dev nD) : (dats m 0 c).arrAt 5 cfg0.N
      = value m c := by
  refine (dats m 0 c).arrAt_eq_of_covers 5 _ (by decide +kernel) fun t _ y => ?_
  blk_simp
  rw [after0_5]
  frame_out
  exact point m c t y

end Cert.ProjLnProof

end
-- ==== Proof.RetProjValue.lean ====
/- The projection that feeds the retention: the kernel multiplies by the last 4096 columns of the weight alone,
   the reference multiplies by the whole weight and keeps those columns. -/
module

public import proofs.«01_k».proof.Proof.Gen.RetProjIdeal.Value
public import proofs.«01_k».proof.Proof.Gen.RetProjReferenceIdeal.Run
public import Idealize.ShloMosaic.Lib.Pipeline.ValueKit
public import Idealize.ShloMosaic.Lib.Pointwise

@[expose] public section

set_option maxRecDepth 16384

noncomputable section

namespace Cert.RetProjProof

open Idealize.ShloMosaic Idealize.ShloMosaic.TcCoe Idealize.SL.Sem
open Idealize.ShloMosaic.Pipeline (Dat)
open Cert.RetProjIdeal Cert.RetProjIdeal.Gen

/-- The reference's projection: columns 2608 to 6703 of `h · w`, rounded. -/
abbrev projected (h : FVec Ideal Cert.RetProjReferenceIdeal.S32768x2048 .f32) (w : FVec Ideal Cert.RetProjReferenceIdeal.S2048x6704 .f32) :
    FVec Ideal Cert.RetProjReferenceIdeal.S32768x4096 .bf16 :=
  truncf .bf16 (extractStridedSlice Cert.RetProjReferenceIdeal.S32768x4096 ![0, 2608]
    (Host.dotGeneral Cert.RetProjReferenceIdeal.dot_S32768x2048_S2048x6704_S32768x6704_1_0_0_1_n_n none h w)
    Cert.RetProjReferenceIdeal.Gen.slices_S32768x6704_S32768x4096_0_2608) Cert.RetProjReferenceIdeal.Gen.bitsLt_bf16_f32

/-- Where each window's block lies at point `t`. -/
theorem idx : ∀ t : Fin cfg0.N,
    win0_0.index t = ![t.val / 4, 0] ∧ win0_1.index t = ![0, t.val % 4] ∧ win0_2.index t = ![t.val / 4, t.val % 4] ∧ t.val / 4 < 32 :=
  (by decide +kernel : ∀ t : Fin grid0.N, _)

variable (m : (ℓ : Loc nD τ sig) → Buf (Elt Ideal) ℓ)

/-- What the body stores at index `y` of point `t`'s block is the reference's entry there. -/
theorem point (c : Dev nD) (t : Fin cfg0.N) (y : S1024x1024.Idx) :
    k0_pay1 (iblk m c 0 t) (iblk m c 1 t) y
      = projected (m ((c : Thread nD τ).loc main_arg0)) (m ((c : Thread nD τ).loc main_arg1)) (((cfg0.win 2).blk t).view.emb y) := by
  pointwise [k0_pay1, projected]
  blk_point [iblk, V, idx t]

/-- The result, from the argument arrays in `m`. -/
abbrev value (c : Dev nD) :=
  projected (m ((c : Thread nD τ).loc main_arg0)) (m ((c : Thread nD τ).loc main_arg1))

/-- The result array after the run. -/
theorem final (c : Dev nD) : (dats m 0 c).arrAt 2 cfg0.N
      = value m c := by
  refine (dats m 0 c).arrAt_eq_of_covers 2 _ (by decide +kernel) fun t _ y => ?_
  blk_simp
  rw [after0_2]
  frame_out
  exact point m c t y

end Cert.RetProjProof

end
-- ==== Proof.NsaProjRefValue.lean ====
/-
  The reference of the sparse attention's projection, entry by entry: every result is a column of `h · w` at a place of its own.
-/
module

public import proofs.«01_k».proof.Proof.Gen.NsaProjReferenceIdeal.Run
public import Idealize.ShloMosaic.Lib.Pipeline.ValueKit
public import Idealize.ShloMosaic.Lib.Pointwise

@[expose] public section

set_option maxRecDepth 16384

noncomputable section

namespace Cert.NsaProjRefValue

open Idealize.ShloMosaic Idealize.ShloMosaic.TcCoe Idealize.SL.Sem
open Cert.NsaProjReferenceIdeal Cert.NsaProjReferenceIdeal.Gen

variable (h : FVec Ideal S32768x2048 .f32) (w : FVec Ideal S2048x6704 .f32) (e : FVec Ideal S16384x64 .bf16)

/-- The whole projection `h · w`. -/
abbrev whole : FVec Ideal S32768x6704 .f32 :=
  Host.dotGeneral dot_S32768x2048_S2048x6704_S32768x6704_1_0_0_1_n_n none h w

/-- One entry of it: a row of `h` times a column of `w`. -/
def entry (r : Fin 32768) (j : Fin 6704) : EReal := ∑ k : Fin 2048, h (ix2 r k) * w (ix2 k j)

theorem whole_at (r : Fin 32768) (j : Fin 6704) : whole h w (ix2 r j) = entry h w r j := by
  unfold entry
  pointwise [whole]

/-- The queries: scaled, columns of a head one below the other. -/
abbrev queries : FVec Ideal S2x16x64x16384 .bf16 :=
  truncf .bf16 (transpose S2x16x64x16384 [0, 2, 3, 1] (mulf (shapeCast S2x16384x16x64 (extractStridedSlice S32768x1024 ![0, 0] (whole h w) slices_S32768x6704_S32768x1024_0_0) shapeCasts_S32768x1024_S2x16384x16x64) (broadcastInDim S2x16384x16x64 ![] bcast_S_S2x16384x16x64 (constant S_ .f32 0x3E38AA3B#32))) transposes_S2x16384x16x64_S2x16x64x16384_0_2_3_1) bitsLt_bf16_f32

theorem queries_at (b : Fin 2) (n : Fin 16) (d : Fin 64) (s : Fin 16384) :
    queries h w (ix4 b n d s) = entry h w ⟨b * 16384 + s, by omega⟩ ⟨n * 64 + d, by omega⟩ * Scalar.ofBits (F := Ideal) .f32 0x3E38AA3B#32 := by
  unfold entry
  pointwise [queries]

/-- The compressed branch's keys, by rows. -/
abbrev keysC : FVec Ideal S2x4x16384x64 .f32 :=
  transpose S2x4x16384x64 [0, 2, 1, 3] (shapeCast S2x16384x4x64 (extractStridedSlice S32768x256 ![0, 1024] (whole h w) slices_S32768x6704_S32768x256_0_1024) shapeCasts_S32768x256_S2x16384x4x64) transposes_S2x16384x4x64_S2x4x16384x64_0_2_1_3

theorem keysC_at (b : Fin 2) (n : Fin 4) (s : Fin 16384) (d : Fin 64) :
    keysC h w (ix4 b n s d) = entry h w ⟨b * 16384 + s, by omega⟩ ⟨1024 + (n * 64 + d), by omega⟩ := by
  unfold entry
  pointwise [keysC]

/-- The compressed branch's values, by rows. -/
abbrev valsC : FVec Ideal S2x4x16384x64 .f32 :=
  transpose S2x4x16384x64 [0, 2, 1, 3] (shapeCast S2x16384x4x64 (extractStridedSlice S32768x256 ![0, 1280] (whole h w) slices_S32768x6704_S32768x256_0_1280) shapeCasts_S32768x256_S2x16384x4x64) transposes_S2x16384x4x64_S2x4x16384x64_0_2_1_3

theorem valsC_at (b : Fin 2) (n : Fin 4) (s : Fin 16384) (d : Fin 64) :
    valsC h w (ix4 b n s d) = entry h w ⟨b * 16384 + s, by omega⟩ ⟨1280 + (n * 64 + d), by omega⟩ := by
  unfold entry
  pointwise [valsC]

/-- The selected branch's keys, by rows. -/
abbrev keysS : FVec Ideal S2x4x16384x64 .f32 :=
  transpose S2x4x16384x64 [0, 2, 1, 3] (shapeCast S2x16384x4x64 (extractStridedSlice S32768x256 ![0, 1536] (whole h w) slices_S32768x6704_S32768x256_0_1536) shapeCasts_S32768x256_S2x16384x4x64) transposes_S2x16384x4x64_S2x4x16384x64_0_2_1_3

theorem keysS_at (b : Fin 2) (n : Fin 4) (s : Fin 16384) (d : Fin 64) :
    keysS h w (ix4 b n s d) = entry h w ⟨b * 16384 + s, by omega⟩ ⟨1536 + (n * 64 + d), by omega⟩ := by
  unfold entry
  pointwise [keysS]

/-- The window branch's keys, by rows. -/
abbrev keysW : FVec Ideal S2x4x16384x64 .f32 :=
  transpose S2x4x16384x64 [0, 2, 1, 3] (shapeCast S2x16384x4x64 (extractStridedSlice S32768x256 ![0, 2048] (whole h w) slices_S32768x6704_S32768x256_0_2048) shapeCasts_S32768x256_S2x16384x4x64) transposes_S2x16384x4x64_S2x4x16384x64_0_2_1_3

theorem keysW_at (b : Fin 2) (n : Fin 4) (s : Fin 16384) (d : Fin 64) :
    keysW h w (ix4 b n s d) = entry h w ⟨b * 16384 + s, by omega⟩ ⟨2048 + (n * 64 + d), by omega⟩ := by
  unfold entry
  pointwise [keysW]

/-- The selected branch's values, by columns. -/
abbrev valsS : FVec Ideal S2x4x64x16384 .f32 :=
  transpose S2x4x64x16384 [0, 2, 3, 1] (shapeCast S2x16384x4x64 (extractStridedSlice S32768x256 ![0, 1792] (whole h w) slices_S32768x6704_S32768x256_0_1792) shapeCasts_S32768x256_S2x16384x4x64) transposes_S2x16384x4x64_S2x4x64x16384_0_2_3_1

theorem valsS_at (b : Fin 2) (n : Fin 4) (d : Fin 64) (s : Fin 16384) :
    valsS h w (ix4 b n d s) = entry h w ⟨b * 16384 + s, by omega⟩ ⟨1792 + (n * 64 + d), by omega⟩ := by
  unfold entry
  pointwise [valsS]

/-- The window branch's values, by columns. -/
abbrev valsW : FVec Ideal S2x4x64x16384 .f32 :=
  transpose S2x4x64x16384 [0, 2, 3, 1] (shapeCast S2x16384x4x64 (extractStridedSlice S32768x256 ![0, 2304] (whole h w) slices_S32768x6704_S32768x256_0_2304) shapeCasts_S32768x256_S2x16384x4x64) transposes_S2x16384x4x64_S2x4x64x16384_0_2_3_1

theorem valsW_at (b : Fin 2) (n : Fin 4) (d : Fin 64) (s : Fin 16384) :
    valsW h w (ix4 b n d s) = entry h w ⟨b * 16384 + s, by omega⟩ ⟨2304 + (n * 64 + d), by omega⟩ := by
  unfold entry
  pointwise [valsW]

/-- The rows of ones under the values: the first is one, the others are zero. -/
abbrev ones : FVec Ideal S2x4x16x16384 .f32 :=
  broadcastInDim S2x4x16x16384 ![0, 1, 2, 3] bcast_S1x1x16x1_S2x4x16x16384_0_1_2_3 (broadcastInDim S1x1x16x1 ![2] bcast_S16_S1x1x16x1_2 (select (cmpi .eq (iotaInDim S16 32 0) (broadcastInDim S16 ![] bcast_S_S16 (constantI S_ 32 0#32))) (broadcastInDim S16 ![] bcast_S_S16 (constant S_ .f32 0x3F800000#32)) (broadcastInDim S16 ![] bcast_S_S16 (constant S_ .f32 0x00000000#32))))

/-- One row of them. -/
def oneRow (r : Fin 16) : EReal := Scalar.select (IntOp.cmpi CmpIPredicate.eq (BitVec.ofNat 32 (r : ℕ)) 0#32) (1 : EReal) 0

theorem ones_at (b : Fin 2) (n : Fin 4) (r : Fin 16) (s : Fin 16384) : ones (ix4 b n r s) = oneRow r := by
  unfold oneRow
  pointwise [ones]

/-- The selected branch's keys behind the table of block columns. -/
abbrev keyed : FVec Ideal S2x4x16384x128 .bf16 :=
  truncf .bf16 (concatenate S2x4x16384x128 3 [⟨S2x4x16384x64, (broadcastInDim S2x4x16384x64 ![0, 1, 2, 3] bcast_S1x1x16384x64_S2x4x16384x64_0_1_2_3 (extf .f32 (broadcastInDim S1x1x16384x64 ![2, 3] bcast_S16384x64_S1x1x16384x64_2_3 e) bitsLt_bf16_f32))⟩, ⟨S2x4x16384x64, keysS h w⟩] concatenates_S2x4x16384x64_S2x4x16384x64_S2x4x16384x128_d3) bitsLt_bf16_f32

theorem keyed_table (b : Fin 2) (n : Fin 4) (s : Fin 16384) (d : Fin 64) :
    keyed h w e (ix4 b n s ⟨d, by omega⟩) = e (ix2 s d) := by
  pointwise [keyed]

theorem keyed_keys (b : Fin 2) (n : Fin 4) (s : Fin 16384) (d : Fin 64) :
    keyed h w e (ix4 b n s ⟨64 + d, by omega⟩) = entry h w ⟨b * 16384 + s, by omega⟩ ⟨1536 + (n * 64 + d), by omega⟩ := by
  unfold entry
  pointwise [keyed]

/-- The values over the rows of ones. -/
abbrev summedS : FVec Ideal S2x4x80x16384 .bf16 :=
  truncf .bf16 (concatenate S2x4x80x16384 2 [⟨S2x4x64x16384, valsS h w⟩, ⟨S2x4x16x16384, ones⟩] concatenates_S2x4x64x16384_S2x4x16x16384_S2x4x80x16384_d2) bitsLt_bf16_f32

theorem summedS_vals (b : Fin 2) (n : Fin 4) (d : Fin 64) (s : Fin 16384) :
    summedS h w (ix4 b n ⟨d, by omega⟩ s) = entry h w ⟨b * 16384 + s, by omega⟩ ⟨1792 + (n * 64 + d), by omega⟩ := by
  unfold entry
  pointwise [summedS]

theorem summedS_ones (b : Fin 2) (n : Fin 4) (r : Fin 16) (s : Fin 16384) :
    summedS h w (ix4 b n ⟨64 + r, by omega⟩ s) = oneRow r := by
  unfold oneRow
  pointwise [summedS]

/-- The values over the rows of ones. -/
abbrev summedW : FVec Ideal S2x4x80x16384 .bf16 :=
  truncf .bf16 (concatenate S2x4x80x16384 2 [⟨S2x4x64x16384, valsW h w⟩, ⟨S2x4x16x16384, ones⟩] concatenates_S2x4x64x16384_S2x4x16x16384_S2x4x80x16384_d2) bitsLt_bf16_f32

theorem summedW_vals (b : Fin 2) (n : Fin 4) (d : Fin 64) (s : Fin 16384) :
    summedW h w (ix4 b n ⟨d, by omega⟩ s) = entry h w ⟨b * 16384 + s, by omega⟩ ⟨2304 + (n * 64 + d), by omega⟩ := by
  unfold entry
  pointwise [summedW]

theorem summedW_ones (b : Fin 2) (n : Fin 4) (r : Fin 16) (s : Fin 16384) :
    summedW h w (ix4 b n ⟨64 + r, by omega⟩ s) = oneRow r := by
  unfold oneRow
  pointwise [summedW]

/-- The gates of a group, padded from twelve to sixteen, before the logistic function. -/
abbrev padded : FVec Ideal S2x16384x4x16 .f32 :=
  pad S2x16384x4x16 ![0, 0, 0, 0] ![0, 0, 0, 4] ![0, 0, 0, 0] (shapeCast S2x16384x4x12 (extractStridedSlice S32768x48 ![0, 2560] (whole h w) slices_S32768x6704_S32768x48_0_2560) shapeCasts_S32768x48_S2x16384x4x12) (sitofp .f32 (constantI S_ 32 0#32)) pads_S2x16384x4x12_S2x16384x4x16_000_000_000_040 h_S_

theorem padded_at (b : Fin 2) (s : Fin 16384) (n : Fin 4) (r : Fin 16) :
    padded h w (ix4 b s n r)
      = if hr : (r : ℕ) < 12 then entry h w ⟨b * 16384 + s, by omega⟩ ⟨2560 + (n * 12 + r), by omega⟩ else 0 := by
  have z : FloatOps.sitofp (F := Ideal) FTy.f32 0#32 = (0 : EReal) := by
    show (((0#32 : BitVec 32).toInt : ℝ) : EReal) = 0
    simp
  unfold entry
  pointwise [padded]
  rw [z]

/-- The gates: the logistic function, columns of a group one below the other. -/
abbrev gates : FVec Ideal S2x4x16x16384 .f32 :=
  transpose S2x4x16x16384 [0, 2, 3, 1] (Host.divf (broadcastInDim S2x16384x4x16 ![] bcast_S_S2x16384x4x16 (constant S_ .f32 0x3F800000#32)) (addf (broadcastInDim S2x16384x4x16 ![] bcast_S_S2x16384x4x16 (constant S_ .f32 0x3F800000#32)) (Host.exp (Host.negf (padded h w))))) transposes_S2x16384x4x16_S2x4x16x16384_0_2_3_1

/-- The logistic function. -/
def logistic (x : EReal) : EReal := Ideal.div 1 (1 + Ideal.exp (-x))

theorem gates_at (b : Fin 2) (n : Fin 4) (r : Fin 16) (s : Fin 16384) :
    gates h w (ix4 b n r s) = logistic (padded h w (ix4 b s n r)) := by
  unfold logistic
  pointwise [gates, padded]

end Cert.NsaProjRefValue

end
-- ==== Proof.NsaProjRefRun.lean ====
/-
  The reference's run, its results by name.
-/
module

public import proofs.«01_k».proof.Proof.NsaProjRefValue

@[expose] public section

set_option maxRecDepth 16384

noncomputable section

namespace Cert.NsaProjRefValue

open Idealize.ShloMosaic Idealize.ShloMosaic.TcCoe Idealize.SL.Sem
open Cert.NsaProjReferenceIdeal Cert.NsaProjReferenceIdeal.Gen

/-- The reference ends with the named results, its arguments unchanged. -/
theorem results_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = queries (m ((c.tc : Thread nD τ).loc main_arg0)) (m ((c.tc : Thread nD τ).loc main_arg1))
      ∧ r.2.mem ((c.tc : Thread nD τ).loc main_v32) = truncf .bf16 (keysC (m ((c.tc : Thread nD τ).loc main_arg0)) (m ((c.tc : Thread nD τ).loc main_arg1))) bitsLt_bf16_f32
      ∧ r.2.mem ((c.tc : Thread nD τ).loc main_v34) = truncf .bf16 (valsC (m ((c.tc : Thread nD τ).loc main_arg0)) (m ((c.tc : Thread nD τ).loc main_arg1))) bitsLt_bf16_f32
      ∧ r.2.mem ((c.tc : Thread nD τ).loc main_v37) = keyed (m ((c.tc : Thread nD τ).loc main_arg0)) (m ((c.tc : Thread nD τ).loc main_arg1)) (m ((c.tc : Thread nD τ).loc main_arg2))
      ∧ r.2.mem ((c.tc : Thread nD τ).loc main_v41) = summedS (m ((c.tc : Thread nD τ).loc main_arg0)) (m ((c.tc : Thread nD τ).loc main_arg1))
      ∧ r.2.mem ((c.tc : Thread nD τ).loc main_v43) = truncf .bf16 (keysW (m ((c.tc : Thread nD τ).loc main_arg0)) (m ((c.tc : Thread nD τ).loc main_arg1))) bitsLt_bf16_f32
      ∧ r.2.mem ((c.tc : Thread nD τ).loc main_v47) = summedW (m ((c.tc : Thread nD τ).loc main_arg0)) (m ((c.tc : Thread nD τ).loc main_arg1))
      ∧ r.2.mem ((c.tc : Thread nD τ).loc main_v54) = gates (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2⟩)
    (Cert.NsaProjReferenceIdeal.Value.run (F := Ideal) m ρ)

end Cert.NsaProjRefValue

end
-- ==== Proof.NsaProjValue.lean ====
/-
  The sparse attention's projection: queries, keys, values and gates, each in the layout its call reads.
-/
module

public import proofs.«01_k».proof.Proof.Gen.NsaProj.Frame
public import proofs.«01_k».proof.Proof.Gen.NsaProjIdeal.Value
public import proofs.«01_k».proof.Proof.NsaProjRefValue

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

/-- Where each window's block lies at point `t`. -/
theorem idx : ∀ t : Fin cfg0.N,
    win0_0.index t = ![t.val, 0] ∧ win0_1.index t = ![0, 0] ∧ win0_2.index t = ![0, 0] ∧ win0_3.index t = ![0, 0]
      ∧ win0_4.index t = ![t.val % 32, 0] ∧ win0_5.index t = ![t.val / 32, 0, 0, t.val % 32] ∧ win0_6.index t = ![t.val / 32, 0, t.val % 32, 0]
      ∧ win0_7.index t = ![t.val / 32, 0, t.val % 32, 0] ∧ win0_8.index t = ![t.val / 32, 0, t.val % 32, 0]
      ∧ win0_9.index t = ![t.val / 32, 0, 0, t.val % 32] ∧ win0_10.index t = ![t.val / 32, 0, t.val % 32, 0]
      ∧ win0_11.index t = ![t.val / 32, 0, 0, t.val % 32] ∧ win0_12.index t = ![t.val / 32, 0, 0, t.val % 32] ∧ t.val < 64 :=
  (by decide +kernel : ∀ t : Fin grid0.N, _)

/-! The body's three products, at any blocks. -/

theorem queries_at (X : Vec Ideal S512x2048 .bf16) (W : Vec Ideal S2048x1024 .bf16) (i : Fin 512) (j : Fin 1024) :
    k0_pay9 (k0_pay3 X) W (ix2 i j) = (∑ k : Fin 2048, X (ix2 i k) * W (ix2 k j)) * Scalar.ofBits (F := Ideal) .f32 0x3E38AA3B#32 := by
  pointwise [k0_pay9, k0_pay3]

theorem keys_at (X : Vec Ideal S512x2048 .bf16) (W : Vec Ideal S2048x1536 .bf16) (i : Fin 512) (j : Fin 1536) :
    k0_pay37 (k0_pay3 X) (k0_pay36 W) (ix2 i j) = ∑ k : Fin 2048, X (ix2 i k) * W (ix2 k j) := by
  pointwise [k0_pay37, k0_pay36, k0_pay3]

theorem gates_at (X : Vec Ideal S512x2048 .bf16) (W : Vec Ideal S2048x128 .bf16) (j : Fin 128) (i : Fin 512) :
    k0_pay4 X W (ix2 j i) = Cert.NsaProjRefValue.logistic (∑ k : Fin 2048, X (ix2 i k) * W (ix2 k j)) := by
  unfold Cert.NsaProjRefValue.logistic
  pointwise [k0_pay4, k0_pay3]
  rw [zero_sub]

theorem ones_at (r : Fin 16) (i : Fin 512) : k0_pay38 (F := Ideal) (ix2 r i) = oneRow r := by
  unfold oneRow
  pointwise [k0_pay38]

variable (m : (ℓ : Loc nD τ sig) → Buf (Elt Ideal) ℓ) (c : Dev nD)

/-- The arguments. -/
abbrev argH : FVec Ideal S32768x2048 .f32 := m ((c : Thread nD τ).loc main_arg0)
abbrev argW : FVec Ideal S2048x6704 .f32 := m ((c : Thread nD τ).loc main_arg1)
abbrev argE : FVec Ideal S16384x64 .bf16 := m ((c : Thread nD τ).loc main_arg2)

theorem blk0_at (t : Fin cfg0.N) (i : Fin 512) (k : Fin 2048) :
    iblk m c 0 t (ix2 i k) = argH m c (ix2 ⟨t.val * 512 + i, by have := (idx t).2.2.2.2.2.2.2.2.2.2.2.2.2; omega⟩ k) := by
  have e : V m c main_v10 = truncf .bf16 (argH m c) bitsLt_bf16_f32 := by
    show after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil, List.cons_append,
      List.nil_append, TRef.binary, TRef.unary, TRef.toBuf, TRef.ofBuf, cast_eq]
    after_results
  trans V m c main_v10 (ix2 ⟨t.val * 512 + i, by have := (idx t).2.2.2.2.2.2.2.2.2.2.2.2.2; omega⟩ k)
  · blk_ext [iblk, idx t]
  · rw [e]; rfl

theorem blk1_at (t : Fin cfg0.N) (k : Fin 2048) (j : Fin 1024) :
    iblk m c 1 t (ix2 k j) = argW m c (ix2 k ⟨j, by omega⟩) := by
  have e : V m c main_v1 = truncf .bf16 (extractStridedSlice S2048x1024 ![0, 0] (argW m c) slices_S2048x6704_S2048x1024_0_0) bitsLt_bf16_f32 := by
    show after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil, List.cons_append,
      List.nil_append, TRef.binary, TRef.unary, TRef.toBuf, TRef.ofBuf, cast_eq]
    after_results
  trans V m c main_v1 (ix2 k j)
  · blk_ext [iblk, idx t]
  · rw [e]; pointwise; blk_ext []

theorem blk2_at (t : Fin cfg0.N) (k : Fin 2048) (j : Fin 1536) :
    iblk m c 2 t (ix2 k j) = argW m c (ix2 k ⟨1024 + j, by omega⟩) := by
  have e : V m c main_v3 = truncf .bf16 (extractStridedSlice S2048x1536 ![0, 1024] (argW m c) slices_S2048x6704_S2048x1536_0_1024) bitsLt_bf16_f32 := by
    show after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil, List.cons_append,
      List.nil_append, TRef.binary, TRef.unary, TRef.toBuf, TRef.ofBuf, cast_eq]
    after_results
  trans V m c main_v3 (ix2 k j)
  · blk_ext [iblk, idx t]
  · rw [e]; pointwise; blk_ext []

/-- The gate's columns: twelve of each group, then zeros. -/
theorem blk3_at (t : Fin cfg0.N) (k : Fin 2048) (n : Fin 4) (r : Fin 16) :
    iblk m c 3 t (ix2 k ⟨n * 16 + r, by omega⟩)
      = if hr : (r : ℕ) < 12 then argW m c (ix2 k ⟨2560 + (n * 12 + r), by omega⟩) else 0 := by
  have e : V m c main_v9 = truncf .bf16 (pad S2048x128 ![0, 0] ![0, 64] ![0, 0] (shapeCast S2048x64 (pad S2048x4x16 ![0, 0, 0] ![0, 0, 4] ![0, 0, 0]
      (shapeCast S2048x4x12 (extractStridedSlice S2048x48 ![0, 2560] (argW m c) slices_S2048x6704_S2048x48_0_2560) shapeCasts_S2048x48_S2048x4x12)
      (sitofp .f32 (constantI S_ 32 0#32)) pads_S2048x4x12_S2048x4x16_000_000_040 h_S_) shapeCasts_S2048x4x16_S2048x64)
      (sitofp .f32 (constantI S_ 32 0#32)) pads_S2048x64_S2048x128_000_0640 h_S_) bitsLt_bf16_f32 := by
    show after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil, List.cons_append,
      List.nil_append, TRef.binary, TRef.unary, TRef.toBuf, TRef.ofBuf, cast_eq]
    after_results
    rfl
  trans V m c main_v9 (ix2 k ⟨n * 16 + r, by omega⟩)
  · blk_ext [iblk, idx t]
  · have z : FloatOps.sitofp (F := Ideal) FTy.f32 0#32 = (0 : EReal) := by
      show (((0#32 : BitVec 32).toInt : ℝ) : EReal) = 0
      simp
    rw [e]
    pointwise
    rw [z, dif_pos (by omega : (n : ℕ) * 16 + r < 64)]

theorem gate_at (t : Fin cfg0.N) (k : Fin 2048) (j : Fin 128) (n : Fin 4) (r : Fin 16) (hj : (j : ℕ) = n * 16 + r) :
    iblk m c 3 t (ix2 k j) = if hr : (r : ℕ) < 12 then argW m c (ix2 k ⟨2560 + (n * 12 + r), by omega⟩) else 0 := by
  have e : j = ⟨n * 16 + r, by omega⟩ := Fin.ext hj
  exact (congrArg (fun j => iblk m c 3 t (ix2 k j)) e).trans (blk3_at m c t k n r)

theorem blk4_at (t : Fin cfg0.N) (i : Fin 512) (k : Fin 64) :
    iblk m c 4 t (ix2 i k) = argE m c (ix2 ⟨t.val % 32 * 512 + i, by omega⟩ k) := by
  trans V m c main_arg2 (ix2 ⟨t.val % 32 * 512 + i, by omega⟩ k)
  · blk_ext [iblk, idx t]
  · rfl

/-- The blocks of the body's operands at point `t`. -/
abbrev blkX (t : Fin cfg0.N) : Vec Ideal S512x2048 .bf16 := iblk m c 0 t
abbrev blkQ (t : Fin cfg0.N) : Vec Ideal S2048x1024 .bf16 := iblk m c 1 t
abbrev blkK (t : Fin cfg0.N) : Vec Ideal S2048x1536 .bf16 := iblk m c 2 t
abbrev blkG (t : Fin cfg0.N) : Vec Ideal S2048x128 .bf16 := iblk m c 3 t

/-- A row of the block times a column of the queries' weights, in the arguments. -/
theorem queries_sum (t : Fin cfg0.N) (i : Fin 512) (j : Fin 1024) (r : Fin 32768) (q : Fin 6704) (hr : (r : ℕ) = t.val * 512 + i) (hq : (q : ℕ) = j) :
    ∑ k : Fin 2048, blkX m c t (ix2 i k) * blkQ m c t (ix2 k j) = ∑ k : Fin 2048, argH m c (ix2 r k) * argW m c (ix2 k q) := by
  obtain ⟨r, hr'⟩ := r
  obtain ⟨q, hq'⟩ := q
  dsimp only at hr hq
  subst hr hq
  exact Finset.sum_congr rfl fun k _ => congrArg₂ (fun a b : EReal => a * b) (blk0_at m c t i k) (blk1_at m c t k j)

/-- A row of the block times a column of the keys' and values' weights, in the arguments. -/
theorem keys_sum (t : Fin cfg0.N) (i : Fin 512) (j : Fin 1536) (r : Fin 32768) (q : Fin 6704) (hr : (r : ℕ) = t.val * 512 + i) (hq : (q : ℕ) = 1024 + j) :
    ∑ k : Fin 2048, blkX m c t (ix2 i k) * blkK m c t (ix2 k j) = ∑ k : Fin 2048, argH m c (ix2 r k) * argW m c (ix2 k q) := by
  obtain ⟨r, hr'⟩ := r
  obtain ⟨q, hq'⟩ := q
  dsimp only at hr hq
  subst hr hq
  exact Finset.sum_congr rfl fun k _ => congrArg₂ (fun a b : EReal => a * b) (blk0_at m c t i k) (blk2_at m c t k j)

/-- A row of the block times one of a gate's columns, in the arguments. -/
theorem gate_sum (t : Fin cfg0.N) (i : Fin 512) (j : Fin 128) (n : Fin 4) (g : Fin 16) (hj : (j : ℕ) = n * 16 + g) (r : Fin 32768) (hr : (r : ℕ) = t.val * 512 + i) :
    ∑ k : Fin 2048, blkX m c t (ix2 i k) * blkG m c t (ix2 k j)
      = if hg : (g : ℕ) < 12 then ∑ k : Fin 2048, argH m c (ix2 r k) * argW m c (ix2 k ⟨2560 + (n * 12 + g), by omega⟩) else 0 := by
  obtain ⟨r, hr'⟩ := r
  dsimp only at hr
  subst hr
  split
  · rename_i hg
    exact Finset.sum_congr rfl fun k _ => congrArg₂ (fun a b : EReal => a * b) (blk0_at m c t i k) ((gate_at m c t k j n g hj).trans (dif_pos hg))
  · rename_i hg
    exact Finset.sum_eq_zero fun k _ => (congrArg (fun b : EReal => blkX m c t (ix2 i k) * b) ((gate_at m c t k j n g hj).trans (dif_neg hg))).trans (mul_zero _)

end Cert.NsaProjProof

end
-- ==== Proof.NsaProjQueries.lean ====
/-
  The sparse attention's projection, continued: the queries.
-/
module

public import proofs.«01_k».proof.Proof.NsaProjValue

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

variable (m : (ℓ : Loc nD τ sig) → Buf (Elt Ideal) ℓ) (c : Dev nD)

set_option maxHeartbeats 16000000 in
/-- The result array of the queries after the run. -/
theorem final5 : (dats m 0 c).arrAt 5 cfg0.N
      = Cert.NsaProjRefValue.queries (argH m c) (argW m c) := by
  refine (dats m 0 c).arrAt_eq_of_covers 5 _ (by decide +kernel) fun t _ y => ?_
  blk_simp
  rw [after0_5]
  unfold outsAt0
  dsimp only
  frame_out
  have e0 : ((((View.whole main_v11_0).slice (win0_5.rect t)).emb y 0 : Fin _) : ℕ) = t.val / 32 + y 0 := by
    blk_simp [idx t]
  have e1 : ((((View.whole main_v11_0).slice (win0_5.rect t)).emb y 1 : Fin _) : ℕ) = y 1 := by
    blk_simp [idx t]
  have e2 : ((((View.whole main_v11_0).slice (win0_5.rect t)).emb y 2 : Fin _) : ℕ) = y 2 := by
    blk_simp [idx t]
  have e3 : ((((View.whole main_v11_0).slice (win0_5.rect t)).emb y 3 : Fin _) : ℕ) = t.val % 32 * 512 + y 3 := by
    blk_simp [idx t]
  canon_tiles x h
  all_goals
    open_payloads
    pointwise
    exact congrArg (fun a : EReal => a * _) (queries_sum m c t _ _ _ _ (by dsimp only; omega) (by dsimp only; omega))

end Cert.NsaProjProof

end
-- ==== Proof.NsaProjKeys.lean ====
/-
  The sparse attention's projection, continued: the results that hold keys or values by rows.
-/
module

public import proofs.«01_k».proof.Proof.NsaProjValue

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

variable (m : (ℓ : Loc nD τ sig) → Buf (Elt Ideal) ℓ) (c : Dev nD)

set_option maxHeartbeats 1000000 in
/-- The result array of the compressed branch's keys after the run. -/
theorem final6 : (dats m 0 c).arrAt 6 cfg0.N
      = truncf .bf16 (Cert.NsaProjRefValue.keysC (argH m c) (argW m c)) bitsLt_bf16_f32 := by
  refine (dats m 0 c).arrAt_eq_of_covers 6 _ (by decide +kernel) fun t _ y => ?_
  blk_simp
  rw [after0_6]
  frame_out
  have e0 : ((((View.whole main_v11_1).slice (win0_6.rect t)).emb y 0 : Fin _) : ℕ) = t.val / 32 + y 0 := by
    blk_simp [idx t]
  have e1 : ((((View.whole main_v11_1).slice (win0_6.rect t)).emb y 1 : Fin _) : ℕ) = y 1 := by
    blk_simp [idx t]
  have e2 : ((((View.whole main_v11_1).slice (win0_6.rect t)).emb y 2 : Fin _) : ℕ) = t.val % 32 * 512 + y 2 := by
    blk_simp [idx t]
  have e3 : ((((View.whole main_v11_1).slice (win0_6.rect t)).emb y 3 : Fin _) : ℕ) = y 3 := by
    blk_simp [idx t]
  canon_tiles x h
  all_goals
    open_payloads
    pointwise
    exact keys_sum m c t _ _ _ _ (by dsimp only; omega) (by dsimp only; omega)

set_option maxHeartbeats 1000000 in
/-- The result array of the compressed branch's values after the run. -/
theorem final7 : (dats m 0 c).arrAt 7 cfg0.N
      = truncf .bf16 (Cert.NsaProjRefValue.valsC (argH m c) (argW m c)) bitsLt_bf16_f32 := by
  refine (dats m 0 c).arrAt_eq_of_covers 7 _ (by decide +kernel) fun t _ y => ?_
  blk_simp
  rw [after0_7]
  frame_out
  have e0 : ((((View.whole main_v11_2).slice (win0_7.rect t)).emb y 0 : Fin _) : ℕ) = t.val / 32 + y 0 := by
    blk_simp [idx t]
  have e1 : ((((View.whole main_v11_2).slice (win0_7.rect t)).emb y 1 : Fin _) : ℕ) = y 1 := by
    blk_simp [idx t]
  have e2 : ((((View.whole main_v11_2).slice (win0_7.rect t)).emb y 2 : Fin _) : ℕ) = t.val % 32 * 512 + y 2 := by
    blk_simp [idx t]
  have e3 : ((((View.whole main_v11_2).slice (win0_7.rect t)).emb y 3 : Fin _) : ℕ) = y 3 := by
    blk_simp [idx t]
  canon_tiles x h
  all_goals
    open_payloads
    pointwise
    exact keys_sum m c t _ _ _ _ (by dsimp only; omega) (by dsimp only; omega)

set_option maxHeartbeats 1000000 in
/-- The result array of the window branch's keys after the run. -/
theorem final10 : (dats m 0 c).arrAt 10 cfg0.N
      = truncf .bf16 (Cert.NsaProjRefValue.keysW (argH m c) (argW m c)) bitsLt_bf16_f32 := by
  refine (dats m 0 c).arrAt_eq_of_covers 10 _ (by decide +kernel) fun t _ y => ?_
  blk_simp
  rw [after0_10]
  frame_out
  have e0 : ((((View.whole main_v11_5).slice (win0_10.rect t)).emb y 0 : Fin _) : ℕ) = t.val / 32 + y 0 := by
    blk_simp [idx t]
  have e1 : ((((View.whole main_v11_5).slice (win0_10.rect t)).emb y 1 : Fin _) : ℕ) = y 1 := by
    blk_simp [idx t]
  have e2 : ((((View.whole main_v11_5).slice (win0_10.rect t)).emb y 2 : Fin _) : ℕ) = t.val % 32 * 512 + y 2 := by
    blk_simp [idx t]
  have e3 : ((((View.whole main_v11_5).slice (win0_10.rect t)).emb y 3 : Fin _) : ℕ) = y 3 := by
    blk_simp [idx t]
  canon_tiles x h
  all_goals
    open_payloads
    pointwise
    exact keys_sum m c t _ _ _ _ (by dsimp only; omega) (by dsimp only; omega)

end Cert.NsaProjProof

end
-- ==== Proof.NsaProjKeyed.lean ====
/-
  The sparse attention's projection, continued: the selected branch's keys behind the table of block columns.
-/
module

public import proofs.«01_k».proof.Proof.NsaProjValue

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

variable (m : (ℓ : Loc nD τ sig) → Buf (Elt Ideal) ℓ) (c : Dev nD)

set_option maxHeartbeats 8000000 in
/-- The result array of the selected branch's keys after the run. -/
theorem final8 : (dats m 0 c).arrAt 8 cfg0.N
      = Cert.NsaProjRefValue.keyed (argH m c) (argW m c) (argE m c) := by
  refine (dats m 0 c).arrAt_eq_of_covers 8 _ (by decide +kernel) fun t _ y => ?_
  blk_simp
  rw [after0_8]
  frame_out
  have e0 : ((((View.whole main_v11_3).slice (win0_8.rect t)).emb y 0 : Fin _) : ℕ) = t.val / 32 + y 0 := by
    blk_simp [idx t]
  have e1 : ((((View.whole main_v11_3).slice (win0_8.rect t)).emb y 1 : Fin _) : ℕ) = y 1 := by
    blk_simp [idx t]
  have e2 : ((((View.whole main_v11_3).slice (win0_8.rect t)).emb y 2 : Fin _) : ℕ) = t.val % 32 * 512 + y 2 := by
    blk_simp [idx t]
  have e3 : ((((View.whole main_v11_3).slice (win0_8.rect t)).emb y 3 : Fin _) : ℕ) = y 3 := by
    blk_simp [idx t]
  canon_tiles x h
  all_goals
    open_payloads
    pointwise
    split <;> rename_i hlt <;> rw [e3] at hlt
    all_goals first
      | omega
      | exact (blk4_at m c t _ _).trans (congrArg (argE m c) (congrArg₂ ix2 (Fin.ext (by dsimp only; omega)) (Fin.ext (by dsimp only; omega))))
      | exact keys_sum m c t _ _ _ _ (by dsimp only; omega) (by dsimp only; omega)

end Cert.NsaProjProof

end
-- ==== Proof.NsaProjValsS.lean ====
/-
  The sparse attention's projection, continued: the selected branch's values over the rows of ones.
-/
module

public import proofs.«01_k».proof.Proof.NsaProjValue

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

variable (m : (ℓ : Loc nD τ sig) → Buf (Elt Ideal) ℓ) (c : Dev nD)

set_option maxHeartbeats 8000000 in
/-- The result array of the selected branch's values after the run. -/
theorem final9 : (dats m 0 c).arrAt 9 cfg0.N
      = Cert.NsaProjRefValue.summedS (argH m c) (argW m c) := by
  refine (dats m 0 c).arrAt_eq_of_covers 9 _ (by decide +kernel) fun t _ y => ?_
  blk_simp
  rw [after0_9]
  frame_out
  have e0 : ((((View.whole main_v11_4).slice (win0_9.rect t)).emb y 0 : Fin _) : ℕ) = t.val / 32 + y 0 := by
    blk_simp [idx t]
  have e1 : ((((View.whole main_v11_4).slice (win0_9.rect t)).emb y 1 : Fin _) : ℕ) = y 1 := by
    blk_simp [idx t]
  have e2 : ((((View.whole main_v11_4).slice (win0_9.rect t)).emb y 2 : Fin _) : ℕ) = y 2 := by
    blk_simp [idx t]
  have e3 : ((((View.whole main_v11_4).slice (win0_9.rect t)).emb y 3 : Fin _) : ℕ) = t.val % 32 * 512 + y 3 := by
    blk_simp [idx t]
  canon_tiles x h using (View.cover_of_tiledBy _ ![1, 1, 16, 512] (by sl_kernel_rfl) y)
  all_goals
    open_payloads
    pointwise
    split <;> rename_i hlt <;> rw [e2] at hlt
    all_goals first
      | omega
      | exact keys_sum m c t _ _ _ _ (by dsimp only; omega) (by dsimp only; omega)
      | (have er : (y 2 : ℕ) - 64 = x 2 := by omega
         rw [e2, er])

end Cert.NsaProjProof

end
-- ==== Proof.NsaProjValsW.lean ====
/-
  The sparse attention's projection, continued: the window branch's values over the rows of ones.
-/
module

public import proofs.«01_k».proof.Proof.NsaProjValue

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

variable (m : (ℓ : Loc nD τ sig) → Buf (Elt Ideal) ℓ) (c : Dev nD)

set_option maxHeartbeats 8000000 in
/-- The result array of the window branch's values after the run. -/
theorem final11 : (dats m 0 c).arrAt 11 cfg0.N
      = Cert.NsaProjRefValue.summedW (argH m c) (argW m c) := by
  refine (dats m 0 c).arrAt_eq_of_covers 11 _ (by decide +kernel) fun t _ y => ?_
  blk_simp
  rw [after0_11]
  frame_out
  have e0 : ((((View.whole main_v11_6).slice (win0_11.rect t)).emb y 0 : Fin _) : ℕ) = t.val / 32 + y 0 := by
    blk_simp [idx t]
  have e1 : ((((View.whole main_v11_6).slice (win0_11.rect t)).emb y 1 : Fin _) : ℕ) = y 1 := by
    blk_simp [idx t]
  have e2 : ((((View.whole main_v11_6).slice (win0_11.rect t)).emb y 2 : Fin _) : ℕ) = y 2 := by
    blk_simp [idx t]
  have e3 : ((((View.whole main_v11_6).slice (win0_11.rect t)).emb y 3 : Fin _) : ℕ) = t.val % 32 * 512 + y 3 := by
    blk_simp [idx t]
  canon_tiles x h using (View.cover_of_tiledBy _ ![1, 1, 16, 512] (by sl_kernel_rfl) y)
  all_goals
    open_payloads
    pointwise
    split <;> rename_i hlt <;> rw [e2] at hlt
    all_goals first
      | omega
      | exact keys_sum m c t _ _ _ _ (by dsimp only; omega) (by dsimp only; omega)
      | (have er : (y 2 : ℕ) - 64 = x 2 := by omega
         rw [e2, er])

end Cert.NsaProjProof

end
-- ==== Proof.NsaProjGates.lean ====
/-
  The sparse attention's projection, continued: the gates.
-/
module

public import proofs.«01_k».proof.Proof.NsaProjValue

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

variable (m : (ℓ : Loc nD τ sig) → Buf (Elt Ideal) ℓ) (c : Dev nD)

set_option maxHeartbeats 1000000 in
/-- The result array of the gates after the run. -/
theorem final12 : (dats m 0 c).arrAt 12 cfg0.N
      = Cert.NsaProjRefValue.gates (argH m c) (argW m c) := by
  refine (dats m 0 c).arrAt_eq_of_covers 12 _ (by decide +kernel) fun t _ y => ?_
  blk_simp
  rw [after0_12]
  frame_out
  have z : FloatOps.sitofp (F := Ideal) FTy.f32 0#32 = (0 : EReal) := by
    show (((0#32 : BitVec 32).toInt : ℝ) : EReal) = 0
    simp
  have e0 : ((((View.whole main_v11_7).slice (win0_12.rect t)).emb y 0 : Fin _) : ℕ) = t.val / 32 + y 0 := by
    blk_simp [idx t]
  have e1 : ((((View.whole main_v11_7).slice (win0_12.rect t)).emb y 1 : Fin _) : ℕ) = y 1 := by
    blk_simp [idx t]
  have e2 : ((((View.whole main_v11_7).slice (win0_12.rect t)).emb y 2 : Fin _) : ℕ) = y 2 := by
    blk_simp [idx t]
  have e3 : ((((View.whole main_v11_7).slice (win0_12.rect t)).emb y 3 : Fin _) : ℕ) = t.val % 32 * 512 + y 3 := by
    blk_simp [idx t]
  canon_tiles x h
  all_goals
    open_payloads
    pointwise
    rw [zero_sub]
    refine congrArg (fun a : EReal => Ideal.div 1 (1 + Ideal.exp (-a))) ?_
    refine (gate_sum m c t _ _ ⟨(y 1 : ℕ), by omega⟩ ⟨(y 2 : ℕ), by omega⟩ (by dsimp only; omega) ⟨(t.val * 512 + y 3 : ℕ), by have := (idx t).2.2.2.2.2.2.2.2.2.2.2.2.2; omega⟩ (by dsimp only; omega)).trans ?_
    split <;> rename_i hlt <;> dsimp only at hlt
    · rw [dif_pos (by rw [e2]; exact hlt)]
      refine Finset.sum_congr rfl fun k _ => congrArg₂ (fun a b : EReal => a * b) (congrArg (argH m c) (congrArg₂ ix2 (Fin.ext ?_) rfl)) (congrArg (argW m c) (congrArg₂ ix2 rfl (Fin.ext ?_)))
      · dsimp only; omega
      · dsimp only; omega
    · rw [dif_neg (by rw [e2]; exact hlt)]
      exact z.symm

end Cert.NsaProjProof

end
-- ==== Proof.NsaProjRun.lean ====
/-
  The sparse attention's projection: the kernel's run, its eight results in the reference's terms.
-/
module

public import proofs.«01_k».proof.Proof.NsaProjRefRun
public import proofs.«01_k».proof.Proof.NsaProjQueries
public import proofs.«01_k».proof.Proof.NsaProjKeys
public import proofs.«01_k».proof.Proof.NsaProjKeyed
public import proofs.«01_k».proof.Proof.NsaProjValsS
public import proofs.«01_k».proof.Proof.NsaProjValsW
public import proofs.«01_k».proof.Proof.NsaProjGates

@[expose] public section

set_option maxRecDepth 16384

noncomputable section

namespace Cert.NsaProjProof

open Idealize.ShloMosaic Idealize.ShloMosaic.TcCoe Idealize.SL.Sem Idealize.ShloMosaic.StableHlo
open Idealize.ShloMosaic.Pipeline (Dat)
open Cert.NsaProjIdeal Cert.NsaProjIdeal.Gen
open Cert.NsaProjRefValue (entry oneRow)

variable (m : (ℓ : Loc nD τ sig) → Buf (Elt Ideal) ℓ)

/-- The kernel ends with the reference's results, its arguments unchanged. -/
theorem results_run (ρ : Dev nD → PrngReg) :
    θ_run (defs (F := Ideal)) (onTc (τ := τ) (main (F := Ideal))) ⟨m, fun _ => 0, ρ⟩ fun r => ∀ c : Dev nD,
      r.2.mem ((c : Thread nD τ).loc main_v11_0) = Cert.NsaProjRefValue.queries (argH m c) (argW m c)
      ∧ r.2.mem ((c : Thread nD τ).loc main_v11_1) = truncf .bf16 (Cert.NsaProjRefValue.keysC (argH m c) (argW m c)) bitsLt_bf16_f32
      ∧ r.2.mem ((c : Thread nD τ).loc main_v11_2) = truncf .bf16 (Cert.NsaProjRefValue.valsC (argH m c) (argW m c)) bitsLt_bf16_f32
      ∧ r.2.mem ((c : Thread nD τ).loc main_v11_3) = Cert.NsaProjRefValue.keyed (argH m c) (argW m c) (argE m c)
      ∧ r.2.mem ((c : Thread nD τ).loc main_v11_4) = Cert.NsaProjRefValue.summedS (argH m c) (argW m c)
      ∧ r.2.mem ((c : Thread nD τ).loc main_v11_5) = truncf .bf16 (Cert.NsaProjRefValue.keysW (argH m c) (argW m c)) bitsLt_bf16_f32
      ∧ r.2.mem ((c : Thread nD τ).loc main_v11_6) = Cert.NsaProjRefValue.summedW (argH m c) (argW m c)
      ∧ r.2.mem ((c : Thread nD τ).loc main_v11_7) = Cert.NsaProjRefValue.gates (argH m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final5 m c), (h c).2.1.trans (final6 m c), (h c).2.2.1.trans (final7 m c), (h c).2.2.2.1.trans (final8 m c), (h c).2.2.2.2.1.trans (final9 m c), (h c).2.2.2.2.2.1.trans (final10 m c), (h c).2.2.2.2.2.2.1.trans (final11 m c), (h c).2.2.2.2.2.2.2.1.trans (final12 m c), (h c).2.2.2.2.2.2.2.2⟩)
    (Cert.NsaProjIdeal.Value.run_blocks m ρ)

end Cert.NsaProjProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Value
public import proofs.«01_k».proof.Proof.RetReference
public import proofs.«01_k».proof.Proof.RetValue
public import proofs.«01_k».proof.Proof.Gen.Ffn
public import proofs.«01_k».proof.Proof.Gen.FfnIdeal
public import proofs.«01_k».proof.Proof.Gen.FfnReferenceIdeal
public import proofs.«01_k».proof.Proof.FfnValue
public import proofs.«01_k».proof.Proof.Words
public import proofs.«01_k».proof.Proof.Gen.FfnFirst
public import proofs.«01_k».proof.Proof.Gen.FfnFirstIdeal
public import proofs.«01_k».proof.Proof.Gen.FfnFirstReferenceIdeal
public import proofs.«01_k».proof.Proof.FfnFirstValue
public import proofs.«01_k».proof.Proof.Gen.Merge
public import proofs.«01_k».proof.Proof.Gen.MergeIdeal
public import proofs.«01_k».proof.Proof.Gen.MergeReferenceIdeal
public import proofs.«01_k».proof.Proof.Gen.Merge.Frame
public import proofs.«01_k».proof.Proof.MergeValue
public import proofs.«01_k».proof.Proof.Gen.ProjLn
public import proofs.«01_k».proof.Proof.Gen.ProjLnIdeal
public import proofs.«01_k».proof.Proof.Gen.ProjLnReferenceIdeal
public import proofs.«01_k».proof.Proof.Gen.ProjLn.Frame
public import proofs.«01_k».proof.Proof.ProjLnValue
public import proofs.«01_k».proof.Proof.Gen.RetProj
public import proofs.«01_k».proof.Proof.Gen.RetProjIdeal
public import proofs.«01_k».proof.Proof.Gen.RetProjReferenceIdeal
public import proofs.«01_k».proof.Proof.Gen.RetProj.Frame
public import proofs.«01_k».proof.Proof.RetProjValue
public import proofs.«01_k».proof.Proof.Gen.NsaProj
public import proofs.«01_k».proof.Proof.Gen.NsaProjIdeal
public import proofs.«01_k».proof.Proof.Gen.NsaProjReferenceIdeal
public import proofs.«01_k».proof.Proof.NsaProjRun
public import Idealize.ShloMosaic.Adequacy
public import Idealize.ShloMosaic.Init

@[expose] public section

set_option maxRecDepth 16384

noncomputable section

namespace Cert.Proof

open Idealize.ShloMosaic Idealize.SL.Sem

/-! ## The retention -/

/-- The kernel, on machine words: it ends, its arguments unchanged and every counter at zero. -/
theorem frame_ret : Cert.quiescent_Kernel := fun m g _ => Cert.Kernel.Gen.frame m g

/-- The same on extended reals. -/
theorem frame_ret_ideal : Cert.quiescent_KernelIdeal := fun m g _ => Cert.KernelIdeal.Gen.frame m g

/-- The reference ends, its arguments unchanged; it declares no semaphore. -/
theorem frame_ret_reference : Cert.quiescent_ReferenceIdeal := fun m g _ =>
  (θ_run Cert.ReferenceIdeal.defs _ _).mono (fun r h => ⟨fun c => h c, Idealize.ShloMosaic.sem_eq_zero_of_no_sems (by decide) r.2⟩)
    (Cert.RetReference.frame_run (F := Ideal) m g)

/-- The program on extended reals is the program on words read so: nothing is rewritten. -/
theorem preserves_ret : Cert.preserves_Kernel_KernelIdeal := trivial

/-- Kernel and reference end with the same retained values. -/
theorem algebraic_ret : Cert.algebraic_KernelIdeal_ReferenceIdeal := by
  intro m g m' g' _ hagree
  refine ⟨RetValue.value m, ?_, ?_⟩
  · exact (θ_run Cert.KernelIdeal.defs _ _).mono (fun r h c => ⟨(h c).1.trans (RetValue.final m c), (h c).2⟩) (Cert.KernelIdeal.Value.run_blocks m g)
  · refine (θ_run Cert.ReferenceIdeal.defs _ _).mono (fun r h c => ⟨(h c).1.trans ?_, (h c).2⟩) (Cert.RetRefValue.value_run m' g')
    obtain ⟨h0, h1, h2, h3, h4, h5⟩ := hagree c
    unfold RetValue.value RetRefValue.argQ RetRefValue.argK RetRefValue.argV RetRefValue.argG RetRefValue.argGain RetRefValue.argBias
      RetBlocks.argQ RetBlocks.argK RetBlocks.argV RetBlocks.argG RetBlocks.argGain RetBlocks.argBias
    rw [h0, h1, h2, h3, h4, h5]

/-! ## The second feed-forward call -/

/-- The kernel, on machine words: it ends, its arguments unchanged and every counter at zero. -/
theorem frame_ffn : Cert.quiescent_Ffn := Cert.Words.frame_ffn

/-- The same on extended reals. -/
theorem frame_ffn_ideal : Cert.quiescent_FfnIdeal := fun m g _ => Cert.FfnProof.frame_run m g

/-- The reference ends, its arguments unchanged; it declares no semaphore. -/
theorem frame_ffn_reference : Cert.quiescent_FfnReferenceIdeal := fun m g _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m g)

/-- The program on extended reals is the program on words read so: nothing is rewritten. -/
theorem preserves_ffn : Cert.preserves_Ffn_FfnIdeal := trivial

/-- Kernel and reference end with the same normed tokens. -/
theorem algebraic_ffn : Cert.algebraic_FfnIdeal_FfnReferenceIdeal := by
  intro m g m' g' _ hagree
  refine ⟨FfnProof.normed m, ?_, ?_⟩
  · exact (θ_run Cert.FfnIdeal.defs _ _).mono (fun r h c => ⟨h.1 c, h.2.1 c⟩) (Idealize.ShloMosaic.θ_run_and (FfnProof.result_run m g) (FfnProof.frame_run m g))
  · refine (θ_run Cert.FfnReferenceIdeal.defs _ _).mono (fun r h c => ⟨(h c).1.trans ?_, (h c).2⟩) (Cert.FfnReferenceIdeal.Value.run (F := Ideal) m' g')
    obtain ⟨h0, h1, h2, h3, h4, h5⟩ := hagree c
    unfold Cert.FfnReferenceIdeal.Value.res_main_v33
    rw [h0, h1, h2, h3, h4, h5]

/-! ## The first feed-forward call -/

/-- The kernel, on machine words: it ends, its arguments unchanged and every counter at zero. -/
theorem frame_ffn1 : Cert.quiescent_FfnFirst := Cert.Words.frame_first

/-- The same on extended reals. -/
theorem frame_ffn1_ideal : Cert.quiescent_FfnFirstIdeal := fun m g _ => Cert.FfnFirstProof.frame_run m g

/-- The reference ends, its arguments unchanged; it declares no semaphore. -/
theorem frame_ffn1_reference : Cert.quiescent_FfnFirstReferenceIdeal := fun m g _ =>
  (θ_run Cert.FfnFirstReferenceIdeal.defs _ _).mono (fun r h => ⟨fun c => (h c).2.2, Idealize.ShloMosaic.sem_eq_zero_of_no_sems (by decide) r.2⟩)
    (Cert.FfnFirstReferenceIdeal.Value.run (F := Ideal) m g)

/-- The program on extended reals is the program on words read so: nothing is rewritten. -/
theorem preserves_ffn1 : Cert.preserves_FfnFirst_FfnFirstIdeal := trivial

/-- Kernel and reference end with the same normed tokens, and the same ones narrowed. -/
theorem algebraic_ffn1 : Cert.algebraic_FfnFirstIdeal_FfnFirstReferenceIdeal := by
  intro m g m' g' _ hagree
  refine ⟨fun c => FfnFirstProof.stacked (FfnFirstProof.normed m c), fun c => FfnFirstProof.narrowly (FfnFirstProof.normed m c), ?_, ?_⟩
  · exact (θ_run Cert.FfnFirstIdeal.defs _ _).mono (fun r h c => ⟨(h.1 c).1, (h.1 c).2, h.2.1 c⟩) (Idealize.ShloMosaic.θ_run_and (FfnFirstProof.results_run m g) (FfnFirstProof.frame_run m g))
  · refine (θ_run Cert.FfnFirstReferenceIdeal.defs _ _).mono (fun r h c => ⟨(h c).1.trans ?_, (h c).2.1.trans ?_, (h c).2.2⟩) (Cert.FfnFirstReferenceIdeal.Value.run (F := Ideal) m' g')
    · obtain ⟨h0, h1, h2, h3, h4, h5⟩ := hagree c
      unfold Cert.FfnFirstReferenceIdeal.Value.res_main_v34
      rw [h0, h1, h2, h3, h4, h5]
      rfl
    · obtain ⟨h0, h1, h2, h3, h4, h5⟩ := hagree c
      unfold Cert.FfnFirstReferenceIdeal.Value.res_main_v35
      rw [h0, h1, h2, h3, h4, h5]
      rfl

/-! ## The gated merge -/

/-- The kernel, on machine words: it ends, its arguments unchanged and every counter at zero. -/
theorem frame_merge : Cert.quiescent_Merge := fun m g _ => Cert.Merge.Gen.frame m g

/-- The same on extended reals. -/
theorem frame_merge_ideal : Cert.quiescent_MergeIdeal := fun m g _ => Cert.MergeIdeal.Gen.frame m g

/-- The reference ends, its arguments unchanged; it declares no semaphore. -/
theorem frame_merge_reference : Cert.quiescent_MergeReferenceIdeal := fun m g _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m g)

/-- The program on extended reals is the program on words read so: nothing is rewritten. -/
theorem preserves_merge : Cert.preserves_Merge_MergeIdeal := trivial

/-- Kernel and reference end with the same merged tensor. -/
theorem algebraic_merge : Cert.algebraic_MergeIdeal_MergeReferenceIdeal := by
  intro m g m' g' _ hagree
  refine ⟨MergeProof.value m, ?_, ?_⟩
  · exact (θ_run Cert.MergeIdeal.defs _ _).mono (fun r h c => ⟨(h c).1.trans (MergeProof.final m c), (h c).2⟩) (Cert.MergeIdeal.Value.run_blocks m g)
  · refine (θ_run Cert.MergeReferenceIdeal.defs _ _).mono (fun r h c => ⟨(h c).1.trans ?_, (h c).2⟩) (Cert.MergeReferenceIdeal.Value.run (F := Ideal) m' g')
    obtain ⟨h0, h1, h2, h3, h4, h5⟩ := hagree c
    rw [h0, h1, h2, h3, h4, h5]

/-! ## The output projection with its layer norm -/

/-- The kernel, on machine words: it ends, its arguments unchanged and every counter at zero. -/
theorem frame_projln : Cert.quiescent_ProjLn := fun m g _ => Cert.ProjLn.Gen.frame m g

/-- The same on extended reals. -/
theorem frame_projln_ideal : Cert.quiescent_ProjLnIdeal := fun m g _ => Cert.ProjLnIdeal.Gen.frame m g

/-- The reference ends, its arguments unchanged; it declares no semaphore. -/
theorem frame_projln_reference : Cert.quiescent_ProjLnReferenceIdeal := fun m g _ =>
  (θ_run Cert.ProjLnReferenceIdeal.defs _ _).mono (fun r h => ⟨fun c => (h c).2, Idealize.ShloMosaic.sem_eq_zero_of_no_sems (by decide) r.2⟩)
    (Cert.ProjLnReferenceIdeal.Value.run (F := Ideal) m g)

/-- The program on extended reals is the program on words read so: nothing is rewritten. -/
theorem preserves_projln : Cert.preserves_ProjLn_ProjLnIdeal := trivial

/-- Kernel and reference end with the same normed rows. -/
theorem algebraic_projln : Cert.algebraic_ProjLnIdeal_ProjLnReferenceIdeal := by
  intro m g m' g' _ hagree
  refine ⟨ProjLnProof.value m, ?_, ?_⟩
  · exact (θ_run Cert.ProjLnIdeal.defs _ _).mono (fun r h c => ⟨(h c).1.trans (ProjLnProof.final m c), (h c).2⟩) (Cert.ProjLnIdeal.Value.run_blocks m g)
  · refine (θ_run Cert.ProjLnReferenceIdeal.defs _ _).mono (fun r h c => ⟨(h c).1.trans ?_, (h c).2⟩) (Cert.ProjLnReferenceIdeal.Value.run (F := Ideal) m' g')
    obtain ⟨h0, h1, h2, h3, h4⟩ := hagree c
    rw [h0, h1, h2, h3, h4]

/-! ## The projection that feeds the retention -/

/-- The kernel, on machine words: it ends, its arguments unchanged and every counter at zero. -/
theorem frame_retproj : Cert.quiescent_RetProj := fun m g _ => Cert.RetProj.Gen.frame m g

/-- The same on extended reals. -/
theorem frame_retproj_ideal : Cert.quiescent_RetProjIdeal := fun m g _ => Cert.RetProjIdeal.Gen.frame m g

/-- The reference ends, its arguments unchanged; it declares no semaphore. -/
theorem frame_retproj_reference : Cert.quiescent_RetProjReferenceIdeal := fun m g _ =>
  (θ_run Cert.RetProjReferenceIdeal.defs _ _).mono (fun r h => ⟨fun c => (h c).2, Idealize.ShloMosaic.sem_eq_zero_of_no_sems (by decide) r.2⟩)
    (Cert.RetProjReferenceIdeal.Value.run (F := Ideal) m g)

/-- The program on extended reals is the program on words read so: nothing is rewritten. -/
theorem preserves_retproj : Cert.preserves_RetProj_RetProjIdeal := trivial

/-- Kernel and reference end with the same projected columns. -/
theorem algebraic_retproj : Cert.algebraic_RetProjIdeal_RetProjReferenceIdeal := by
  intro m g m' g' _ hagree
  refine ⟨RetProjProof.value m, ?_, ?_⟩
  · exact (θ_run Cert.RetProjIdeal.defs _ _).mono (fun r h c => ⟨(h c).1.trans (RetProjProof.final m c), (h c).2⟩) (Cert.RetProjIdeal.Value.run_blocks m g)
  · refine (θ_run Cert.RetProjReferenceIdeal.defs _ _).mono (fun r h c => ⟨(h c).1.trans ?_, (h c).2⟩) (Cert.RetProjReferenceIdeal.Value.run (F := Ideal) m' g')
    obtain ⟨h0, h1⟩ := hagree c
    rw [h0, h1]

/-! ## The projection that feeds the sparse attention -/

/-- The kernel, on machine words: it ends, its arguments unchanged and every counter at zero. -/
theorem frame_nsaproj : Cert.quiescent_NsaProj := fun m g _ => Cert.NsaProj.Gen.frame m g

/-- The same on extended reals. -/
theorem frame_nsaproj_ideal : Cert.quiescent_NsaProjIdeal := fun m g _ => Cert.NsaProjIdeal.Gen.frame m g

/-- The reference ends, its arguments unchanged; it declares no semaphore. -/
theorem frame_nsaproj_reference : Cert.quiescent_NsaProjReferenceIdeal := fun m g _ =>
  (θ_run Cert.NsaProjReferenceIdeal.defs _ _).mono (fun r h => ⟨fun c => (h c).2.2.2.2.2.2.2.2, Idealize.ShloMosaic.sem_eq_zero_of_no_sems (by decide) r.2⟩)
    (Cert.NsaProjReferenceIdeal.Value.run (F := Ideal) m g)

/-- The program on extended reals is the program on words read so: nothing is rewritten. -/
theorem preserves_nsaproj : Cert.preserves_NsaProj_NsaProjIdeal := trivial

/-- Kernel and reference end with the same queries, keys, values and gates. -/
theorem algebraic_nsaproj : Cert.algebraic_NsaProjIdeal_NsaProjReferenceIdeal := by
  intro m g m' g' _ hagree
  refine ⟨fun c => NsaProjRefValue.queries (NsaProjProof.argH m c) (NsaProjProof.argW m c),
    fun c => truncf .bf16 (NsaProjRefValue.keysC (NsaProjProof.argH m c) (NsaProjProof.argW m c)) Cert.NsaProjReferenceIdeal.Gen.bitsLt_bf16_f32,
    fun c => truncf .bf16 (NsaProjRefValue.valsC (NsaProjProof.argH m c) (NsaProjProof.argW m c)) Cert.NsaProjReferenceIdeal.Gen.bitsLt_bf16_f32,
    fun c => NsaProjRefValue.keyed (NsaProjProof.argH m c) (NsaProjProof.argW m c) (NsaProjProof.argE m c),
    fun c => NsaProjRefValue.summedS (NsaProjProof.argH m c) (NsaProjProof.argW m c),
    fun c => truncf .bf16 (NsaProjRefValue.keysW (NsaProjProof.argH m c) (NsaProjProof.argW m c)) Cert.NsaProjReferenceIdeal.Gen.bitsLt_bf16_f32,
    fun c => NsaProjRefValue.summedW (NsaProjProof.argH m c) (NsaProjProof.argW m c),
    fun c => NsaProjRefValue.gates (NsaProjProof.argH m c) (NsaProjProof.argW m c), ?_, ?_⟩
  · exact NsaProjProof.results_run m g
  · refine (θ_run Cert.NsaProjReferenceIdeal.defs _ _).mono (fun r h c => ?_) (NsaProjRefValue.results_run m' g')
    obtain ⟨h0, h1, h2⟩ := hagree c
    have hc := h c
    rw [h0, h1, h2] at hc
    exact ⟨hc.1, hc.2.1, hc.2.2.1, hc.2.2.2.1, hc.2.2.2.2.1, hc.2.2.2.2.2.1, hc.2.2.2.2.2.2.1, hc.2.2.2.2.2.2.2.1, (h c).2.2.2.2.2.2.2.2⟩

/-- Everything claimed, together. -/
theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts, Cert.FfnFirst.Gen.facts, Cert.FfnFirstIdeal.Gen.facts, Cert.FfnFirstReferenceIdeal.Gen.facts, Cert.Merge.Gen.facts, Cert.MergeIdeal.Gen.facts, Cert.MergeReferenceIdeal.Gen.facts, Cert.ProjLn.Gen.facts, Cert.ProjLnIdeal.Gen.facts, Cert.ProjLnReferenceIdeal.Gen.facts, Cert.RetProj.Gen.facts, Cert.RetProjIdeal.Gen.facts, Cert.RetProjReferenceIdeal.Gen.facts, Cert.NsaProj.Gen.facts, Cert.NsaProjIdeal.Gen.facts, Cert.NsaProjReferenceIdeal.Gen.facts,
    frame_ret, frame_ret_ideal, frame_ret_reference, frame_ffn, frame_ffn_ideal, frame_ffn_reference, frame_ffn1, frame_ffn1_ideal, frame_ffn1_reference, frame_merge, frame_merge_ideal, frame_merge_reference, frame_projln, frame_projln_ideal, frame_projln_reference, frame_retproj, frame_retproj_ideal, frame_retproj_reference, frame_nsaproj, frame_nsaproj_ideal, frame_nsaproj_reference,
    preserves_ret, algebraic_ret, preserves_ffn, algebraic_ffn, preserves_ffn1, algebraic_ffn1, preserves_merge, algebraic_merge, preserves_projln, algebraic_projln, preserves_retproj, algebraic_retproj, preserves_nsaproj, algebraic_nsaproj⟩

end Cert.Proof

end
